-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_grouped : Cert.Pre_grouped.Facts] (m : (ℓ : Loc Cert.Experts.nD Cert.Experts.τ Cert.Experts.sig) → Buf (Elt Bits) ℓ) : Prop :=
  ∀ c : Dev Cert.Experts.nD,
    (Cert.Pre_grouped.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_grouped : Cert.Pre_grouped.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_grouped.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsReferenceIdeal [hPre_grouped : Cert.Pre_grouped.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_grouped.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Experts [hExperts : Cert.Experts.Facts] [hPre_grouped : Cert.Pre_grouped.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_grouped : Cert.Pre_grouped.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsReferenceIdeal [hExpertsReferenceIdeal : Cert.ExpertsReferenceIdeal.Facts] [hPre_grouped : Cert.Pre_grouped.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2))
      ∧ r.2.sem = fun _ => 0)

def preserves_Kernel_KernelIdeal : Prop :=
  IdealRules.named_const.Statement Cert.KernelIdeal.κ "underflow" .f32 0xC2DC0000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_grouped : Cert.Pre_grouped.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v41) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v0_0)) (v1 : (c : Dev Cert.ProjectionIdeal.nD) → Buf (Elt Ideal) ((c.tc : Thread Cert.ProjectionIdeal.nD Cert.ProjectionIdeal.τ).loc Cert.ProjectionIdeal.main_v0_1)) (v2 : (c : Dev Cert.ProjectionIdeal.nD) → Buf (Elt Ideal) ((c.tc : Thread Cert.ProjectionIdeal.nD Cert.ProjectionIdeal.τ).loc Cert.ProjectionIdeal.main_v0_2)) (v3 : (c : Dev Cert.ProjectionIdeal.nD) → Buf (Elt Ideal) ((c.tc : Thread Cert.ProjectionIdeal.nD Cert.ProjectionIdeal.τ).loc Cert.ProjectionIdeal.main_v0_3)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v0_0) = v0 c
          ∧ r.2.mem ((c.tc : Thread Cert.ProjectionIdeal.nD Cert.ProjectionIdeal.τ).loc Cert.ProjectionIdeal.main_v0_1) = v1 c
          ∧ r.2.mem ((c.tc : Thread Cert.ProjectionIdeal.nD Cert.ProjectionIdeal.τ).loc Cert.ProjectionIdeal.main_v0_2) = v2 c
          ∧ r.2.mem ((c.tc : Thread Cert.ProjectionIdeal.nD Cert.ProjectionIdeal.τ).loc Cert.ProjectionIdeal.main_v0_3) = v3 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v20) = v0 c
          ∧ r.2.mem ((c.tc : Thread Cert.ProjectionReferenceIdeal.nD Cert.ProjectionReferenceIdeal.τ).loc Cert.ProjectionReferenceIdeal.main_v22) = v1 c
          ∧ r.2.mem ((c.tc : Thread Cert.ProjectionReferenceIdeal.nD Cert.ProjectionReferenceIdeal.τ).loc Cert.ProjectionReferenceIdeal.main_v23) = v2 c
          ∧ r.2.mem ((c.tc : Thread Cert.ProjectionReferenceIdeal.nD Cert.ProjectionReferenceIdeal.τ).loc Cert.ProjectionReferenceIdeal.main_v25) = v3 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProjection : Cert.Projection.Facts) (hProjectionIdeal : Cert.ProjectionIdeal.Facts) (hProjectionReferenceIdeal : Cert.ProjectionReferenceIdeal.Facts) (hPre_grouped : Cert.Pre_grouped.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_grouped := hPre_grouped)
    ∧ quiescent_ExpertsIdeal (hExpertsIdeal := hExpertsIdeal) (hPre_grouped := hPre_grouped)
    ∧ quiescent_ExpertsReferenceIdeal (hExpertsReferenceIdeal := hExpertsReferenceIdeal) (hPre_grouped := hPre_grouped)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsReferenceIdeal (hExpertsIdeal := hExpertsIdeal) (hExpertsReferenceIdeal := hExpertsReferenceIdeal) (hPre_grouped := hPre_grouped)
    ∧ preserves_Projection_ProjectionIdeal
    ∧ algebraic_ProjectionIdeal_ProjectionReferenceIdeal (hProjectionIdeal := hProjectionIdeal) (hProjectionReferenceIdeal := hProjectionReferenceIdeal)
-- ==== Pre_grouped.lean ====
abbrev S189 : Shape := ⟨1, ![189]⟩
abbrev S1 : Shape := ⟨1, ![1]⟩
abbrev S96768x1024 : Shape := ⟨2, ![96768, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S189x1 : Shape := ⟨2, ![189, 1]⟩
abbrev S1x189 : Shape := ⟨2, ![1, 189]⟩
abbrev S_ : Shape := ⟨0, ![]⟩
abbrev S189x189 : Shape := ⟨2, ![189, 189]⟩

class Facts : Prop where
  bcast_S189_S189x1_0 : S189.BroadcastsInDim S189x1 (![0] : Fin 1 → Fin S189x1.rank)
  bcast_S189_S1x189_1 : S189.BroadcastsInDim S1x189 (![1] : Fin 1 → Fin S1x189.rank)
  bcast_S_S1x189 : S_.BroadcastsInDim S1x189 (![] : Fin 0 → Fin S1x189.rank)
  bcast_S189x1_S189x189_0_1 : S189x1.BroadcastsInDim S189x189 (![0, 1] : Fin 2 → Fin S189x189.rank)
  bcast_S1x189_S189x189_0_1 : S1x189.BroadcastsInDim S189x189 (![0, 1] : Fin 2 → Fin S189x189.rank)
  bcast_S_S189 : S_.BroadcastsInDim S189 (![] : Fin 0 → Fin S189.rank)

variable [Facts]

def fn_part1 {F : FTy → Type} [FloatOps F] (main_arg0 : IVec S189 32) (main_arg1 : IVec S189 32) (main_v7 : IVec S189x189 1) (main_v18 : IVec S189x189 1) (main_v20 : IVec S189 1) (main_c_1 : IVec S_ 32) : IVec S189x189 1 :=
  let main_v21 : IVec S189 32 := broadcastInDim S189 ![] bcast_S_S189 main_c_1
  let main_v22 : IVec S189 1 := cmpi .slt main_arg0 main_v21
  let main_v23 : IVec S189 1 := andi main_v20 main_v22
  let main_c_2 : IVec S_ 32 := constantI S_ 32 0#32
  let main_v24 : IVec S189 32 := broadcastInDim S189 ![] bcast_S_S189 main_c_2
  let main_v25 : IVec S189 1 := cmpi .sge main_arg1 main_v24
  let main_c_3 : IVec S_ 32 := constantI S_ 32 2#32
  let main_v26 : IVec S189 32 := broadcastInDim S189 ![] bcast_S_S189 main_c_3
  let main_v27 : IVec S189 1 := cmpi .slt main_arg1 main_v26
  let main_v28 : IVec S189 1 := andi main_v25 main_v27
  let main_v29 : IVec S189x189 1 := noti main_v7
  let main_v30 : IVec S189x189 1 := ori main_v29 main_v18
  let main_v31 : IVec S189 1 := andi main_v23 main_v28
  let main_v32 : IVec S189x1 1 := broadcastInDim S189x1 ![0] bcast_S189_S189x1_0 main_v31
  let main_v33 : IVec S189x189 1 := broadcastInDim S189x189 ![0, 1] bcast_S189x1_S189x189_0_1 main_v32
  let main_v34 : IVec S189x189 1 := andi main_v30 main_v33
  main_v34

def fn {F : FTy → Type} [FloatOps F] (main_arg0 : IVec S189 32) (main_arg1 : IVec S189 32) (main_arg2 : IVec S1 32) (main_arg3 : FVec F S96768x1024 .f32) (main_arg4 : FVec F S32x1024x2048 .f32) (main_arg5 : FVec F S32x1x2048 .f32) (main_arg6 : FVec F S32x1024x1024 .f32) (main_arg7 : FVec F S32x1x1024 .f32) : IVec S189x189 1 :=
  let main_v0 : IVec S189 32 := iotaInDim S189 32 0
  let main_v1 : IVec S189x1 32 := broadcastInDim S189x1 ![0] bcast_S189_S189x1_0 main_v0
  let main_v2 : IVec S1x189 32 := broadcastInDim S1x189 ![1] bcast_S189_S1x189_1 main_v0
  let main_c : IVec S_ 32 := constantI S_ 32 1#32
  let main_v3 : IVec S1x189 32 := broadcastInDim S1x189 ![] bcast_S_S1x189 main_c
  let main_v4 : IVec S1x189 32 := addi main_v2 main_v3
  let main_v5 : IVec S189x189 32 := broadcastInDim S189x189 ![0, 1] bcast_S189x1_S189x189_0_1 main_v1
  let main_v6 : IVec S189x189 32 := broadcastInDim S189x189 ![0, 1] bcast_S1x189_S189x189_0_1 main_v4
  let main_v7 : IVec S189x189 1 := cmpi .eq main_v5 main_v6
  let main_v8 : IVec S189x1 32 := broadcastInDim S189x1 ![0] bcast_S189_S189x1_0 main_arg0
  let main_v9 : IVec S1x189 32 := broadcastInDim S1x189 ![1] bcast_S189_S1x189_1 main_arg0
  let main_v10 : IVec S189x189 32 := broadcastInDim S189x189 ![0, 1] bcast_S189x1_S189x189_0_1 main_v8
  let main_v11 : IVec S189x189 32 := broadcastInDim S189x189 ![0, 1] bcast_S1x189_S189x189_0_1 main_v9
  let main_v12 : IVec S189x189 1 := cmpi .ne main_v10 main_v11
  let main_v13 : IVec S189x1 32 := broadcastInDim S189x1 ![0] bcast_S189_S189x1_0 main_arg1
  let main_v14 : IVec S1x189 32 := broadcastInDim S1x189 ![1] bcast_S189_S1x189_1 main_arg1
  let main_v15 : IVec S189x189 32 := broadcastInDim S189x189 ![0, 1] bcast_S189x1_S189x189_0_1 main_v13
  let main_v16 : IVec S189x189 32 := broadcastInDim S189x189 ![0, 1] bcast_S1x189_S189x189_0_1 main_v14
  let main_v17 : IVec S189x189 1 := cmpi .eq main_v15 main_v16
  let main_v18 : IVec S189x189 1 := ori main_v12 main_v17
  let main_c_0 : IVec S_ 32 := constantI S_ 32 0#32
  let main_v19 : IVec S189 32 := broadcastInDim S189 ![] bcast_S_S189 main_c_0
  let main_v20 : IVec S189 1 := cmpi .sge main_arg0 main_v19
  let main_c_1 : IVec S_ 32 := constantI S_ 32 32#32
  fn_part1 (F := F) main_arg0 main_arg1 main_v7 main_v18 main_v20 main_c_1
-- ==== Kernel.lean ====
abbrev S4x4096x1536 : Shape := ⟨3, ![4, 4096, 1536]⟩
abbrev S4x4096x512 : Shape := ⟨3, ![4, 4096, 512]⟩
abbrev S1x2048x128 : Shape := ⟨3, ![1, 2048, 128]⟩
abbrev S1x4096x128 : Shape := ⟨3, ![1, 4096, 128]⟩
abbrev S8x256x128 : Shape := ⟨3, ![8, 256, 128]⟩
abbrev S16x256x1 : Shape := ⟨3, ![16, 256, 1]⟩
abbrev S256x128 : Shape := ⟨2, ![256, 128]⟩
abbrev S256x256 : Shape := ⟨2, ![256, 256]⟩
abbrev S1x256x128 : Shape := ⟨3, ![1, 256, 128]⟩
abbrev S1x256x1 : Shape := ⟨3, ![1, 256, 1]⟩
abbrev S256x1 : Shape := ⟨2, ![256, 1]⟩
abbrev S1 : Shape := ⟨1, ![1]⟩
abbrev S1x1x1 : Shape := ⟨3, ![1, 1, 1]⟩

abbrev nBuf : Space → Nat
  | .hbm => 2
  | .vmem => 10
  | .smem => 0
  | _ => 0

abbrev bufTy : (tb : Table) → Fin (tcTables nBuf tb) → BufTy
  | .hbm, ⟨0, _⟩ => ⟨S4x4096x1536, .bf16⟩
  | .hbm, ⟨1, _⟩ => ⟨S4x4096x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S8x256x128, .f32⟩
  | .local _ .vmem, ⟨9, _⟩ => ⟨S16x256x1, .f32⟩
  | _, _ => ⟨S4x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_mult1 (i : grid0.Coords) : BitVec 32 :=
  let arg2 : BitVec 32 := BitVec.ofNat 32 (i 2).val
  let c8_i32 : BitVec 32 := 8#32
  let v24 : BitVec 32 := Scalar.muli arg2 c8_i32
  let c0_i32 : BitVec 32 := 0#32
  let v25 : BitVec 32 := Scalar.addi v24 c0_i32
  let c256_i32 : BitVec 32 := 256#32
  let v27 : BitVec 32 := Scalar.muli v25 c256_i32
  v27
def k0_mult2 (i : grid0.Coords) : BitVec 32 :=
  let arg2 : BitVec 32 := BitVec.ofNat 32 (i 2).val
  let c8_i32 : BitVec 32 := 8#32
  let v24 : BitVec 32 := Scalar.muli arg2 c8_i32
  let c0_i32 : BitVec 32 := 0#32
  let v25 : BitVec 32 := Scalar.addi v24 c0_i32
  let c1_i32_12 : BitVec 32 := 1#32
  let v29 : BitVec 32 := Scalar.subi v25 c1_i32_12
  let c0_i32_13 : BitVec 32 := 0#32
  let v30 : BitVec 32 := Scalar.maxsi v29 c0_i32_13
  let c256_i32_14 : BitVec 32 := 256#32
  let v31 : BitVec 32 := Scalar.muli v30 c256_i32_14
  v31
def k0_off1 (i : grid0.Coords) (c0_i32 : BitVec 32) : Fin 3 → Nat :=
  let c0_15 : Index := 0#32
  let arg2 : BitVec 32 := BitVec.ofNat 32 (i 2).val
  let c8_i32 : BitVec 32 := 8#32
  let v24 : BitVec 32 := Scalar.muli arg2 c8_i32
  let v25 : BitVec 32 := Scalar.addi v24 c0_i32
  let c256_i32 : BitVec 32 := 256#32
  let v27 : BitVec 32 := Scalar.muli v25 c256_i32
  let v28 : BitVec 32 := v27
  let v33 : Index := Scalar.indexCast v28
  let c0_16 : Index := 0#32
  ![0, v33.toNat, 0]
def k0_off2 (i : grid0.Coords) (c0_i32 : BitVec 32) : Fin 3 → Nat :=
  let c0_19 : Index := 0#32
  let arg2 : BitVec 32 := BitVec.ofNat 32 (i 2).val
  let c8_i32 : BitVec 32 := 8#32
  let v24 : BitVec 32 := Scalar.muli arg2 c8_i32
  let v25 : BitVec 32 := Scalar.addi v24 c0_i32
  let c1_i32_12 : BitVec 32 := 1#32
  let v29 : BitVec 32 := Scalar.subi v25 c1_i32_12
  let c0_i32_13 : BitVec 32 := 0#32
  let v30 : BitVec 32 := Scalar.maxsi v29 c0_i32_13
  let c256_i32_14 : BitVec 32 := 256#32
  let v31 : BitVec 32 := Scalar.muli v30 c256_i32_14
  let v32 : BitVec 32 := v31
  let v39 : Index := Scalar.indexCast v32
  let c0_20 : Index := 0#32
  ![0, v39.toNat, 0]
def k0_mult3 (i : grid0.Coords) : BitVec 32 :=
  let arg2 : BitVec 32 := BitVec.ofNat 32 (i 2).val
  let c8_i32_86 : BitVec 32 := 8#32
  let v208 : BitVec 32 := Scalar.muli arg2 c8_i32_86
  let c1_i32_87 : BitVec 32 := 1#32
  let v209 : BitVec 32 := Scalar.addi v208 c1_i32_87
  let c256_i32_89 : BitVec 32 := 256#32
  let v211 : BitVec 32 := Scalar.muli v209 c256_i32_89
  v211
def k0_mult4 (i : grid0.Coords) : BitVec 32 :=
  let arg2 : BitVec 32 := BitVec.ofNat 32 (i 2).val
  let c8_i32_86 : BitVec 32 := 8#32
  let v208 : BitVec 32 := Scalar.muli arg2 c8_i32_86
  let c1_i32_87 : BitVec 32 := 1#32
  let v209 : BitVec 32 := Scalar.addi v208 c1_i32_87
  let c1_i32_90 : BitVec 32 := 1#32
  let v213 : BitVec 32 := Scalar.subi v209 c1_i32_90
  let c0_i32_91 : BitVec 32 := 0#32
  let v214 : BitVec 32 := Scalar.maxsi v213 c0_i32_91
  let c256_i32_92 : BitVec 32 := 256#32
  let v215 : BitVec 32 := Scalar.muli v214 c256_i32_92
  v215
def k0_mult5 (i : grid0.Coords) : BitVec 32 :=
  let arg2 : BitVec 32 := BitVec.ofNat 32 (i 2).val
  let c8_i32_164 : BitVec 32 := 8#32
  let v392 : BitVec 32 := Scalar.muli arg2 c8_i32_164
  let c2_i32 : BitVec 32 := 2#32
  let v393 : BitVec 32 := Scalar.addi v392 c2_i32
  let c256_i32_166 : BitVec 32 := 256#32
  let v395 : BitVec 32 := Scalar.muli v393 c256_i32_166
  v395
def k0_mult6 (i : grid0.Coords) : BitVec 32 :=
  let arg2 : BitVec 32 := BitVec.ofNat 32 (i 2).val
  let c8_i32_164 : BitVec 32 := 8#32
  let v392 : BitVec 32 := Scalar.muli arg2 c8_i32_164
  let c2_i32 : BitVec 32 := 2#32
  let v393 : BitVec 32 := Scalar.addi v392 c2_i32
  let c1_i32_167 : BitVec 32 := 1#32
  let v397 : BitVec 32 := Scalar.subi v393 c1_i32_167
  let c0_i32_168 : BitVec 32 := 0#32
  let v398 : BitVec 32 := Scalar.maxsi v397 c0_i32_168
  let c256_i32_169 : BitVec 32 := 256#32
  let v399 : BitVec 32 := Scalar.muli v398 c256_i32_169
  v399
def k0_mult7 (i : grid0.Coords) : BitVec 32 :=
  let arg2 : BitVec 32 := BitVec.ofNat 32 (i 2).val
  let c8_i32_241 : BitVec 32 := 8#32
  let v576 : BitVec 32 := Scalar.muli arg2 c8_i32_241
  let c3_i32 : BitVec 32 := 3#32
  let v577 : BitVec 32 := Scalar.addi v576 c3_i32
  let c256_i32_243 : BitVec 32 := 256#32
  let v579 : BitVec 32 := Scalar.muli v577 c256_i32_243
  v579
def k0_mult8 (i : grid0.Coords) : BitVec 32 :=
  let arg2 : BitVec 32 := BitVec.ofNat 32 (i 2).val
  let c8_i32_241 : BitVec 32 := 8#32
  let v576 : BitVec 32 := Scalar.muli arg2 c8_i32_241
  let c3_i32 : BitVec 32 := 3#32
  let v577 : BitVec 32 := Scalar.addi v576 c3_i32
  let c1_i32_244 : BitVec 32 := 1#32
  let v581 : BitVec 32 := Scalar.subi v577 c1_i32_244
  let c0_i32_245 : BitVec 32 := 0#32
  let v582 : BitVec 32 := Scalar.maxsi v581 c0_i32_245
  let c256_i32_246 : BitVec 32 := 256#32
  let v583 : BitVec 32 := Scalar.muli v582 c256_i32_246
  v583
def k0_mult9 (i : grid0.Coords) : BitVec 32 :=
  let arg2 : BitVec 32 := BitVec.ofNat 32 (i 2).val
  let c8_i32_318 : BitVec 32 := 8#32
  let v760 : BitVec 32 := Scalar.muli arg2 c8_i32_318
  let c4_i32 : BitVec 32 := 4#32
  let v761 : BitVec 32 := Scalar.addi v760 c4_i32
  let c256_i32_320 : BitVec 32 := 256#32
  let v763 : BitVec 32 := Scalar.muli v761 c256_i32_320
  v763
def k0_mult10 (i : grid0.Coords) : BitVec 32 :=
  let arg2 : BitVec 32 := BitVec.ofNat 32 (i 2).val
  let c8_i32_318 : BitVec 32 := 8#32
  let v760 : BitVec 32 := Scalar.muli arg2 c8_i32_318
  let c4_i32 : BitVec 32 := 4#32
  let v761 : BitVec 32 := Scalar.addi v760 c4_i32
  let c1_i32_321 : BitVec 32 := 1#32
  let v765 : BitVec 32 := Scalar.subi v761 c1_i32_321
  let c0_i32_322 : BitVec 32 := 0#32
  let v766 : BitVec 32 := Scalar.maxsi v765 c0_i32_322
  let c256_i32_323 : BitVec 32 := 256#32
  let v767 : BitVec 32 := Scalar.muli v766 c256_i32_323
  v767
def k0_mult11 (i : grid0.Coords) : BitVec 32 :=
  let arg2 : BitVec 32 := BitVec.ofNat 32 (i 2).val
  let c8_i32_395 : BitVec 32 := 8#32
  let v944 : BitVec 32 := Scalar.muli arg2 c8_i32_395
  let c5_i32 : BitVec 32 := 5#32
  let v945 : BitVec 32 := Scalar.addi v944 c5_i32
  let c256_i32_397 : BitVec 32 := 256#32
  let v947 : BitVec 32 := Scalar.muli v945 c256_i32_397
  v947
def k0_mult12 (i : grid0.Coords) : BitVec 32 :=
  let arg2 : BitVec 32 := BitVec.ofNat 32 (i 2).val
  let c8_i32_395 : BitVec 32 := 8#32
  let v944 : BitVec 32 := Scalar.muli arg2 c8_i32_395
  let c5_i32 : BitVec 32 := 5#32
  let v945 : BitVec 32 := Scalar.addi v944 c5_i32
  let c1_i32_398 : BitVec 32 := 1#32
  let v949 : BitVec 32 := Scalar.subi v945 c1_i32_398
  let c0_i32_399 : BitVec 32 := 0#32
  let v950 : BitVec 32 := Scalar.maxsi v949 c0_i32_399
  let c256_i32_400 : BitVec 32 := 256#32
  let v951 : BitVec 32 := Scalar.muli v950 c256_i32_400
  v951
def k0_mult13 (i : grid0.Coords) : BitVec 32 :=
  let arg2 : BitVec 32 := BitVec.ofNat 32 (i 2).val
  let c8_i32_472 : BitVec 32 := 8#32
  let v1128 : BitVec 32 := Scalar.muli arg2 c8_i32_472
  let c6_i32 : BitVec 32 := 6#32
  let v1129 : BitVec 32 := Scalar.addi v1128 c6_i32
  let c256_i32_474 : BitVec 32 := 256#32
  let v1131 : BitVec 32 := Scalar.muli v1129 c256_i32_474
  v1131
def k0_mult14 (i : grid0.Coords) : BitVec 32 :=
  let arg2 : BitVec 32 := BitVec.ofNat 32 (i 2).val
  let c8_i32_472 : BitVec 32 := 8#32
  let v1128 : BitVec 32 := Scalar.muli arg2 c8_i32_472
  let c6_i32 : BitVec 32 := 6#32
  let v1129 : BitVec 32 := Scalar.addi v1128 c6_i32
  let c1_i32_475 : BitVec 32 := 1#32
  let v1133 : BitVec 32 := Scalar.subi v1129 c1_i32_475
  let c0_i32_476 : BitVec 32 := 0#32
  let v1134 : BitVec 32 := Scalar.maxsi v1133 c0_i32_476
  let c256_i32_477 : BitVec 32 := 256#32
  let v1135 : BitVec 32 := Scalar.muli v1134 c256_i32_477
  v1135
def k0_mult15 (i : grid0.Coords) : BitVec 32 :=
  let arg2 : BitVec 32 := BitVec.ofNat 32 (i 2).val
  let c8_i32_549 : BitVec 32 := 8#32
  let v1312 : BitVec 32 := Scalar.muli arg2 c8_i32_549
  let c7_i32 : BitVec 32 := 7#32
  let v1313 : BitVec 32 := Scalar.addi v1312 c7_i32
  let c256_i32_551 : BitVec 32 := 256#32
  let v1315 : BitVec 32 := Scalar.muli v1313 c256_i32_551
  v1315
def k0_mult16 (i : grid0.Coords) : BitVec 32 :=
  let arg2 : BitVec 32 := BitVec.ofNat 32 (i 2).val
  let c8_i32_549 : BitVec 32 := 8#32
  let v1312 : BitVec 32 := Scalar.muli arg2 c8_i32_549
  let c7_i32 : BitVec 32 := 7#32
  let v1313 : BitVec 32 := Scalar.addi v1312 c7_i32
  let c1_i32_552 : BitVec 32 := 1#32
  let v1317 : BitVec 32 := Scalar.subi v1313 c1_i32_552
  let c0_i32_553 : BitVec 32 := 0#32
  let v1318 : BitVec 32 := Scalar.maxsi v1317 c0_i32_553
  let c256_i32_554 : BitVec 32 := 256#32
  let v1319 : BitVec 32 := Scalar.muli v1318 c256_i32_554
  v1319
def k0_mult17 (arg9 : BitVec 32) : BitVec 32 :=
  let c256_i32_681 : BitVec 32 := 256#32
  let v1557 : BitVec 32 := Scalar.muli arg9 c256_i32_681
  v1557

def k0_mult18 (arg9 : BitVec 32) : BitVec 32 :=
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  v1561
def k0_off3 (arg9 : BitVec 32) : Fin 3 → Nat :=
  let c0_685 : Index := 0#32
  let c256_i32_681 : BitVec 32 := 256#32
  let v1557 : BitVec 32 := Scalar.muli arg9 c256_i32_681
  let v1558 : BitVec 32 := v1557
  let v1563 : Index := Scalar.indexCast v1558
  let c0_686 : Index := 0#32
  ![0, v1563.toNat, 0]
def k0_off4 (arg9 : BitVec 32) : Fin 3 → Nat :=
  let c0_689 : Index := 0#32
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  let v1562 : BitVec 32 := v1561
  let v1569 : Index := Scalar.indexCast v1562
  let c0_690 : Index := 0#32
  ![0, v1569.toNat, 0]

def k0_chk1 (arg9 : BitVec 32) : Prop :=
  (256 ∣ (k0_mult17 arg9).toNat) ∧
  (256 ∣ (k0_mult18 arg9).toNat) ∧
  (∀ a, (k0_off3 arg9) a + S1x256x128.size a ≤ S1x4096x128.size a) ∧
  (∀ a, (k0_off4 arg9) a + S1x256x128.size a ≤ S1x4096x128.size a)
theorem k0_mult17_dvd : ∀ (arg9 : BitVec 32) (k0_hw1 : k0_chk1 arg9), 256 ∣ (k0_mult17 arg9).toNat := fun arg9 k0_hw1 => k0_hw1.1
theorem k0_mult18_dvd : ∀ (arg9 : BitVec 32) (k0_hw1 : k0_chk1 arg9), 256 ∣ (k0_mult18 arg9).toNat := fun arg9 k0_hw1 => k0_hw1.2.1
theorem k0_off3_inb : ∀ (arg9 : BitVec 32) (k0_hw1 : k0_chk1 arg9), ∀ a, (k0_off3 arg9) a + S1x256x128.size a ≤ S1x4096x128.size a := fun arg9 k0_hw1 => k0_hw1.2.2.1
theorem k0_off4_inb : ∀ (arg9 : BitVec 32) (k0_hw1 : k0_chk1 arg9), ∀ a, (k0_off4 arg9) a + S1x256x128.size a ≤ S1x4096x128.size a := fun arg9 k0_hw1 => k0_hw1.2.2.2

def k0_mult19 (arg9 : BitVec 32) : BitVec 32 :=
  let c256_i32_681 : BitVec 32 := 256#32
  let v1557 : BitVec 32 := Scalar.muli arg9 c256_i32_681
  v1557

def k0_mult20 (arg9 : BitVec 32) : BitVec 32 :=
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  v1561
def k0_off5 (arg9 : BitVec 32) : Fin 3 → Nat :=
  let c0_685 : Index := 0#32
  let c256_i32_681 : BitVec 32 := 256#32
  let v1557 : BitVec 32 := Scalar.muli arg9 c256_i32_681
  let v1558 : BitVec 32 := v1557
  let v1563 : Index := Scalar.indexCast v1558
  let c0_686 : Index := 0#32
  ![0, v1563.toNat, 0]
def k0_off6 (arg9 : BitVec 32) : Fin 3 → Nat :=
  let c0_689 : Index := 0#32
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  let v1562 : BitVec 32 := v1561
  let v1569 : Index := Scalar.indexCast v1562
  let c0_690 : Index := 0#32
  ![0, v1569.toNat, 0]

def k0_chk2 (arg9 : BitVec 32) : Prop :=
  (256 ∣ (k0_mult19 arg9).toNat) ∧
  (256 ∣ (k0_mult20 arg9).toNat) ∧
  (∀ a, (k0_off5 arg9) a + S1x256x128.size a ≤ S1x4096x128.size a) ∧
  (∀ a, (k0_off6 arg9) a + S1x256x128.size a ≤ S1x4096x128.size a)
theorem k0_mult19_dvd : ∀ (arg9 : BitVec 32) (k0_hw2 : k0_chk2 arg9), 256 ∣ (k0_mult19 arg9).toNat := fun arg9 k0_hw2 => k0_hw2.1
theorem k0_mult20_dvd : ∀ (arg9 : BitVec 32) (k0_hw2 : k0_chk2 arg9), 256 ∣ (k0_mult20 arg9).toNat := fun arg9 k0_hw2 => k0_hw2.2.1
theorem k0_off5_inb : ∀ (arg9 : BitVec 32) (k0_hw2 : k0_chk2 arg9), ∀ a, (k0_off5 arg9) a + S1x256x128.size a ≤ S1x4096x128.size a := fun arg9 k0_hw2 => k0_hw2.2.2.1
theorem k0_off6_inb : ∀ (arg9 : BitVec 32) (k0_hw2 : k0_chk2 arg9), ∀ a, (k0_off6 arg9) a + S1x256x128.size a ≤ S1x4096x128.size a := fun arg9 k0_hw2 => k0_hw2.2.2.2

def k0_mult21 (arg9 : BitVec 32) : BitVec 32 :=
  let c256_i32_681 : BitVec 32 := 256#32
  let v1557 : BitVec 32 := Scalar.muli arg9 c256_i32_681
  v1557

def k0_mult22 (arg9 : BitVec 32) : BitVec 32 :=
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  v1561
def k0_off7 (arg9 : BitVec 32) : Fin 3 → Nat :=
  let c0_685 : Index := 0#32
  let c256_i32_681 : BitVec 32 := 256#32
  let v1557 : BitVec 32 := Scalar.muli arg9 c256_i32_681
  let v1558 : BitVec 32 := v1557
  let v1563 : Index := Scalar.indexCast v1558
  let c0_686 : Index := 0#32
  ![0, v1563.toNat, 0]
def k0_off8 (arg9 : BitVec 32) : Fin 3 → Nat :=
  let c0_689 : Index := 0#32
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  let v1562 : BitVec 32 := v1561
  let v1569 : Index := Scalar.indexCast v1562
  let c0_690 : Index := 0#32
  ![0, v1569.toNat, 0]

def k0_chk3 (arg9 : BitVec 32) : Prop :=
  (256 ∣ (k0_mult21 arg9).toNat) ∧
  (256 ∣ (k0_mult22 arg9).toNat) ∧
  (∀ a, (k0_off7 arg9) a + S1x256x128.size a ≤ S1x4096x128.size a) ∧
  (∀ a, (k0_off8 arg9) a + S1x256x128.size a ≤ S1x4096x128.size a)
theorem k0_mult21_dvd : ∀ (arg9 : BitVec 32) (k0_hw3 : k0_chk3 arg9), 256 ∣ (k0_mult21 arg9).toNat := fun arg9 k0_hw3 => k0_hw3.1
theorem k0_mult22_dvd : ∀ (arg9 : BitVec 32) (k0_hw3 : k0_chk3 arg9), 256 ∣ (k0_mult22 arg9).toNat := fun arg9 k0_hw3 => k0_hw3.2.1
theorem k0_off7_inb : ∀ (arg9 : BitVec 32) (k0_hw3 : k0_chk3 arg9), ∀ a, (k0_off7 arg9) a + S1x256x128.size a ≤ S1x4096x128.size a := fun arg9 k0_hw3 => k0_hw3.2.2.1
theorem k0_off8_inb : ∀ (arg9 : BitVec 32) (k0_hw3 : k0_chk3 arg9), ∀ a, (k0_off8 arg9) a + S1x256x128.size a ≤ S1x4096x128.size a := fun arg9 k0_hw3 => k0_hw3.2.2.2

def k0_mult23 (arg9 : BitVec 32) : BitVec 32 :=
  let c256_i32_681 : BitVec 32 := 256#32
  let v1557 : BitVec 32 := Scalar.muli arg9 c256_i32_681
  v1557

def k0_mult24 (arg9 : BitVec 32) : BitVec 32 :=
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  v1561
def k0_off9 (arg9 : BitVec 32) : Fin 3 → Nat :=
  let c0_685 : Index := 0#32
  let c256_i32_681 : BitVec 32 := 256#32
  let v1557 : BitVec 32 := Scalar.muli arg9 c256_i32_681
  let v1558 : BitVec 32 := v1557
  let v1563 : Index := Scalar.indexCast v1558
  let c0_686 : Index := 0#32
  ![0, v1563.toNat, 0]
def k0_off10 (arg9 : BitVec 32) : Fin 3 → Nat :=
  let c0_689 : Index := 0#32
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  let v1562 : BitVec 32 := v1561
  let v1569 : Index := Scalar.indexCast v1562
  let c0_690 : Index := 0#32
  ![0, v1569.toNat, 0]

def k0_chk4 (arg9 : BitVec 32) : Prop :=
  (256 ∣ (k0_mult23 arg9).toNat) ∧
  (256 ∣ (k0_mult24 arg9).toNat) ∧
  (∀ a, (k0_off9 arg9) a + S1x256x128.size a ≤ S1x4096x128.size a) ∧
  (∀ a, (k0_off10 arg9) a + S1x256x128.size a ≤ S1x4096x128.size a)
theorem k0_mult23_dvd : ∀ (arg9 : BitVec 32) (k0_hw4 : k0_chk4 arg9), 256 ∣ (k0_mult23 arg9).toNat := fun arg9 k0_hw4 => k0_hw4.1
theorem k0_mult24_dvd : ∀ (arg9 : BitVec 32) (k0_hw4 : k0_chk4 arg9), 256 ∣ (k0_mult24 arg9).toNat := fun arg9 k0_hw4 => k0_hw4.2.1
theorem k0_off9_inb : ∀ (arg9 : BitVec 32) (k0_hw4 : k0_chk4 arg9), ∀ a, (k0_off9 arg9) a + S1x256x128.size a ≤ S1x4096x128.size a := fun arg9 k0_hw4 => k0_hw4.2.2.1
theorem k0_off10_inb : ∀ (arg9 : BitVec 32) (k0_hw4 : k0_chk4 arg9), ∀ a, (k0_off10 arg9) a + S1x256x128.size a ≤ S1x4096x128.size a := fun arg9 k0_hw4 => k0_hw4.2.2.2

def k0_mult25 (arg9 : BitVec 32) : BitVec 32 :=
  let c256_i32_681 : BitVec 32 := 256#32
  let v1557 : BitVec 32 := Scalar.muli arg9 c256_i32_681
  v1557

def k0_mult26 (arg9 : BitVec 32) : BitVec 32 :=
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  v1561
def k0_off11 (arg9 : BitVec 32) : Fin 3 → Nat :=
  let c0_685 : Index := 0#32
  let c256_i32_681 : BitVec 32 := 256#32
  let v1557 : BitVec 32 := Scalar.muli arg9 c256_i32_681
  let v1558 : BitVec 32 := v1557
  let v1563 : Index := Scalar.indexCast v1558
  let c0_686 : Index := 0#32
  ![0, v1563.toNat, 0]
def k0_off12 (arg9 : BitVec 32) : Fin 3 → Nat :=
  let c0_689 : Index := 0#32
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  let v1562 : BitVec 32 := v1561
  let v1569 : Index := Scalar.indexCast v1562
  let c0_690 : Index := 0#32
  ![0, v1569.toNat, 0]

def k0_chk5 (arg9 : BitVec 32) : Prop :=
  (256 ∣ (k0_mult25 arg9).toNat) ∧
  (256 ∣ (k0_mult26 arg9).toNat) ∧
  (∀ a, (k0_off11 arg9) a + S1x256x128.size a ≤ S1x4096x128.size a) ∧
  (∀ a, (k0_off12 arg9) a + S1x256x128.size a ≤ S1x4096x128.size a)
theorem k0_mult25_dvd : ∀ (arg9 : BitVec 32) (k0_hw5 : k0_chk5 arg9), 256 ∣ (k0_mult25 arg9).toNat := fun arg9 k0_hw5 => k0_hw5.1
theorem k0_mult26_dvd : ∀ (arg9 : BitVec 32) (k0_hw5 : k0_chk5 arg9), 256 ∣ (k0_mult26 arg9).toNat := fun arg9 k0_hw5 => k0_hw5.2.1
theorem k0_off11_inb : ∀ (arg9 : BitVec 32) (k0_hw5 : k0_chk5 arg9), ∀ a, (k0_off11 arg9) a + S1x256x128.size a ≤ S1x4096x128.size a := fun arg9 k0_hw5 => k0_hw5.2.2.1
theorem k0_off12_inb : ∀ (arg9 : BitVec 32) (k0_hw5 : k0_chk5 arg9), ∀ a, (k0_off12 arg9) a + S1x256x128.size a ≤ S1x4096x128.size a := fun arg9 k0_hw5 => k0_hw5.2.2.2

def k0_mult27 (arg9 : BitVec 32) : BitVec 32 :=
  let c256_i32_681 : BitVec 32 := 256#32
  let v1557 : BitVec 32 := Scalar.muli arg9 c256_i32_681
  v1557

def k0_mult28 (arg9 : BitVec 32) : BitVec 32 :=
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  v1561
def k0_off13 (arg9 : BitVec 32) : Fin 3 → Nat :=
  let c0_685 : Index := 0#32
  let c256_i32_681 : BitVec 32 := 256#32
  let v1557 : BitVec 32 := Scalar.muli arg9 c256_i32_681
  let v1558 : BitVec 32 := v1557
  let v1563 : Index := Scalar.indexCast v1558
  let c0_686 : Index := 0#32
  ![0, v1563.toNat, 0]
def k0_off14 (arg9 : BitVec 32) : Fin 3 → Nat :=
  let c0_689 : Index := 0#32
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  let v1562 : BitVec 32 := v1561
  let v1569 : Index := Scalar.indexCast v1562
  let c0_690 : Index := 0#32
  ![0, v1569.toNat, 0]

def k0_chk6 (arg9 : BitVec 32) : Prop :=
  (256 ∣ (k0_mult27 arg9).toNat) ∧
  (256 ∣ (k0_mult28 arg9).toNat) ∧
  (∀ a, (k0_off13 arg9) a + S1x256x128.size a ≤ S1x4096x128.size a) ∧
  (∀ a, (k0_off14 arg9) a + S1x256x128.size a ≤ S1x4096x128.size a)
theorem k0_mult27_dvd : ∀ (arg9 : BitVec 32) (k0_hw6 : k0_chk6 arg9), 256 ∣ (k0_mult27 arg9).toNat := fun arg9 k0_hw6 => k0_hw6.1
theorem k0_mult28_dvd : ∀ (arg9 : BitVec 32) (k0_hw6 : k0_chk6 arg9), 256 ∣ (k0_mult28 arg9).toNat := fun arg9 k0_hw6 => k0_hw6.2.1
theorem k0_off13_inb : ∀ (arg9 : BitVec 32) (k0_hw6 : k0_chk6 arg9), ∀ a, (k0_off13 arg9) a + S1x256x128.size a ≤ S1x4096x128.size a := fun arg9 k0_hw6 => k0_hw6.2.2.1
theorem k0_off14_inb : ∀ (arg9 : BitVec 32) (k0_hw6 : k0_chk6 arg9), ∀ a, (k0_off14 arg9) a + S1x256x128.size a ≤ S1x4096x128.size a := fun arg9 k0_hw6 => k0_hw6.2.2.2

def k0_mult29 (arg9 : BitVec 32) : BitVec 32 :=
  let c256_i32_681 : BitVec 32 := 256#32
  let v1557 : BitVec 32 := Scalar.muli arg9 c256_i32_681
  v1557

def k0_mult30 (arg9 : BitVec 32) : BitVec 32 :=
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  v1561
def k0_off15 (arg9 : BitVec 32) : Fin 3 → Nat :=
  let c0_685 : Index := 0#32
  let c256_i32_681 : BitVec 32 := 256#32
  let v1557 : BitVec 32 := Scalar.muli arg9 c256_i32_681
  let v1558 : BitVec 32 := v1557
  let v1563 : Index := Scalar.indexCast v1558
  let c0_686 : Index := 0#32
  ![0, v1563.toNat, 0]
def k0_off16 (arg9 : BitVec 32) : Fin 3 → Nat :=
  let c0_689 : Index := 0#32
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  let v1562 : BitVec 32 := v1561
  let v1569 : Index := Scalar.indexCast v1562
  let c0_690 : Index := 0#32
  ![0, v1569.toNat, 0]

def k0_chk7 (arg9 : BitVec 32) : Prop :=
  (256 ∣ (k0_mult29 arg9).toNat) ∧
  (256 ∣ (k0_mult30 arg9).toNat) ∧
  (∀ a, (k0_off15 arg9) a + S1x256x128.size a ≤ S1x4096x128.size a) ∧
  (∀ a, (k0_off16 arg9) a + S1x256x128.size a ≤ S1x4096x128.size a)
theorem k0_mult29_dvd : ∀ (arg9 : BitVec 32) (k0_hw7 : k0_chk7 arg9), 256 ∣ (k0_mult29 arg9).toNat := fun arg9 k0_hw7 => k0_hw7.1
theorem k0_mult30_dvd : ∀ (arg9 : BitVec 32) (k0_hw7 : k0_chk7 arg9), 256 ∣ (k0_mult30 arg9).toNat := fun arg9 k0_hw7 => k0_hw7.2.1
theorem k0_off15_inb : ∀ (arg9 : BitVec 32) (k0_hw7 : k0_chk7 arg9), ∀ a, (k0_off15 arg9) a + S1x256x128.size a ≤ S1x4096x128.size a := fun arg9 k0_hw7 => k0_hw7.2.2.1
theorem k0_off16_inb : ∀ (arg9 : BitVec 32) (k0_hw7 : k0_chk7 arg9), ∀ a, (k0_off16 arg9) a + S1x256x128.size a ≤ S1x4096x128.size a := fun arg9 k0_hw7 => k0_hw7.2.2.2

def k0_mult31 (arg9 : BitVec 32) : BitVec 32 :=
  let c256_i32_681 : BitVec 32 := 256#32
  let v1557 : BitVec 32 := Scalar.muli arg9 c256_i32_681
  v1557

def k0_mult32 (arg9 : BitVec 32) : BitVec 32 :=
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  v1561
def k0_off17 (arg9 : BitVec 32) : Fin 3 → Nat :=
  let c0_685 : Index := 0#32
  let c256_i32_681 : BitVec 32 := 256#32
  let v1557 : BitVec 32 := Scalar.muli arg9 c256_i32_681
  let v1558 : BitVec 32 := v1557
  let v1563 : Index := Scalar.indexCast v1558
  let c0_686 : Index := 0#32
  ![0, v1563.toNat, 0]
def k0_off18 (arg9 : BitVec 32) : Fin 3 → Nat :=
  let c0_689 : Index := 0#32
  let c1_i32_682 : BitVec 32 := 1#32
  let v1559 : BitVec 32 := Scalar.subi arg9 c1_i32_682
  let c0_i32_683 : BitVec 32 := 0#32
  let v1560 : BitVec 32 := Scalar.maxsi v1559 c0_i32_683
  let c256_i32_684 : BitVec 32 := 256#32
  let v1561 : BitVec 32 := Scalar.muli v1560 c256_i32_684
  let v1562 : BitVec 32 := v1561
  let v1569 : Index := Scalar.indexCast v1562
  let c0_690 : Index := 0#32
  ![0, v1569.toNat, 0]

def k0_chk8 (arg9 : BitVec 32) : Prop :=
  (256 ∣ (k0_mult31 arg9).toNat) ∧
  (256 ∣ (k0_mult32 arg9).toNat) ∧
  (∀ a, (k0_off17 arg9) a + S1x256x128.size a ≤ S1x4096x128.size a) ∧
  (∀ a, (k0_off18 arg9) a + S1x256x128.size a ≤ S1x4096x128.size a)
theorem k0_mult31_dvd : ∀ (arg9 : BitVec 32) (k0_hw8 : k0_chk8 arg9), 256 ∣ (k0_mult31 arg9).toNat := fun arg9 k0_hw8 => k0_hw8.1
theorem k0_mult32_dvd : ∀ (arg9 : BitVec 32) (k0_hw8 : k0_chk8 arg9), 256 ∣ (k0_mult32 arg9).toNat := fun arg9 k0_hw8 => k0_hw8.2.1
theorem k0_off17_inb : ∀ (arg9 : BitVec 32) (k0_hw8 : k0_chk8 arg9), ∀ a, (k0_off17 arg9) a + S1x256x128.size a ≤ S1x4096x128.size a := fun arg9 k0_hw8 => k0_hw8.2.2.1
theorem k0_off18_inb : ∀ (arg9 : BitVec 32) (k0_hw8 : k0_chk8 arg9), ∀ a, (k0_off18 arg9) a + S1x256x128.size a ≤ S1x4096x128.size a := fun arg9 k0_hw8 => k0_hw8.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "underflow" => some ⊥
  | _ => none
-- ==== ReferenceIdeal.lean ====
abbrev S4x4096x1536 : Shape := ⟨3, ![4, 4096, 1536]⟩
abbrev S4x4096x512 : Shape := ⟨3, ![4, 4096, 512]⟩
abbrev S4x4096x8x64 : Shape := ⟨4, ![4, 4096, 8, 64]⟩
abbrev S4x8x4096x64 : Shape := ⟨4, ![4, 8, 4096, 64]⟩
abbrev S4x8x4096x4096 : Shape := ⟨4, ![4, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x1536, .bf16⟩
  | .hbm, ⟨1, _⟩ => ⟨S4x4096x1536, .f32⟩
  | .hbm, ⟨2, _⟩ => ⟨S4x4096x512, .f32⟩
  | .hbm, ⟨3, _⟩ => ⟨S4x4096x8x64, .f32⟩
  | .hbm, ⟨4, _⟩ => ⟨S4x8x4096x64, .f32⟩
  | .hbm, ⟨5, _⟩ => ⟨S4x4096x512, .f32⟩
  | .hbm, ⟨6, _⟩ => ⟨S4x4096x8x64, .f32⟩
  | .hbm, ⟨7, _⟩ => ⟨S4x8x4096x64, .f32⟩
  | .hbm, ⟨8, _⟩ => ⟨S4x4096x512, .f32⟩
  | .hbm, ⟨9, _⟩ => ⟨S4x4096x8x64, .f32⟩
  | .hbm, ⟨10, _⟩ => ⟨S4x8x4096x64, .f32⟩
  | .hbm, ⟨11, _⟩ => ⟨S4x8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4x8x4096x4096, .f32⟩
  | .hbm, ⟨20, _⟩ => ⟨S4x8x4096x4096, .f32⟩
  | .hbm, ⟨21, _⟩ => ⟨S_, .f32⟩
  | .hbm, ⟨22, _⟩ => ⟨S4x8x4096x4096, .f32⟩
  | .hbm, ⟨23, _⟩ => ⟨S4x8x4096x4096, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .i1⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S_, .f32⟩
  | .hbm, ⟨37, _⟩ => ⟨S_, .f32⟩
  | .hbm, ⟨38, _⟩ => ⟨S4x8x4096x4096, .i1⟩
  | .hbm, ⟨39, _⟩ => ⟨S4x8x4096x4096, .f32⟩
  | .hbm, ⟨40, _⟩ => ⟨S4x8x4096x4096, .f32⟩
  | .hbm, ⟨41, _⟩ => ⟨S_, .f32⟩
  | .hbm, ⟨42, _⟩ => ⟨S_, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .f32⟩
  | .hbm, ⟨46, _⟩ => ⟨S_, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S4x8x4096x4096, .i1⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S_, .f32⟩
  | .hbm, ⟨64, _⟩ => ⟨S_, .f32⟩
  | .hbm, ⟨65, _⟩ => ⟨S4x8x4096x4096, .i1⟩
  | .hbm, ⟨66, _⟩ => ⟨S4x8x4096x4096, .f32⟩
  | .hbm, ⟨67, _⟩ => ⟨S4x8x4096x4096, .f32⟩
  | .hbm, ⟨68, _⟩ => ⟨S4x8x4096x64, .f32⟩
  | .hbm, ⟨69, _⟩ => ⟨S4x4096x8x64, .f32⟩
  | .hbm, ⟨70, _⟩ => ⟨S4x4096x512, .f32⟩
  | .hbm, ⟨71, _⟩ => ⟨S4x4096x512, .bf16⟩
  | _, _ => ⟨S4x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v19 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_0 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩

abbrev nD : Nat := 1
abbrev τ : Topo := Topo.v7x

variable {F : FTy → Type} [FloatOps F]
-- ==== Experts.lean ====
abbrev S189 : Shape := ⟨1, ![189]⟩
abbrev S1 : Shape := ⟨1, ![1]⟩
abbrev S96768x1024 : Shape := ⟨2, ![96768, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S96768x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S96768x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S2x1024x2048, .bf16⟩
  | .local _ .vmem, ⟨13, _⟩ => ⟨S2x1024x1024, .bf16⟩
  | .local _ .smem, ⟨0, _⟩ => ⟨S189, .i32⟩
  | .local _ .smem, ⟨1, _⟩ => ⟨S189, .i32⟩
  | .local _ .smem, ⟨2, _⟩ => ⟨S1, .i32⟩
  | _, _ => ⟨S96768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![190], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let c188_i32 : BitVec 32 := 188#32
  let v0 : BitVec 32 := Scalar.minsi arg0 c188_i32
  let v1 : Index := Scalar.indexCast v0
  ![v1.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_off3 (i : grid0.Coords) : Fin 1 → Nat :=
  let arg0 : BitVec 32 := BitVec.ofNat 32 (i 0).val
  let c1_i32 : BitVec 32 := 1#32
  let v1 : BitVec 32 := Scalar.subi arg0 c1_i32
  let c0_i32_6 : BitVec 32 := 0#32
  let v24 : BitVec 32 := Scalar.maxsi v1 c0_i32_6
  let v25 : Index := Scalar.indexCast v24
  ![v25.toNat]
def k0_off4 (v26 : BitVec 32) : Fin 3 → Nat :=
  let v29 : Index := Scalar.indexCast v26
  let c0_9 : Index := 0#32
  let c0_10 : Index := 0#32
  ![v29.toNat, 0, 0]
def k0_cond1 (i : grid0.Coords) (v0 : BitVec 32) : BitVec 1 :=
  let arg0 : BitVec 32 := BitVec.ofNat 32 (i 0).val
  let c1_i32 : BitVec 32 := 1#32
  let v1 : BitVec 32 := Scalar.subi arg0 c1_i32
  let c0_i32 : BitVec 32 := 0#32
  let v2 : BitVec 1 := Scalar.cmpi .sge v1 c0_i32
  let v3 : BitVec 1 := Scalar.cmpi .slt v1 v0
  let v4 : BitVec 1 := Scalar.andi v2 v3
  let v5 : BitVec 32 := Scalar.extui v4
  let c0_i32_0 : BitVec 32 := 0#32
  let v6 : BitVec 1 := Scalar.cmpi .ne v5 c0_i32_0
  v6

def k0_off5 (v26 : BitVec 32) : Fin 3 → Nat :=
  let v59 : Index := Scalar.indexCast v26
  let c0_22 : Index := 0#32
  let c0_23 : Index := 0#32
  ![v59.toNat, 0, 0]

def k0_chk1 (i : grid0.Coords) (v0 : BitVec 32) (v26 : BitVec 32) : Prop :=
  (∀ (k0_h1 : k0_cond1 i v0 = 1#1), ∀ a, (k0_off4 v26) a + S1x1024x2048.size a ≤ S2x1024x2048.size a) ∧
  (∀ (k0_h1 : k0_cond1 i v0 = 1#1), ∀ a, (k0_off5 v26) a + S1x1024x1024.size a ≤ S2x1024x1024.size a)
theorem k0_off4_inb : ∀ (i : grid0.Coords) (v0 : BitVec 32) (v26 : BitVec 32) (k0_hw1 : k0_chk1 i v0 v26), ∀ (k0_h1 : k0_cond1 i v0 = 1#1), ∀ a, (k0_off4 v26) a + S1x1024x2048.size a ≤ S2x1024x2048.size a := fun i v0 v26 k0_hw1 k0_h1 => k0_hw1.1 k0_h1
theorem k0_off5_inb : ∀ (i : grid0.Coords) (v0 : BitVec 32) (v26 : BitVec 32) (k0_hw1 : k0_chk1 i v0 v26), ∀ (k0_h1 : k0_cond1 i v0 = 1#1), ∀ a, (k0_off5 v26) a + S1x1024x1024.size a ≤ S2x1024x1024.size a := fun i v0 v26 k0_hw1 k0_h1 => k0_hw1.2 k0_h1

def k0_off6 (i : grid0.Coords) : Fin 1 → Nat :=
  let arg0 : BitVec 32 := BitVec.ofNat 32 (i 0).val
  let c188_i32 : BitVec 32 := 188#32
  let v10 : BitVec 32 := Scalar.minsi arg0 c188_i32
  let v12 : Index := Scalar.indexCast v10
  ![v12.toNat]
def k0_off7 (i : grid0.Coords) : Fin 1 → Nat :=
  let arg0 : BitVec 32 := BitVec.ofNat 32 (i 0).val
  let c188_i32 : BitVec 32 := 188#32
  let v10 : BitVec 32 := Scalar.minsi arg0 c188_i32
  let c1_i32_3 : BitVec 32 := 1#32
  let v14 : BitVec 32 := Scalar.subi v10 c1_i32_3
  let c0_i32_4 : BitVec 32 := 0#32
  let v15 : BitVec 32 := Scalar.maxsi v14 c0_i32_4
  let v16 : Index := Scalar.indexCast v15
  ![v16.toNat]
def k0_off8 (i : grid0.Coords) : Fin 1 → Nat :=
  let arg0 : BitVec 32 := BitVec.ofNat 32 (i 0).val
  let c188_i32 : BitVec 32 := 188#32
  let v10 : BitVec 32 := Scalar.minsi arg0 c188_i32
  let v24 : Index := Scalar.indexCast v10
  ![v24.toNat]
def k0_off9 (v25 : BitVec 32) : Fin 3 → Nat :=
  let v29 : Index := Scalar.indexCast v25
  let c0_9 : Index := 0#32
  let c0_10 : Index := 0#32
  ![v29.toNat, 0, 0]
def k0_cond3 (i : grid0.Coords) (v0 : BitVec 32) (v13 : BitVec 32) (v17 : BitVec 32) : BitVec 1 :=
  let arg0 : BitVec 32 := BitVec.ofNat 32 (i 0).val
  let v20 : BitVec 1 := Scalar.cmpi .slt arg0 v0
  let c0_i32_2 : BitVec 32 := 0#32
  let v11 : BitVec 1 := Scalar.cmpi .eq arg0 c0_i32_2
  let v18 : BitVec 1 := Scalar.cmpi .ne v13 v17
  let v19 : BitVec 1 := Scalar.ori v11 v18
  let v21 : BitVec 1 := Scalar.andi v20 v19
  let v22 : BitVec 32 := Scalar.extui v21
  let c0_i32_5 : BitVec 32 := 0#32
  let v23 : BitVec 1 := Scalar.cmpi .ne v22 c0_i32_5
  v23

def k0_off10 (v25 : BitVec 32) : Fin 3 → Nat :=
  let v36 : Index := Scalar.indexCast v25
  let c0_14 : Index := 0#32
  let c0_15 : Index := 0#32
  ![v36.toNat, 0, 0]

def k0_chk2 (i : grid0.Coords) (v0 : BitVec 32) (v13 : BitVec 32) (v17 : BitVec 32) (v25 : BitVec 32) : Prop :=
  (∀ (k0_h3 : k0_cond3 i v0 v13 v17 = 1#1), ∀ a, (k0_off9 v25) a + S1x1024x2048.size a ≤ S2x1024x2048.size a) ∧
  (∀ (k0_h3 : k0_cond3 i v0 v13 v17 = 1#1), ∀ (hinb : ∀ a, (k0_off9 v25) a + S1x1024x2048.size a ≤ S2x1024x2048.size a), (Rect.unit (s := S2x1024x2048) (k0_off9 v25) S1x1024x2048.size hinb).PackedRows (EltTy.packing .bf16)) ∧
  (∀ (k0_h3 : k0_cond3 i v0 v13 v17 = 1#1), ∀ a, (k0_off10 v25) a + S1x1024x1024.size a ≤ S2x1024x1024.size a) ∧
  (∀ (k0_h3 : k0_cond3 i v0 v13 v17 = 1#1), ∀ (hinb : ∀ a, (k0_off10 v25) a + S1x1024x1024.size a ≤ S2x1024x1024.size a), (Rect.unit (s := S2x1024x1024) (k0_off10 v25) S1x1024x1024.size hinb).PackedRows (EltTy.packing .bf16))
theorem k0_off9_inb : ∀ (i : grid0.Coords) (v0 : BitVec 32) (v13 : BitVec 32) (v17 : BitVec 32) (v25 : BitVec 32) (k0_hw2 : k0_chk2 i v0 v13 v17 v25), ∀ (k0_h3 : k0_cond3 i v0 v13 v17 = 1#1), ∀ a, (k0_off9 v25) a + S1x1024x2048.size a ≤ S2x1024x2048.size a := fun i v0 v13 v17 v25 k0_hw2 k0_h3 => k0_hw2.1 k0_h3
theorem k0_off9_packedbf16 : ∀ (i : grid0.Coords) (v0 : BitVec 32) (v13 : BitVec 32) (v17 : BitVec 32) (v25 : BitVec 32) (k0_hw2 : k0_chk2 i v0 v13 v17 v25), ∀ (k0_h3 : k0_cond3 i v0 v13 v17 = 1#1), (Rect.unit (s := S2x1024x2048) (k0_off9 v25) S1x1024x2048.size (k0_off9_inb i v0 v13 v17 v25 k0_hw2 k0_h3)).PackedRows (EltTy.packing .bf16) := fun i v0 v13 v17 v25 k0_hw2 k0_h3 => k0_hw2.2.1 k0_h3 (k0_off9_inb i v0 v13 v17 v25 k0_hw2 k0_h3)
theorem k0_off10_inb : ∀ (i : grid0.Coords) (v0 : BitVec 32) (v13 : BitVec 32) (v17 : BitVec 32) (v25 : BitVec 32) (k0_hw2 : k0_chk2 i v0 v13 v17 v25), ∀ (k0_h3 : k0_cond3 i v0 v13 v17 = 1#1), ∀ a, (k0_off10 v25) a + S1x1024x1024.size a ≤ S2x1024x1024.size a := fun i v0 v13 v17 v25 k0_hw2 k0_h3 => k0_hw2.2.2.1 k0_h3
theorem k0_off10_packedbf16 : ∀ (i : grid0.Coords) (v0 : BitVec 32) (v13 : BitVec 32) (v17 : BitVec 32) (v25 : BitVec 32) (k0_hw2 : k0_chk2 i v0 v13 v17 v25), ∀ (k0_h3 : k0_cond3 i v0 v13 v17 = 1#1), (Rect.unit (s := S2x1024x1024) (k0_off10 v25) S1x1024x1024.size (k0_off10_inb i v0 v13 v17 v25 k0_hw2 k0_h3)).PackedRows (EltTy.packing .bf16) := fun i v0 v13 v17 v25 k0_hw2 k0_h3 => k0_hw2.2.2.2 k0_h3 (k0_off10_inb i v0 v13 v17 v25 k0_hw2 k0_h3)

def k0_cond2 (i : grid0.Coords) (v0 : BitVec 32) : BitVec 1 :=
  let arg0 : BitVec 32 := BitVec.ofNat 32 (i 0).val
  let c1_i32 : BitVec 32 := 1#32
  let v1 : BitVec 32 := Scalar.subi arg0 c1_i32
  let v7 : BitVec 1 := Scalar.cmpi .sge v1 v0
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (k0_off1_inb : ∀ i : grid0.Coords, ∀ a, (k0_off1 i) a + S1.size a ≤ S189.size a) (numel1_S1 : S1.numel = 1) (pf : pre0.Contents (Elt F)) (i : grid0.Coords) : Fin 3 → Nat :=
  let arg0 : BitVec 32 := BitVec.ofNat 32 (i 0).val
  let c188_i32 : BitVec 32 := 188#32
  let v0 : BitVec 32 := Scalar.minsi arg0 c188_i32
  let v1 : Index := Scalar.indexCast v0
  let v2 : BitVec 32 := pf.at 0 (Rect.unit (s := S189) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_2 (k0_off2_inb : ∀ i : grid0.Coords, ∀ a, (k0_off2 i) a + S1.size a ≤ S189.size a) (numel1_S1 : S1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  let v3 : BitVec 32 := pf.at 0 (Rect.unit (s := S189) ![v2.toNat] S1.size (k0_off2_inb i)) numel1_S1
  let c0_i32_0 : BitVec 32 := 0#32
  let c0_i32_1 : BitVec 32 := 0#32
  let c0_i32_2 : BitVec 32 := 0#32
  ![v3.toNat, c0_i32_0.toNat, c0_i32_1.toNat]

def cc0_transform_3 (k0_off1_inb : ∀ i : grid0.Coords, ∀ a, (k0_off1 i) a + S1.size a ≤ S189.size a) (numel1_S1 : S1.numel = 1) (pf : pre0.Contents (Elt F)) (i : grid0.Coords) : Fin 3 → Nat :=
  let arg0 : BitVec 32 := BitVec.ofNat 32 (i 0).val
  let c188_i32 : BitVec 32 := 188#32
  let v0 : BitVec 32 := Scalar.minsi arg0 c188_i32
  let v1 : Index := Scalar.indexCast v0
  let v2 : BitVec 32 := pf.at 0 (Rect.unit (s := S189) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_4 (k0_off2_inb : ∀ i : grid0.Coords, ∀ a, (k0_off2 i) a + S1.size a ≤ S189.size a) (numel1_S1 : S1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  let v3 : BitVec 32 := pf.at 0 (Rect.unit (s := S189) ![v2.toNat] S1.size (k0_off2_inb i)) numel1_S1
  let c0_i32_0 : BitVec 32 := 0#32
  let c0_i32_1 : BitVec 32 := 0#32
  let c0_i32_2 : BitVec 32 := 0#32
  ![v3.toNat, c0_i32_0.toNat, c0_i32_1.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S189 : Shape := ⟨1, ![189]⟩
abbrev S1 : Shape := ⟨1, ![1]⟩
abbrev S96768x1024 : Shape := ⟨2, ![96768, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S96768 : Shape := ⟨1, ![96768]⟩
abbrev S_ : Shape := ⟨0, ![]⟩
abbrev S189x1 : Shape := ⟨2, ![189, 1]⟩
abbrev S189x512 : Shape := ⟨2, ![189, 512]⟩
abbrev S96768x1 : Shape := ⟨2, ![96768, 1]⟩
abbrev S32 : Shape := ⟨1, ![32]⟩
abbrev S1x32 : Shape := ⟨2, ![1, 32]⟩
abbrev S96768x32 : Shape := ⟨2, ![96768, 32]⟩
abbrev S32x2048x96768 : Shape := ⟨3, ![32, 2048, 96768]⟩
abbrev S32x96768x2048 : Shape := ⟨3, ![32, 96768, 2048]⟩
abbrev S32x96768x1024 : Shape := ⟨3, ![32, 96768, 1024]⟩

abbrev nBuf : Space → Nat
  | .hbm => 83
  | .vmem => 0
  | .smem => 0
  | _ => 0

abbrev bufTy : (tb : Table) → Fin (tcTables nBuf tb) → BufTy
  | .hbm, ⟨0, _⟩ => ⟨S189, .i32⟩
  | .hbm, ⟨1, _⟩ => ⟨S189, .i32⟩
  | .hbm, ⟨2, _⟩ => ⟨S1, .i32⟩
  | .hbm, ⟨3, _⟩ => ⟨S96768x1024, .f32⟩
  | .hbm, ⟨4, _⟩ => ⟨S32x1024x2048, .f32⟩
  | .hbm, ⟨5, _⟩ => ⟨S32x1x2048, .f32⟩
  | .hbm, ⟨6, _⟩ => ⟨S32x1024x1024, .f32⟩
  | .hbm, ⟨7, _⟩ => ⟨S32x1x1024, .f32⟩
  | .hbm, ⟨8, _⟩ => ⟨S96768, .i32⟩
  | .hbm, ⟨9, _⟩ => ⟨S_, .i32⟩
  | .hbm, ⟨10, _⟩ => ⟨S_, .i32⟩
  | .hbm, ⟨11, _⟩ => ⟨S96768, .i32⟩
  | .hbm, ⟨12, _⟩ => ⟨S96768, .i32⟩
  | .hbm, ⟨13, _⟩ => ⟨S96768, .i32⟩
  | .hbm, ⟨14, _⟩ => ⟨S_, .i32⟩
  | .hbm, ⟨15, _⟩ => ⟨S96768, .i32⟩
  | .hbm, ⟨16, _⟩ => ⟨S96768, .i1⟩
  | .hbm, ⟨17, _⟩ => ⟨S96768, .i32⟩
  | .hbm, ⟨18, _⟩ => ⟨S96768, .i32⟩
  | .hbm, ⟨19, _⟩ => ⟨S_, .i32⟩
  | .hbm, ⟨20, _⟩ => ⟨S96768, .i32⟩
  | .hbm, ⟨21, _⟩ => ⟨S96768, .i1⟩
  | .hbm, ⟨22, _⟩ => ⟨S96768, .i1⟩
  | .hbm, ⟨23, _⟩ => ⟨S_, .i32⟩
  | .hbm, ⟨24, _⟩ => ⟨S96768, .i32⟩
  | .hbm, ⟨25, _⟩ => ⟨S96768, .i32⟩
  | .hbm, ⟨26, _⟩ => ⟨S96768, .i32⟩
  | .hbm, ⟨27, _⟩ => ⟨S189x1, .i32⟩
  | .hbm, ⟨28, _⟩ => ⟨S189x512, .i32⟩
  | .hbm, ⟨29, _⟩ => ⟨S96768, .i32⟩
  | .hbm, ⟨30, _⟩ => ⟨S96768x1, .i32⟩
  | .hbm, ⟨31, _⟩ => ⟨S32, .i32⟩
  | .hbm, ⟨32, _⟩ => ⟨S1x32, .i32⟩
  | .hbm, ⟨33, _⟩ => ⟨S96768x32, .i32⟩
  | .hbm, ⟨34, _⟩ => ⟨S96768x32, .i32⟩
  | .hbm, ⟨35, _⟩ => ⟨S96768x32, .i1⟩
  | .hbm, ⟨36, _⟩ => ⟨S96768, .i32⟩
  | .hbm, ⟨37, _⟩ => ⟨S96768, .i1⟩
  | .hbm, ⟨38, _⟩ => ⟨S96768x1, .i1⟩
  | .hbm, ⟨39, _⟩ => ⟨S96768x32, .i1⟩
  | .hbm, ⟨40, _⟩ => ⟨S96768x32, .i1⟩
  | .hbm, ⟨41, _⟩ => ⟨S_, .f32⟩
  | .hbm, ⟨42, _⟩ => ⟨S_, .f32⟩
  | .hbm, ⟨43, _⟩ => ⟨S96768x32, .f32⟩
  | .hbm, ⟨44, _⟩ => ⟨S96768x32, .f32⟩
  | .hbm, ⟨45, _⟩ => ⟨S96768x32, .f32⟩
  | .hbm, ⟨46, _⟩ => ⟨S32x2048x96768, .f32⟩
  | .hbm, ⟨47, _⟩ => ⟨S32x96768x2048, .f32⟩
  | .hbm, ⟨48, _⟩ => ⟨S32x96768x2048, .f32⟩
  | .hbm, ⟨49, _⟩ => ⟨S32x96768x2048, .f32⟩
  | .hbm, ⟨50, _⟩ => ⟨S32x96768x1024, .f32⟩
  | .hbm, ⟨51, _⟩ => ⟨S_, .f32⟩
  | .hbm, ⟨52, _⟩ => ⟨S32x96768x1024, .f32⟩
  | .hbm, ⟨53, _⟩ => ⟨S32x96768x1024, .f32⟩
  | .hbm, ⟨54, _⟩ => ⟨S32x96768x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S32x96768x1024, .f32⟩
  | .hbm, ⟨59, _⟩ => ⟨S32x96768x1024, .f32⟩
  | .hbm, ⟨60, _⟩ => ⟨S_, .f32⟩
  | .hbm, ⟨61, _⟩ => ⟨S32x96768x1024, .f32⟩
  | .hbm, ⟨62, _⟩ => ⟨S32x96768x1024, .f32⟩
  | .hbm, ⟨63, _⟩ => ⟨S_, .f32⟩
  | .hbm, ⟨64, _⟩ => ⟨S32x96768x1024, .f32⟩
  | .hbm, ⟨65, _⟩ => ⟨S32x96768x1024, .f32⟩
  | .hbm, ⟨66, _⟩ => ⟨S32x96768x1024, .f32⟩
  | .hbm, ⟨67, _⟩ => ⟨S32x96768x1024, .f32⟩
  | .hbm, ⟨68, _⟩ => ⟨S_, .f32⟩
  | .hbm, ⟨69, _⟩ => ⟨S32x96768x1024, .f32⟩
  | .hbm, ⟨70, _⟩ => ⟨S32x96768x1024, .f32⟩
  | .hbm, ⟨71, _⟩ => ⟨S_, .f32⟩
  | .hbm, ⟨72, _⟩ => ⟨S32x96768x1024, .f32⟩
  | .hbm, ⟨73, _⟩ => ⟨S32x96768x1024, .f32⟩
  | .hbm, ⟨74, _⟩ => ⟨S32x96768x1024, .f32⟩
  | .hbm, ⟨75, _⟩ => ⟨S_, .f32⟩
  | .hbm, ⟨76, _⟩ => ⟨S32x96768x1024, .f32⟩
  | .hbm, ⟨77, _⟩ => ⟨S32x96768x1024, .f32⟩
  | .hbm, ⟨78, _⟩ => ⟨S32x96768x1024, .f32⟩
  | .hbm, ⟨79, _⟩ => ⟨S32x96768x1024, .f32⟩
  | .hbm, ⟨80, _⟩ => ⟨S32x96768x1024, .f32⟩
  | .hbm, ⟨81, _⟩ => ⟨S32x96768x1024, .f32⟩
  | .hbm, ⟨82, _⟩ => ⟨S96768x1024, .f32⟩
  | _, _ => ⟨S189, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_1 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_2 : Ref sig .tc := ⟨.hbm, 55, rfl⟩
abbrev main_cst_3 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v25 : Ref sig .tc := ⟨.hbm, 62, rfl⟩
abbrev main_cst_4 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_5 : Ref sig .tc := ⟨.hbm, 68, rfl⟩
abbrev main_v30 : Ref sig .tc := ⟨.hbm, 69, rfl⟩
abbrev main_v31 : Ref sig .tc := ⟨.hbm, 70, rfl⟩
abbrev main_cst_6 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_7 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩

abbrev nD : Nat := 1
abbrev τ : Topo := Topo.v7x

variable {F : FTy → Type} [FloatOps F]
-- ==== Projection.lean ====
abbrev S16384x1024 : Shape := ⟨2, ![16384, 1024]⟩
abbrev S1x1024 : Shape := ⟨2, ![1, 1024]⟩
abbrev S1024x4096 : Shape := ⟨2, ![1024, 4096]⟩
abbrev S16384x1536 : Shape := ⟨2, ![16384, 1536]⟩
abbrev S16384x512 : Shape := ⟨2, ![16384, 512]⟩
abbrev S1024x8192 : Shape := ⟨2, ![1024, 8192]⟩
abbrev S16384x2048 : Shape := ⟨2, ![16384, 2048]⟩
abbrev S512x1024 : Shape := ⟨2, ![512, 1024]⟩
abbrev S512x1536 : Shape := ⟨2, ![512, 1536]⟩
abbrev S512x512 : Shape := ⟨2, ![512, 512]⟩
abbrev S32x8192 : Shape := ⟨2, ![32, 8192]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S32x512 : Shape := ⟨2, ![32, 512]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S16384x1536, .bf16⟩
  | .hbm, ⟨4, _⟩ => ⟨S16384x512, .bf16⟩
  | .hbm, ⟨5, _⟩ => ⟨S1024x8192, .bf16⟩
  | .hbm, ⟨6, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1536, .bf16⟩
  | .local _ .vmem, ⟨5, _⟩ => ⟨S512x1536, .bf16⟩
  | .local _ .vmem, ⟨6, _⟩ => ⟨S512x512, .bf16⟩
  | .local _ .vmem, ⟨7, _⟩ => ⟨S512x512, .bf16⟩
  | .local _ .vmem, ⟨8, _⟩ => ⟨S32x8192, .bf16⟩
  | .local _ .vmem, ⟨9, _⟩ => ⟨S32x8192, .bf16⟩
  | .local _ .vmem, ⟨10, _⟩ => ⟨S512x2048, .bf16⟩
  | .local _ .vmem, ⟨11, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjectionReferenceIdeal.lean ====
abbrev S16384x1024 : Shape := ⟨2, ![16384, 1024]⟩
abbrev S1x1024 : Shape := ⟨2, ![1, 1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S16384x512 : Shape := ⟨2, ![16384, 512]⟩
abbrev S16384x1536 : Shape := ⟨2, ![16384, 1536]⟩
abbrev S1024x8192 : Shape := ⟨2, ![1024, 8192]⟩
abbrev S16384x2048 : Shape := ⟨2, ![16384, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x4096, .f32⟩
  | .hbm, ⟨19, _⟩ => ⟨S16384x4096, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x1536, .f32⟩
  | .hbm, ⟨27, _⟩ => ⟨S16384x1536, .bf16⟩
  | .hbm, ⟨28, _⟩ => ⟨S16384x512, .f32⟩
  | .hbm, ⟨29, _⟩ => ⟨S16384x512, .bf16⟩
  | .hbm, ⟨30, _⟩ => ⟨S1024x8192, .bf16⟩
  | .hbm, ⟨31, _⟩ => ⟨S16384x2048, .f32⟩
  | .hbm, ⟨32, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.Tile.lean ====
/-
  The attention kernel's body, written once for every block: what one key tile pair does to the
  accumulator and to the running log weight of one query block (`pairStep`), one turn of the walk to
  the left (`walkTurn`), and the body that strings eight query blocks together (`body`). The values
  are named functions (`scores`, `logKeep`, `suffix`, `rowOut`, `rowBar`, …), so that a fact about
  one pair is a fact about all of them.
-/
module

public import proofs.«01_k».proof.Proof.Gen.KernelIdeal

@[expose] public section

noncomputable section

namespace Cert.Attn

open Idealize.ShloMosaic Idealize.SL.Sem
open Cert.KernelIdeal Cert.KernelIdeal.Facts₀ Cert.KernelIdeal.Facts

variable {F : FTy → Type} [FloatOps F]

/-! ## The values -/

/-- The columns of the first head of a lane pair. -/
def firstHead : IVec S256x128 1 :=
  cmpi .slt (iota .tc S256x128 32 [1] iota_S256x128_d1_w32) (broadcast S256x128 64#32)

/-- Ones where the row is at least the column. -/
def tri : FVec F S256x256 .bf16 :=
  truncf .bf16 (select (cmpi .sge (iota .tc S256x256 32 [0] iota_S256x256_d0_w32) (iota .tc S256x256 32 [1] iota_S256x256_d1_w32))
    (broadcast S256x256 (Scalar.ofBits .f32 0x3F800000#32 : F .f32)) (broadcast S256x256 (Scalar.ofBits .f32 0x00000000#32 : F .f32))) bitsLt_bf16_f32

/-- The keys strictly before the query, in the tile both stand in. -/
def before : IVec S256x256 1 :=
  cmpi .slt (iota .tc S256x256 32 [1] iota_S256x256_d1_w32) (iota .tc S256x256 32 [0] iota_S256x256_d0_w32)

/-- The zero tile. -/
def zero : FVec F S256x256 .f32 := broadcast S256x256 (Scalar.ofBits .f32 0x00000000#32 : F .f32)

/-- The queries of the first head, the other head's columns zeroed, -/
def query0 (q : FVec F S256x128 .bf16) : FVec F S256x128 .bf16 :=
  select firstHead q (broadcast S256x128 (Scalar.ofBits .bf16 0x0000#16 : F .bf16))
/-- and of the second. -/
def query1 (q : FVec F S256x128 .bf16) : FVec F S256x128 .bf16 :=
  select firstHead (broadcast S256x128 (Scalar.ofBits .bf16 0x0000#16 : F .bf16)) q

/-- Scores of a query block against a key tile. -/
def scores (q k : FVec F S256x128 .bf16) : FVec F S256x256 .f32 :=
  matmul dot_S256x128_S256x128_S256x256_1_1_0_0_n_n none q k (constant S256x256 .f32 0x00000000#32)

/-- The log of what a score leaves of the stick. -/
def logKeep (z : FVec F S256x256 .f32) : FVec F S256x256 .f32 :=
  subf zero (addf (maximumf z zero)
    (log (addf (broadcast S256x256 (Scalar.ofBits .f32 0x3F800000#32 : F .f32)) (exp (subf zero (absf z))))))

/-- Sums of the logs over the keys from each key on, the logs split in a high and a low part. -/
def suffix (t : FVec F S256x256 .bf16) (l : FVec F S256x256 .f32) : FVec F S256x256 .f32 :=
  addf
    (matmul dot_S256x256_S256x256_S256x256_1_0_0_1_n_n none (truncf .bf16 l bitsLt_bf16_f32) t (constant S256x256 .f32 0x00000000#32))
    (matmul dot_S256x256_S256x256_S256x256_1_0_0_1_n_n none
      (truncf .bf16 (subf l (extf .f32 (truncf .bf16 l bitsLt_bf16_f32) bitsLt_bf16_f32)) bitsLt_bf16_f32) t (constant S256x256 .f32 0x00000000#32))

/-- The sums over a whole tile: the first column of `suffix`. -/
def total (r : FVec F S256x256 .f32) : FVec F S256x1 .f32 :=
  extractStridedSlice S256x1 ![0, 0] r slices_S256x256_o0_0_S256x1

/-- Weights of a tile, the sums to its right `cb`. -/
def weights (z r : FVec F S256x256 .f32) (cb : FVec F S256x1 .f32) : FVec F S256x256 .f32 :=
  exp (addf (addf z r) (broadcastTo S256x256 cb broadcasts_S256x1_S256x256))

/-- A tile's mask: on the diagonal the keys before the query, elsewhere everything. -/
def masked (diag : Bool) (x : FVec F S256x256 .f32) : FVec F S256x256 .f32 :=
  match diag with
  | true => select before x zero
  | false => x

/-- `suffix` of the right tile of a pair, -/
def sufA (diag : Bool) (t : FVec F S256x256 .bf16) (q kA : FVec F S256x128 .bf16) : FVec F S256x256 .f32 :=
  suffix t (masked diag (logKeep (scores q kA)))
/-- and of the left one, which may be absent. -/
def sufB (t : FVec F S256x256 .bf16) (hasB : BitVec 1) (q kB : FVec F S256x128 .bf16) : FVec F S256x256 .f32 :=
  suffix t (Scalar.select hasB (logKeep (scores q kB)) zero)

/-- The running sums after the right tile, -/
def barA (diag : Bool) (t : FVec F S256x256 .bf16) (q kA : FVec F S256x128 .bf16) (cb : FVec F S256x1 .f32) : FVec F S256x1 .f32 :=
  addf cb (total (sufA diag t q kA))
/-- and after both. -/
def rowBar (diag : Bool) (t : FVec F S256x256 .bf16) (hasB : BitVec 1) (q kA kB : FVec F S256x128 .bf16) (cb : FVec F S256x1 .f32) :
    FVec F S256x1 .f32 :=
  addf (barA diag t q kA cb) (total (sufB t hasB q kB))

/-- A pair's contribution to the output rows. -/
def rowOut (diag : Bool) (t : FVec F S256x256 .bf16) (hasB : BitVec 1) (q kA vA kB vB : FVec F S256x128 .bf16) (cb : FVec F S256x1 .f32) :
    FVec F S256x128 .f32 :=
  addf
    (matmul dot_S256x256_S256x128_S256x128_1_0_0_1_n_n none
      (truncf .bf16 (masked diag (weights (scores q kA) (sufA diag t q kA) cb)) bitsLt_bf16_f32) vA (constant S256x128 .f32 0x00000000#32))
    (matmul dot_S256x256_S256x128_S256x128_1_0_0_1_n_n none
      (truncf .bf16 (Scalar.select hasB (weights (scores q kB) (sufB t hasB q kB) (barA diag t q kA cb)) zero) bitsLt_bf16_f32) vB
      (constant S256x128 .f32 0x00000000#32))

/-- The largest running sum of a row block. -/
def largest (cb : FVec F S256x1 .f32) : F .f32 :=
  extractAt ![0, 0, 0] (shapeCast S1x1x1 (multiReduction .maximumf [1, 2] S1 (shapeCast S1x256x1 cb shapeCasts_S256x1_S1x256x1)
    0xFF800000#32 reduces_S1x256x1_S1 (.inl rfl) rfl) shapeCasts_S1_S1x1x1) inpos_S1x1x1_p0_0_0

/-- A slab of 256 rows as a tile, -/
def flat {e : FTy} (x : FVec F S1x256x128 e) : FVec F S256x128 e := shapeCast S256x128 x shapeCasts_S1x256x128_S256x128
/-- and back, -/
def slab {e : FTy} (x : FVec F S256x128 e) : FVec F S1x256x128 e := shapeCast S1x256x128 x shapeCasts_S256x128_S1x256x128
/-- and the same of a column. -/
def flatCol (x : FVec F S1x256x1 .f32) : FVec F S256x1 .f32 := shapeCast S256x1 x shapeCasts_S1x256x1_S256x1
/-- A column as a slab. -/
def slabCol (x : FVec F S256x1 .f32) : FVec F S1x256x1 .f32 := shapeCast S1x256x1 x shapeCasts_S256x1_S1x256x1

/-- Whether the walk goes on. -/
def goesOn (thr : F .f32) (a b : FVec F S256x1 .f32) : BitVec 1 :=
  Scalar.xori (Scalar.cmpf .olt (Scalar.maximumf (largest a) (largest b)) thr) 1#1

/-! ## The programs -/

section Programs

variable {nD : Nat} {τ : Topo} {sig : RefSig} {Λ : Labels}

/-- Where a query block's slab of the accumulator lies. -/
theorem inb_acc (s : Fin 8) : ∀ a, (![s.val, 0, 0] : Fin 3 → Nat) a + S1x256x128.size a ≤ S8x256x128.size a := by
  revert s; decide
/-- Where a row of running sums lies. -/
theorem inb_bar (s : Fin 16) : ∀ a, (![s.val, 0, 0] : Fin 3 → Nat) a + S1x256x1.size a ≤ S16x256x1.size a := by
  revert s; decide
/-- Where a query block lies in its window. -/
theorem inb_out (s : Fin 8) : ∀ a, (![0, 256 * s.val, 0] : Fin 3 → Nat) a + S1x256x128.size a ≤ S1x2048x128.size a := by
  revert s; decide

/-- The running sums of query block `s`: its first head's row, -/
def row0 (s : Fin 8) : Fin 16 := ⟨2 * s.val, by omega⟩
/-- and its second's. -/
def row1 (s : Fin 8) : Fin 16 := ⟨2 * s.val + 1, by omega⟩

variable (q0 q1 : FVec F S256x128 .bf16) (t : FVec F S256x256 .bf16) (h0 : IVec S256x128 1) (hasB : BitVec 1) (diag : Bool)

/-- The half of a pair's work that is one head's: the running sums read, and written with the pair's
    added. It yields what the pair adds to the output and the new sums. -/
def headStep (bars : Memref sig .tc .vmem S16x256x1 .f32) (s : Fin 16) (q kA vA kB vB : FVec F S256x128 .bf16) :
    Prog (TpuEff nD τ sig (Elt F) Λ .tc) (FVec F S256x128 .f32 × FVec F S256x1 .f32) := do
  let c : Vec F S1x256x1 .f32 ← Prog.lift (.load bars (Rect.unit (s := S16x256x1) ![s.val, 0, 0] S1x256x1.size (inb_bar s)).toLoadRect (View.loadsAt_vmem h_S1x256x1))
  let _c : Vec F S1x256x1 .f32 ← Prog.lift (.load bars (Rect.unit (s := S16x256x1) ![s.val, 0, 0] S1x256x1.size (inb_bar s)).toLoadRect (View.loadsAt_vmem h_S1x256x1))
  Prog.lift (.store bars (Rect.unit (s := S16x256x1) ![s.val, 0, 0] S1x256x1.size (inb_bar s)) (slabCol (rowBar diag t hasB q kA kB (flatCol c))) Finset.univ
    (View.stores_vmem_bits_univ h_S1x256x1 rfl) (.inl rfl))
  pure (rowOut diag t hasB q kA vA kB vB (flatCol c), rowBar diag t hasB q kA kB (flatCol c))

/-- One pair of key tiles, worked into query block `s`. -/
def pairStep (thr : F .f32) (keys vals : Memref sig .tc .vmem S1x4096x128 .bf16) (acc : Memref sig .tc .vmem S8x256x128 .f32)
    (bars : Memref sig .tc .vmem S16x256x1 .f32) (offA offB : Fin 3 → Nat)
    (hA : ∀ a, offA a + S1x256x128.size a ≤ S1x4096x128.size a) (hB : ∀ a, offB a + S1x256x128.size a ≤ S1x4096x128.size a)
    (s : Fin 8) :
    Prog (TpuEff nD τ sig (Elt F) Λ .tc) (BitVec 1) := do
  let kA : Vec F S1x256x128 .bf16 ← Prog.lift (.load keys (Rect.unit (s := S1x4096x128) offA S1x256x128.size hA).toLoadRect (View.loadsAt_vmem h_S1x256x128))
  let vA : Vec F S1x256x128 .bf16 ← Prog.lift (.load vals (Rect.unit (s := S1x4096x128) offA S1x256x128.size hA).toLoadRect (View.loadsAt_vmem h_S1x256x128))
  let kB : Vec F S1x256x128 .bf16 ← Prog.lift (.load keys (Rect.unit (s := S1x4096x128) offB S1x256x128.size hB).toLoadRect (View.loadsAt_vmem h_S1x256x128))
  let vB : Vec F S1x256x128 .bf16 ← Prog.lift (.load vals (Rect.unit (s := S1x4096x128) offB S1x256x128.size hB).toLoadRect (View.loadsAt_vmem h_S1x256x128))
  let r0 ← headStep t hasB diag bars (row0 s) q0 (flat kA) (flat vA) (flat kB) (flat vB)
  let r1 ← headStep t hasB diag bars (row1 s) q1 (flat kA) (flat vA) (flat kB) (flat vB)
  let o : Vec F S1x256x128 .f32 ← Prog.lift (.load acc (Rect.unit (s := S8x256x128) ![s.val, 0, 0] S1x256x128.size (inb_acc s)).toLoadRect (View.loadsAt_vmem h_S1x256x128))
  let _o : Vec F S1x256x128 .f32 ← Prog.lift (.load acc (Rect.unit (s := S8x256x128) ![s.val, 0, 0] S1x256x128.size (inb_acc s)).toLoadRect (View.loadsAt_vmem h_S1x256x128))
  Prog.lift (.store acc (Rect.unit (s := S8x256x128) ![s.val, 0, 0] S1x256x128.size (inb_acc s)) (slab (addf (flat o) (select h0 r0.1 r1.1))) Finset.univ
    (View.stores_vmem_bits_univ h_S1x256x128 rfl) (.inl rfl))
  pure (goesOn thr r0.2 r1.2)

/-- One turn of the walk to the left from key tile `kt`. -/
def walkTurn (thr : F .f32) (keys vals : Memref sig .tc .vmem S1x4096x128 .bf16) (acc : Memref sig .tc .vmem S8x256x128 .f32)
    (bars : Memref sig .tc .vmem S16x256x1 .f32) (s : Fin 8) (kt : BitVec 32) (live : BitVec 1)
    (again : BitVec 32 → BitVec 1 → Prog (TpuEff nD τ sig (Elt F) Λ .tc) (BitVec 32 × BitVec 1)) :
    Prog (TpuEff nD τ sig (Elt F) Λ .tc) (BitVec 32 × BitVec 1) := do
  if Scalar.andi (Scalar.cmpi .sge kt 0#32) live = 1#1 then do
    let hw : PLift (k0_chk1 kt) ← Prog.lift (TpuEff.assume (k0_chk1 kt) (k0_chk1.dec kt))
    let on ← pairStep q0 q1 t h0 (Scalar.cmpi .sge kt 1#32) false thr keys vals acc bars (k0_off3 kt) (k0_off4 kt)
      (k0_off3_inb kt hw.down) (k0_off4_inb kt hw.down) s
    again (Scalar.subi kt 2#32) on
  else pure (kt, live)

/-- The key tile query block `s` stands in. -/
def ownTile (i : grid0.Coords) (s : BitVec 32) : BitVec 32 := Scalar.addi (Scalar.muli (BitVec.ofNat 32 (i 2).val) 8#32) s

/-- The first pair of query block `s`: its own tile and the one to its left. It yields whether the
    walk goes on and the block's queries. -/
def firstPair (thr : F .f32) (i : grid0.Coords) (qs : Memref sig .tc .vmem S1x2048x128 .bf16)
    (keys vals : Memref sig .tc .vmem S1x4096x128 .bf16) (acc : Memref sig .tc .vmem S8x256x128 .f32)
    (bars : Memref sig .tc .vmem S16x256x1 .f32) (s : Fin 8) :
    Prog (TpuEff nD τ sig (Elt F) Λ .tc) (BitVec 1 × FVec F S256x128 .bf16) := do
  let q : Vec F S1x256x128 .bf16 ← Prog.lift (.load qs (Rect.unit (s := S1x2048x128) ![0, 256 * s.val, 0] S1x256x128.size (inb_out s)).toLoadRect (View.loadsAt_vmem h_S1x256x128))
  let on ← pairStep (query0 (flat q)) (query1 (flat q)) tri firstHead (Scalar.cmpi .sge (ownTile i (BitVec.ofNat 32 s.val)) 1#32) true thr keys vals acc bars
    (k0_off1 i (BitVec.ofNat 32 s.val)) (k0_off2 i (BitVec.ofNat 32 s.val)) (k0_off1_inb i s) (k0_off2_inb i s) s
  pure (on, flat q)

/-- Where a query block's result is stored: whole words of the window. -/
theorem packed_out (s : Fin 8) :
    (Rect.unit (s := S1x2048x128) ![0, 256 * s.val, 0] S1x256x128.size (inb_out s)).PackedRows (EltTy.packing .bf16) := by
  revert s; decide

/-- The rest of query block `s`: the walk, and the accumulated rows stored rounded. -/
def finish (i : grid0.Coords) (acc : Memref sig .tc .vmem S8x256x128 .f32)
    (out : Memref sig .tc .vmem S1x2048x128 .bf16) (hout : out.IsWhole) (s : Fin 8)
    (walk : FVec F S256x128 .bf16 → FVec F S256x128 .bf16 → FVec F S256x256 .bf16 → IVec S256x128 1 → BitVec 32 → BitVec 1 →
      Prog (TpuEff nD τ sig (Elt F) Λ .tc) (BitVec 32 × BitVec 1))
    (p : BitVec 1 × FVec F S256x128 .bf16) :
    Prog (TpuEff nD τ sig (Elt F) Λ .tc) PUnit := do
  let _r ← walk (query0 p.2) (query1 p.2) tri firstHead (Scalar.subi (ownTile i (BitVec.ofNat 32 s.val)) 2#32) p.1
  let o : Vec F S1x256x128 .f32 ← Prog.lift (.load acc (Rect.unit (s := S8x256x128) ![s.val, 0, 0] S1x256x128.size (inb_acc s)).toLoadRect (View.loadsAt_vmem h_S1x256x128))
  let _u : Vec F S1x256x128 .bf16 ← Prog.lift (.load out (Rect.unit (s := S1x2048x128) ![0, 256 * s.val, 0] S1x256x128.size (inb_out s)).toLoadRect (View.loadsAt_vmem h_S1x256x128))
  Prog.lift (.store out (Rect.unit (s := S1x2048x128) ![0, 256 * s.val, 0] S1x256x128.size (inb_out s)) (slab (truncf .bf16 (flat o) bitsLt_bf16_f32)) Finset.univ
    (View.stores_vmem h_S1x256x128 (hout.storeExact_slice rfl _ (packed_out s)) (fun _ => rfl)) (.inl rfl))

/-- What a query block's walk is called with. -/
abbrev Walk (nD : Nat) (τ : Topo) (sig : RefSig) (Λ : Labels) (F : FTy → Type) : Type 1 :=
  FVec F S256x128 .bf16 → FVec F S256x128 .bf16 → FVec F S256x256 .bf16 → IVec S256x128 1 → BitVec 32 → BitVec 1 →
      Prog (TpuEff nD τ sig (Elt F) Λ .tc) (BitVec 32 × BitVec 1)

/-- The scratch zeroed. -/
def clear (acc : Memref sig .tc .vmem S8x256x128 .f32) (bars : Memref sig .tc .vmem S16x256x1 .f32) :
    Prog (TpuEff nD τ sig (Elt F) Λ .tc) PUnit := do
  let _a : Vec F S8x256x128 .f32 ← Prog.lift (.load acc (Rect.unit (s := S8x256x128) ![0, 0, 0] S8x256x128.size inb_S8x256x128_S8x256x128_0_0_0).toLoadRect (View.loadsAt_vmem h_S8x256x128))
  Prog.lift (.store acc (Rect.unit (s := S8x256x128) ![0, 0, 0] S8x256x128.size inb_S8x256x128_S8x256x128_0_0_0)
    (shapeCast S8x256x128 (broadcast S8x256x128 (Scalar.ofBits .f32 0x00000000#32 : F .f32)) shapeCasts_S8x256x128_S8x256x128) Finset.univ
    (View.stores_vmem_bits_univ h_S8x256x128 rfl) (.inl rfl))
  let _b : Vec F S16x256x1 .f32 ← Prog.lift (.load bars (Rect.unit (s := S16x256x1) ![0, 0, 0] S16x256x1.size inb_S16x256x1_S16x256x1_0_0_0).toLoadRect (View.loadsAt_vmem h_S16x256x1))
  Prog.lift (.store bars (Rect.unit (s := S16x256x1) ![0, 0, 0] S16x256x1.size inb_S16x256x1_S16x256x1_0_0_0)
    (shapeCast S16x256x1 (broadcast S16x256x1 (Scalar.ofBits .f32 0x00000000#32 : F .f32)) shapeCasts_S16x256x1_S16x256x1) Finset.univ
    (View.stores_vmem_bits_univ h_S16x256x1 rfl) (.inl rfl))

/-- The body: the scratch zeroed, the first pair of each of the eight query blocks, then the rest of each. -/
def body (thr : F .f32) (i : grid0.Coords) (qs : Memref sig .tc .vmem S1x2048x128 .bf16)
    (keys vals : Memref sig .tc .vmem S1x4096x128 .bf16) (out : Memref sig .tc .vmem S1x2048x128 .bf16) (hout : out.IsWhole)
    (acc : Memref sig .tc .vmem S8x256x128 .f32) (bars : Memref sig .tc .vmem S16x256x1 .f32)
    (walk : Fin 8 → Walk nD τ sig Λ F) :
    Prog (TpuEff nD τ sig (Elt F) Λ .tc) PUnit := do
  clear acc bars
  let p0 ← firstPair thr i qs keys vals acc bars 0
  let p1 ← firstPair thr i qs keys vals acc bars 1
  let p2 ← firstPair thr i qs keys vals acc bars 2
  let p3 ← firstPair thr i qs keys vals acc bars 3
  let p4 ← firstPair thr i qs keys vals acc bars 4
  let p5 ← firstPair thr i qs keys vals acc bars 5
  let p6 ← firstPair thr i qs keys vals acc bars 6
  let p7 ← firstPair thr i qs keys vals acc bars 7
  finish i acc out hout 0 (walk 0) p0
  finish i acc out hout 1 (walk 1) p1
  finish i acc out hout 2 (walk 2) p2
  finish i acc out hout 3 (walk 3) p3
  finish i acc out hout 4 (walk 4) p4
  finish i acc out hout 5 (walk 5) p5
  finish i acc out hout 6 (walk 6) p6
  finish i acc out hout 7 (walk 7) p7
  pure ⟨⟩

end Programs

end Cert.Attn

end
-- ==== Proof.Steps.lean ====
/-
  What the pieces of the attention body do to memory: the scratch held as families (a 256-row tile per
  query block, a column of running sums per head and query block), one pair of key tiles worked into a
  query block (`pairStep_wp`), the walk to the left (`walk_wp`), and the body (`body_wp`).
-/
module

public import proofs.«01_k».proof.Proof.Tile
public import Idealize.ShloMosaic.Lib.VecWindow
public import Idealize.ShloMosaic.Lib.Tactic

@[expose] public section

noncomputable section

namespace Cert.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

/-! ## Loads and stores of a whole memref -/

section Owned

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ} (𝒱 : Variants)
variable (c : Dev nD) (bd : Option 𝒱.V) (E : Set Name) {s : Shape} {e : EltTy}

local notation "𝕄" => MT nD τ sig Ix Val Name U Lvl

/-- A load from a memref held whole: a window of what it reads. -/
theorem load_wp {m : Memref sig .tc .vmem s e} {off size : Fin s.rank → ℕ} (inb : ∀ a, off a + size a ≤ s.size a)
    {hl : m.view.LoadsAt (Rect.unit off size inb).toLoadRect} (q : PosShare TreeShare) (X : s.Idx → Val e)
    (Q : ((Rect.unit off size inb).toLoadRect.shape.Idx → Val e) → sProp 𝕄) :
    iprop(owns (c : Thread nD τ) m q X ∗ (owns (c : Thread nD τ) m q X -∗ Q (VecWindow.window X off size inb)))
      ⊢ wp frame (wpE defs 𝒱 (c : Thread nD τ) bd) E (Prog.lift (.load m (Rect.unit off size inb).toLoadRect hl)) Q := by
  unfold owns Prog.lift
  iintro ⟨⟨%f, %hf, H⟩, Hk⟩
  subst hf
  iapply (wp_load 𝒱 (c : Thread nD τ) bd E (m := m) (View.setOn_subset_set _ _)) $$ H
  iintro H
  rw [View.readAt_unit m.view f inb rfl inb]
  rw [wp_ret]; imodintro
  iapply Hk
  iexists f
  isplitr
  · ipureintro; rfl
  iexact H

/-- A store into a memref held whole: what it reads, with the window replaced. -/
theorem store_wp {m : Memref sig .tc .vmem s e} {off size : Fin s.rank → ℕ} (inb : ∀ a, off a + size a ≤ s.size a)
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1} (X : s.Idx → Val e) (Q : PUnit → sProp 𝕄) :
    iprop(owns (c : Thread nD τ) m fullShare X ∗ (owns (c : Thread nD τ) m fullShare (VecWindow.put X off size w) -∗ Q ⟨⟩))
      ⊢ wp frame (wpE defs 𝒱 (c : Thread nD τ) bd) E (Prog.lift (.store m (Rect.unit off size inb) w Finset.univ hx hm)) Q := by
  unfold owns Prog.lift
  iintro ⟨⟨%f, %hf, H⟩, Hk⟩
  subst hf
  iapply (wp_store_writes₀ 𝒱 (c : Thread nD τ) bd E (m := m) (r := Rect.unit off size inb) (w := w) (m.setOn_access_subset _ _)) $$ H
  iintro H
  rw [wp_ret]; imodintro
  iapply Hk
  iexists m.view.writes Val f [⟨Rect.unit off size inb, w⟩]
  isplitr
  · ipureintro
    rw [View.read_writes_cons_put m.view f inb w [] rfl, View.writes_nil]
  iexact H

end Owned

/-! ## The scratch as families -/

section Families

variable {F : FTy → Type} [FloatOps F]

/-- The tile of query block `s` in the accumulator. -/
def accAt (A : S8x256x128.Idx → F .f32) (s : Fin 8) : FVec F S256x128 .f32 :=
  flat (VecWindow.window (s := S8x256x128) A ![s.val, 0, 0] S1x256x128.size (inb_acc s))
/-- The column of running sums of row `r`. -/
def barAt (B : S16x256x1.Idx → F .f32) (r : Fin 16) : FVec F S256x1 .f32 :=
  flatCol (VecWindow.window (s := S16x256x1) B ![r.val, 0, 0] S1x256x1.size (inb_bar r))
/-- The block of queries, or of results, of query block `s`. -/
def blockAt (O : S1x2048x128.Idx → F .bf16) (s : Fin 8) : FVec F S256x128 .bf16 :=
  flat (VecWindow.window (s := S1x2048x128) O ![0, 256 * s.val, 0] S1x256x128.size (inb_out s))

theorem inb_key (n : ℕ) (hn : n < 16) : ∀ a, (![0, 256 * n, 0] : Fin 3 → Nat) a + S1x256x128.size a ≤ S1x4096x128.size a := by
  intro a; fin_cases a
  · show 0 + 1 ≤ 1; omega
  · show 256 * n + 256 ≤ 4096; omega
  · show 0 + 128 ≤ 128; omega
/-- The `n`-th tile of keys, or of values (the tiles counted round). -/
def keyAt (K : S1x4096x128.Idx → F .bf16) (n : ℕ) : FVec F S256x128 .bf16 :=
  flat (VecWindow.window (s := S1x4096x128) K ![0, 256 * (n % 16), 0] S1x256x128.size (inb_key (n % 16) (Nat.mod_lt _ (by decide))))

theorem flat_slab {e : FTy} (x : FVec F S256x128 e) : flat (slab x) = x := by
  funext y
  exact congrArg x ((Shape.reshapeEquiv_symm _) ▸ Equiv.symm_apply_apply (Shape.reshapeEquiv _) y)
theorem slab_flat {e : FTy} (x : FVec F S1x256x128 e) : slab (flat x) = x := by
  funext y
  exact congrArg x ((Shape.reshapeEquiv_symm _) ▸ Equiv.symm_apply_apply (Shape.reshapeEquiv _) y)
theorem flatCol_slabCol (x : FVec F S256x1 .f32) : flatCol (slabCol x) = x := by
  funext y
  exact congrArg x ((Shape.reshapeEquiv_symm _) ▸ Equiv.symm_apply_apply (Shape.reshapeEquiv _) y)

theorem slabCol_flatCol (x : FVec F S1x256x1 .f32) : slabCol (flatCol x) = x := by
  funext y
  exact congrArg x ((Shape.reshapeEquiv_symm _) ▸ Equiv.symm_apply_apply (Shape.reshapeEquiv _) y)

/-! ### What a pair does, and the walk, as functions -/

/-- A query block's tile of the accumulator and its two heads' running sums. -/
structure Row (F : FTy → Type) where
  out : FVec F S256x128 .f32
  bar0 : FVec F S256x1 .f32
  bar1 : FVec F S256x1 .f32

/-- The pair of key tiles `n` and the one to its left, worked into a query block. -/
def pairVal (diag : Bool) (q0 q1 : FVec F S256x128 .bf16) (t : FVec F S256x256 .bf16) (h0 : IVec S256x128 1) (hasB : BitVec 1)
    (kA vA kB vB : FVec F S256x128 .bf16) (r : Row F) : Row F where
  out := addf r.out (select h0 (rowOut diag t hasB q0 kA vA kB vB r.bar0) (rowOut diag t hasB q1 kA vA kB vB r.bar1))
  bar0 := rowBar diag t hasB q0 kA kB r.bar0
  bar1 := rowBar diag t hasB q1 kA kB r.bar1

/-- The same, the tiles named by their number: the left one is masked where there is none. -/
def pairAt (diag : Bool) (q : FVec F S256x128 .bf16) (K V : S1x4096x128.Idx → F .bf16) (n : ℕ) (r : Row F) : Row F :=
  pairVal diag (query0 q) (query1 q) tri firstHead (if 1 ≤ n then 1#1 else 0#1) (keyAt K n) (keyAt V n) (keyAt K (n - 1)) (keyAt V (n - 1)) r

/-- The walk to the left from `j` tiles, two at a time, while `live`. -/
def walkVal (thr : F .f32) (q : FVec F S256x128 .bf16) (K V : S1x4096x128.Idx → F .bf16) : ℕ → BitVec 1 → Row F → Row F
  | n + 2, live, r =>
    if live = 1#1 then
      walkVal thr q K V n (goesOn thr (pairAt false q K V n r).bar0 (pairAt false q K V n r).bar1) (pairAt false q K V n r)
    else r
  | _, _, r => r

/-- A query block's row before anything is worked into it. -/
def rowZero : Row F := ⟨broadcast S256x128 (Scalar.ofBits .f32 0x00000000#32), broadcast S256x1 (Scalar.ofBits .f32 0x00000000#32),
  broadcast S256x1 (Scalar.ofBits .f32 0x00000000#32)⟩

/-- The row of the query block in tile `j` after its first pair, -/
def rowFirst (q : FVec F S256x128 .bf16) (K V : S1x4096x128.Idx → F .bf16) (j : ℕ) : Row F := pairAt true q K V j rowZero
/-- and after its walk. -/
def rowLast (thr : F .f32) (q : FVec F S256x128 .bf16) (K V : S1x4096x128.Idx → F .bf16) (j : ℕ) : Row F :=
  walkVal thr q K V j (goesOn thr (rowFirst q K V j).bar0 (rowFirst q K V j).bar1) (rowFirst q K V j)

end Families

/-! ## The rules -/

section Rules

variable {F : FTy → Type} [FloatOps F]
variable {nD : Nat} {τ : Topo} {sig : RefSig} {Ix : Type} [DecidableEq Ix] {Name : Type} [DecidableEq Name]
variable {U : Type} [URA U] {Lvl : Type} [Preorder Lvl] {Λ : Labels} {defs : Defs nD τ sig (Elt F) Λ}
variable (c : Dev nD) (bd : Option Variants.nat.V) (E : Set Name)

local notation "𝕄" => MT nD τ sig Ix (Elt F) Name U Lvl
local notation "𝕎" => wp frame (wpE defs Variants.nat (c : Thread nD τ) bd) E

/-- The accumulator held, query block `s`'s tile at `a s`. -/
def accHeld (acc : Memref sig .tc .vmem S8x256x128 .f32) (a : Fin 8 → FVec F S256x128 .f32) : sProp 𝕄 :=
  iprop(∃ A : S8x256x128.Idx → F .f32, ⌜∀ s, accAt A s = a s⌝ ∗ owns (c : Thread nD τ) acc fullShare A)
/-- The running sums held, row `r` at `b r`. -/
def barsHeld (bars : Memref sig .tc .vmem S16x256x1 .f32) (b : Fin 16 → FVec F S256x1 .f32) : sProp 𝕄 :=
  iprop(∃ B : S16x256x1.Idx → F .f32, ⌜∀ r, barAt B r = b r⌝ ∗ owns (c : Thread nD τ) bars fullShare B)
/-- The result's window held, query block `s`'s rows at `o s`. -/
def outHeld (out : Memref sig .tc .vmem S1x2048x128 .bf16) (o : Fin 8 → FVec F S256x128 .bf16) : sProp 𝕄 :=
  iprop(∃ O : S1x2048x128.Idx → F .bf16, ⌜∀ s, blockAt O s = o s⌝ ∗ owns (c : Thread nD τ) out fullShare O)

variable {acc : Memref sig .tc .vmem S8x256x128 .f32} {bars : Memref sig .tc .vmem S16x256x1 .f32}
  {out : Memref sig .tc .vmem S1x2048x128 .bf16} {keys vals : Memref sig .tc .vmem S1x4096x128 .bf16} {qs : Memref sig .tc .vmem S1x2048x128 .bf16}

theorem bar_load_wp (r : Fin 16) {hl} (b : Fin 16 → FVec F S256x1 .f32) (Q : FVec F S1x256x1 .f32 → sProp 𝕄) :
    iprop(barsHeld c bars b ∗ (barsHeld c bars b -∗ Q (slabCol (b r))))
      ⊢ 𝕎 (Prog.lift (.load bars (Rect.unit (s := S16x256x1) ![r.val, 0, 0] S1x256x1.size (inb_bar r)).toLoadRect hl)) Q := by
  unfold barsHeld
  iintro ⟨⟨%B, %hB, H⟩, Hk⟩
  iapply (load_wp Variants.nat c bd E (inb_bar r) fullShare B Q)
  isplitl [H]; · iexact H
  iintro H
  have e : VecWindow.window (s := S16x256x1) B ![r.val, 0, 0] S1x256x1.size (inb_bar r) = slabCol (b r) := by
    rw [← hB r]; exact (slabCol_flatCol _).symm
  rw [e]
  iapply Hk
  iexists B
  isplitr; · ipureintro; exact hB
  iexact H

theorem bar_store_wp (r : Fin 16) (x : FVec F S256x1 .f32) {hx hm} (b : Fin 16 → FVec F S256x1 .f32) (Q : PUnit → sProp 𝕄) :
    iprop(barsHeld c bars b ∗ (barsHeld c bars (Function.update b r x) -∗ Q ⟨⟩))
      ⊢ 𝕎 (Prog.lift (.store bars (Rect.unit (s := S16x256x1) ![r.val, 0, 0] S1x256x1.size (inb_bar r)) (slabCol x) Finset.univ hx hm)) Q := by
  unfold barsHeld
  iintro ⟨⟨%B, %hB, H⟩, Hk⟩
  iapply (store_wp Variants.nat c bd E (inb_bar r) B Q)
  isplitl [H]; · iexact H
  iintro H
  iapply Hk
  iexists VecWindow.put (s := S16x256x1) B ![r.val, 0, 0] S1x256x1.size (slabCol x)
  isplitr
  · ipureintro
    intro r'
    by_cases h : r' = r
    · subst h
      rw [Function.update_self]
      show flatCol _ = _
      rw [VecWindow.window_put_same, flatCol_slabCol]
    · rw [Function.update_of_ne h, ← hB r']
      show flatCol _ = flatCol _
      rw [VecWindow.window_put_of_disjoint (s := S16x256x1) B _ _ _ _ (inb_bar r') _ (0 : Fin 3)]
      show r'.val + 1 ≤ r.val ∨ r.val + 1 ≤ r'.val
      have : r'.val ≠ r.val := fun e => h (Fin.ext e)
      omega
  iexact H

theorem acc_load_wp (s : Fin 8) {hl} (a : Fin 8 → FVec F S256x128 .f32) (Q : FVec F S1x256x128 .f32 → sProp 𝕄) :
    iprop(accHeld c acc a ∗ (accHeld c acc a -∗ Q (slab (a s))))
      ⊢ 𝕎 (Prog.lift (.load acc (Rect.unit (s := S8x256x128) ![s.val, 0, 0] S1x256x128.size (inb_acc s)).toLoadRect hl)) Q := by
  unfold accHeld
  iintro ⟨⟨%A, %hA, H⟩, Hk⟩
  iapply (load_wp Variants.nat c bd E (inb_acc s) fullShare A Q)
  isplitl [H]; · iexact H
  iintro H
  have e : VecWindow.window (s := S8x256x128) A ![s.val, 0, 0] S1x256x128.size (inb_acc s) = slab (a s) := by
    rw [← hA s]; exact (slab_flat _).symm
  rw [e]
  iapply Hk
  iexists A
  isplitr; · ipureintro; exact hA
  iexact H

theorem acc_store_wp (s : Fin 8) (x : FVec F S256x128 .f32) {hx hm} (a : Fin 8 → FVec F S256x128 .f32) (Q : PUnit → sProp 𝕄) :
    iprop(accHeld c acc a ∗ (accHeld c acc (Function.update a s x) -∗ Q ⟨⟩))
      ⊢ 𝕎 (Prog.lift (.store acc (Rect.unit (s := S8x256x128) ![s.val, 0, 0] S1x256x128.size (inb_acc s)) (slab x) Finset.univ hx hm)) Q := by
  unfold accHeld
  iintro ⟨⟨%A, %hA, H⟩, Hk⟩
  iapply (store_wp Variants.nat c bd E (inb_acc s) A Q)
  isplitl [H]; · iexact H
  iintro H
  iapply Hk
  iexists VecWindow.put (s := S8x256x128) A ![s.val, 0, 0] S1x256x128.size (slab x)
  isplitr
  · ipureintro
    intro s'
    by_cases h : s' = s
    · subst h
      rw [Function.update_self]
      show flat _ = _
      rw [VecWindow.window_put_same, flat_slab]
    · rw [Function.update_of_ne h, ← hA s']
      show flat _ = flat _
      rw [VecWindow.window_put_of_disjoint (s := S8x256x128) A _ _ _ _ (inb_acc s') _ (0 : Fin 3)]
      show s'.val + 1 ≤ s.val ∨ s.val + 1 ≤ s'.val
      have : s'.val ≠ s.val := fun e => h (Fin.ext e)
      omega
  iexact H

theorem out_store_wp (s : Fin 8) (x : FVec F S256x128 .bf16) {hx hm} (o : Fin 8 → FVec F S256x128 .bf16) (Q : PUnit → sProp 𝕄) :
    iprop(outHeld c out o ∗ (outHeld c out (Function.update o s x) -∗ Q ⟨⟩))
      ⊢ 𝕎 (Prog.lift (.store out (Rect.unit (s := S1x2048x128) ![0, 256 * s.val, 0] S1x256x128.size (inb_out s)) (slab x) Finset.univ hx hm)) Q := by
  unfold outHeld
  iintro ⟨⟨%O, %hO, H⟩, Hk⟩
  iapply (store_wp Variants.nat c bd E (inb_out s) O Q)
  isplitl [H]; · iexact H
  iintro H
  iapply Hk
  iexists VecWindow.put (s := S1x2048x128) O ![0, 256 * s.val, 0] S1x256x128.size (slab x)
  isplitr
  · ipureintro
    intro s'
    by_cases h : s' = s
    · subst h
      rw [Function.update_self]
      show flat _ = _
      rw [VecWindow.window_put_same, flat_slab]
    · rw [Function.update_of_ne h, ← hO s']
      show flat _ = flat _
      rw [VecWindow.window_put_of_disjoint (s := S1x2048x128) O _ _ _ _ (inb_out s') _ (1 : Fin 3)]
      show 256 * s'.val + 256 ≤ 256 * s.val ∨ 256 * s.val + 256 ≤ 256 * s'.val
      have : s'.val ≠ s.val := fun e => h (Fin.ext e)
      omega
  iexact H

theorem out_load_wp (s : Fin 8) {hl} (o : Fin 8 → FVec F S256x128 .bf16) (Q : FVec F S1x256x128 .bf16 → sProp 𝕄) :
    iprop(outHeld c out o ∗ (outHeld c out o -∗ Q (slab (o s))))
      ⊢ 𝕎 (Prog.lift (.load out (Rect.unit (s := S1x2048x128) ![0, 256 * s.val, 0] S1x256x128.size (inb_out s)).toLoadRect hl)) Q := by
  unfold outHeld
  iintro ⟨⟨%O, %hO, H⟩, Hk⟩
  iapply (load_wp Variants.nat c bd E (inb_out s) fullShare O Q)
  isplitl [H]; · iexact H
  iintro H
  have e : VecWindow.window (s := S1x2048x128) O ![0, 256 * s.val, 0] S1x256x128.size (inb_out s) = slab (o s) := by
    rw [← hO s]; exact (slab_flat _).symm
  rw [e]
  iapply Hk
  iexists O
  isplitr; · ipureintro; exact hO
  iexact H

/-- A tile of keys, or of values, at an offset that is the tile's. -/
theorem key_load_wp (n : ℕ) (off : Fin 3 → ℕ) (inb : ∀ a, off a + S1x256x128.size a ≤ S1x4096x128.size a) (hoff : off = ![0, 256 * (n % 16), 0])
    {hl} (q : PosShare TreeShare) (K : S1x4096x128.Idx → F .bf16) (Q : FVec F S1x256x128 .bf16 → sProp 𝕄) :
    iprop(owns (c : Thread nD τ) keys q K ∗ (owns (c : Thread nD τ) keys q K -∗ Q (slab (keyAt K n))))
      ⊢ 𝕎 (Prog.lift (.load keys (Rect.unit (s := S1x4096x128) off S1x256x128.size inb).toLoadRect hl)) Q := by
  subst hoff
  have e : VecWindow.window (s := S1x4096x128) K ![0, 256 * (n % 16), 0] S1x256x128.size inb = slab (keyAt K n) := (slab_flat _).symm
  rw [← e]
  iintro H
  iapply (load_wp Variants.nat c bd E inb q K _) $$ H

/-- One head's half of a pair. -/
theorem headStep_wp (t : FVec F S256x256 .bf16) (hasB : BitVec 1) (diag : Bool) (r : Fin 16) (q kA vA kB vB : FVec F S256x128 .bf16)
    (b : Fin 16 → FVec F S256x1 .f32) (Q : FVec F S256x128 .f32 × FVec F S256x1 .f32 → sProp 𝕄) :
    iprop(barsHeld c bars b ∗ (barsHeld c bars (Function.update b r (rowBar diag t hasB q kA kB (b r)))
        -∗ Q (rowOut diag t hasB q kA vA kB vB (b r), rowBar diag t hasB q kA kB (b r))))
      ⊢ 𝕎 (headStep t hasB diag bars r q kA vA kB vB) Q := by
  unfold headStep
  simp only [wp_bind]
  iintro ⟨H, Hk⟩
  iapply (bar_load_wp c bd E r b _)
  isplitl [H]; · iexact H
  iintro H
  iapply (bar_load_wp c bd E r b _)
  isplitl [H]; · iexact H
  iintro H
  rw [flatCol_slabCol]
  iapply (bar_store_wp c bd E r _ b _)
  isplitl [H]; · iexact H
  iintro H
  rw [wp_pure]; imodintro
  iapply Hk
  iexact H

/-! ### The rows -/

/-- The running sums of a family of rows, as the scratch holds them. -/
def barsOf (R : Fin 8 → Row F) : Fin 16 → FVec F S256x1 .f32 := fun r =>
  if r.val % 2 = 0 then (R ⟨r.val / 2, by omega⟩).bar0 else (R ⟨r.val / 2, by omega⟩).bar1

theorem barsOf_row0 (R : Fin 8 → Row F) (s : Fin 8) : barsOf R (row0 s) = (R s).bar0 := by
  have h : (row0 s).val % 2 = 0 := by show 2 * s.val % 2 = 0; omega
  have e : (⟨(row0 s).val / 2, by omega⟩ : Fin 8) = s := Fin.ext (by show 2 * s.val / 2 = s.val; omega)
  unfold barsOf; rw [if_pos h, e]
theorem barsOf_row1 (R : Fin 8 → Row F) (s : Fin 8) : barsOf R (row1 s) = (R s).bar1 := by
  have h : ¬(row1 s).val % 2 = 0 := by show ¬(2 * s.val + 1) % 2 = 0; omega
  have e : (⟨(row1 s).val / 2, by omega⟩ : Fin 8) = s := Fin.ext (by show (2 * s.val + 1) / 2 = s.val; omega)
  unfold barsOf; rw [if_neg h, e]
theorem row1_ne_row0 (s s' : Fin 8) : row1 s ≠ row0 s' := fun h => by
  have : 2 * s.val + 1 = 2 * s'.val := congrArg Fin.val h
  omega
theorem barsOf_update (R : Fin 8 → Row F) (s : Fin 8) (r : Row F) :
    Function.update (Function.update (barsOf R) (row0 s) r.bar0) (row1 s) r.bar1 = barsOf (Function.update R s r) := by
  funext x
  have hx : x = row0 ⟨x.val / 2, by omega⟩ ∨ x = row1 ⟨x.val / 2, by omega⟩ := by
    rcases Nat.mod_two_eq_zero_or_one x.val with h | h
    · exact .inl (Fin.ext (by show x.val = 2 * (x.val / 2); omega))
    · exact .inr (Fin.ext (by show x.val = 2 * (x.val / 2) + 1; omega))
  generalize (⟨x.val / 2, by omega⟩ : Fin 8) = s' at hx
  have inj0 : row0 s' = row0 s → s' = s := fun h => Fin.ext (by have : 2 * s'.val = 2 * s.val := congrArg Fin.val h; omega)
  have inj1 : row1 s' = row1 s → s' = s := fun h => Fin.ext (by have : 2 * s'.val + 1 = 2 * s.val + 1 := congrArg Fin.val h; omega)
  rcases hx with rfl | rfl
  · rw [barsOf_row0, Function.update_of_ne (row1_ne_row0 _ _).symm]
    by_cases h : s' = s
    · subst h; rw [Function.update_self, Function.update_self]
    · rw [Function.update_of_ne (fun e => h (inj0 e)), Function.update_of_ne h, barsOf_row0]
  · rw [barsOf_row1]
    by_cases h : s' = s
    · subst h; rw [Function.update_self, Function.update_self]
    · rw [Function.update_of_ne (fun e => h (inj1 e)), Function.update_of_ne (row1_ne_row0 _ _), Function.update_of_ne h, barsOf_row1]
theorem outs_update (R : Fin 8 → Row F) (s : Fin 8) (r : Row F) :
    Function.update (fun s => (R s).out) s r.out = fun s' => (Function.update R s r s').out := by
  funext s'
  by_cases h : s' = s
  · subst h; rw [Function.update_self, Function.update_self]
  · rw [Function.update_of_ne h, Function.update_of_ne h]

/-- The scratch held, the rows at `R`. -/
def rowsHeld (acc : Memref sig .tc .vmem S8x256x128 .f32) (bars : Memref sig .tc .vmem S16x256x1 .f32) (R : Fin 8 → Row F) : sProp 𝕄 :=
  iprop(accHeld c acc (fun s => (R s).out) ∗ barsHeld c bars (barsOf R))

/-- Keys and values held, at any shares. -/
def keysHeld (keys vals : Memref sig .tc .vmem S1x4096x128 .bf16) (qk qv : PosShare TreeShare) (K V : S1x4096x128.Idx → F .bf16) : sProp 𝕄 :=
  iprop(owns (c : Thread nD τ) keys qk K ∗ owns (c : Thread nD τ) vals qv V)

/-- One pair of key tiles, worked into query block `s`. -/
theorem pairStep_wp (q0 q1 : FVec F S256x128 .bf16) (t : FVec F S256x256 .bf16) (h0 : IVec S256x128 1) (hasB : BitVec 1) (diag : Bool) (thr : F .f32)
    (offA offB : Fin 3 → ℕ) (hA : ∀ a, offA a + S1x256x128.size a ≤ S1x4096x128.size a) (hB : ∀ a, offB a + S1x256x128.size a ≤ S1x4096x128.size a)
    (n n' : ℕ) (eA : offA = ![0, 256 * (n % 16), 0]) (eB : offB = ![0, 256 * (n' % 16), 0]) (s : Fin 8)
    (qk qv : PosShare TreeShare) (K V : S1x4096x128.Idx → F .bf16) (R : Fin 8 → Row F) (r : Row F)
    (hr : r = pairVal diag q0 q1 t h0 hasB (keyAt K n) (keyAt V n) (keyAt K n') (keyAt V n') (R s)) (Q : BitVec 1 → sProp 𝕄) :
    iprop(keysHeld c keys vals qk qv K V ∗ rowsHeld c acc bars R
        ∗ (keysHeld c keys vals qk qv K V -∗ rowsHeld c acc bars (Function.update R s r) -∗ Q (goesOn thr r.bar0 r.bar1)))
      ⊢ 𝕎 (pairStep q0 q1 t h0 hasB diag thr keys vals acc bars offA offB hA hB s) Q := by
  subst hr
  unfold pairStep keysHeld rowsHeld
  simp only [wp_bind]
  iintro ⟨⟨Hk, Hv⟩, ⟨Ha, Hb⟩, HQ⟩
  iapply (key_load_wp c bd E n offA hA eA qk K _)
  isplitl [Hk]; · iexact Hk
  iintro Hk
  iapply (key_load_wp c bd E n offA hA eA qv V _)
  isplitl [Hv]; · iexact Hv
  iintro Hv
  iapply (key_load_wp c bd E n' offB hB eB qk K _)
  isplitl [Hk]; · iexact Hk
  iintro Hk
  iapply (key_load_wp c bd E n' offB hB eB qv V _)
  isplitl [Hv]; · iexact Hv
  iintro Hv
  simp only [flat_slab]
  iapply (headStep_wp c bd E t hasB diag (row0 s) q0 _ _ _ _ _ _)
  isplitl [Hb]; · iexact Hb
  iintro Hb
  iapply (headStep_wp c bd E t hasB diag (row1 s) q1 _ _ _ _ _ _)
  isplitl [Hb]; · iexact Hb
  iintro Hb
  iapply (acc_load_wp c bd E s _ _)
  isplitl [Ha]; · iexact Ha
  iintro Ha
  iapply (acc_load_wp c bd E s _ _)
  isplitl [Ha]; · iexact Ha
  iintro Ha
  iapply (acc_store_wp c bd E s _ _ _)
  isplitl [Ha]; · iexact Ha
  iintro Ha
  simp only [Function.update_of_ne (row1_ne_row0 s s), barsOf_row0, barsOf_row1, flat_slab]
  rw [wp_pure]; imodintro
  rw [← barsOf_update, ← outs_update]
  simp only [pairVal]
  iapply HQ $$ [Hk Hv] [Ha Hb]
  · isplitl [Hk]; · iexact Hk
    iexact Hv
  · isplitl [Ha]; · iexact Ha
    iexact Hb

/-! ### The walk -/

/-- The tile the walk stands at with `j` tiles counted from two before the first. -/
def tileOf (j : ℕ) : BitVec 32 := BitVec.ofNat 32 j - 2#32

theorem tileOf_stop : ∀ j : Fin 18, j.val < 2 → ∀ l : BitVec 1, ¬Scalar.andi (Scalar.cmpi .sge (tileOf j.val) 0#32) l = 1#1 := by decide
theorem tileOf_go : ∀ j : Fin 18, 2 ≤ j.val → ∀ l : BitVec 1, Scalar.andi (Scalar.cmpi .sge (tileOf j.val) 0#32) l = l := by decide
theorem tileOf_hasB : ∀ j : Fin 18, 2 ≤ j.val → Scalar.cmpi .sge (tileOf j.val) 1#32 = if 1 ≤ j.val - 2 then 1#1 else 0#1 := by decide
theorem tileOf_next : ∀ j : Fin 18, 2 ≤ j.val → Scalar.subi (tileOf j.val) 2#32 = tileOf (j.val - 2) := by decide
theorem tileOf_off3 : ∀ j : Fin 18, 2 ≤ j.val → k0_off3 (tileOf j.val) = ![0, 256 * ((j.val - 2) % 16), 0] := by decide
theorem tileOf_off4 : ∀ j : Fin 18, 2 ≤ j.val → k0_off4 (tileOf j.val) = ![0, 256 * ((j.val - 2 - 1) % 16), 0] := by decide
theorem tileOf_dvd : ∀ j : Fin 18, 2 ≤ j.val → 256 ∣ (k0_mult17 (tileOf j.val)).toNat ∧ 256 ∣ (k0_mult18 (tileOf j.val)).toNat := by decide
theorem tileOf_chk (j : Fin 18) (hj : 2 ≤ j.val) : k0_chk1 (tileOf j.val) := by
  refine ⟨(tileOf_dvd j hj).1, (tileOf_dvd j hj).2, ?_, ?_⟩
  · rw [tileOf_off3 j hj]; exact inb_key _ (Nat.mod_lt _ (by decide))
  · rw [tileOf_off4 j hj]; exact inb_key _ (Nat.mod_lt _ (by decide))

theorem walkVal_stop (thr : F .f32) (q : FVec F S256x128 .bf16) (K V : S1x4096x128.Idx → F .bf16) (j : ℕ) (live : BitVec 1) (r : Row F)
    (h : j < 2 ∨ ¬live = 1#1) : walkVal thr q K V j live r = r := by
  match j, h with
  | 0, _ => rfl
  | 1, _ => rfl
  | n + 2, .inr h => simp only [walkVal, if_neg h]
theorem walkVal_go (thr : F .f32) (q : FVec F S256x128 .bf16) (K V : S1x4096x128.Idx → F .bf16) (j : ℕ) (hj : 2 ≤ j) (r : Row F) :
    walkVal thr q K V j 1#1 r
      = walkVal thr q K V (j - 2) (goesOn thr (pairAt false q K V (j - 2) r).bar0 (pairAt false q K V (j - 2) r).bar1) (pairAt false q K V (j - 2) r) := by
  match j, hj with
  | n + 2, _ => simp only [walkVal, if_true, Nat.add_sub_cancel]

/-- A call of the walk is a turn of it, at any variant below. -/
def Calls (defs : Defs nD τ sig (Elt F) Λ) (c : Dev nD) (E : Set Name) (Ix : Type) [DecidableEq Ix] (U : Type) [URA U] (Lvl : Type) [Preorder Lvl]
    (thr : F .f32) (keys vals : Memref sig .tc .vmem S1x4096x128 .bf16) (acc : Memref sig .tc .vmem S8x256x128 .f32)
    (bars : Memref sig .tc .vmem S16x256x1 .f32) (walk : Fin 8 → Walk nD τ sig Λ F) : Prop :=
  ∀ (s : Fin 8) (q0 q1 : FVec F S256x128 .bf16) (t : FVec F S256x256 .bf16) (h0 : IVec S256x128 1) (bd : Option ℕ) (v : ℕ), (∀ u ∈ bd, v < u) →
    ∀ (kt : BitVec 32) (live : BitVec 1) (Q : BitVec 32 × BitVec 1 → sProp (MT nD τ sig Ix (Elt F) Name U Lvl)),
      wp frame (wpE defs Variants.nat (c : Thread nD τ) (some v)) E (walkTurn q0 q1 t h0 thr keys vals acc bars s kt live (walk s q0 q1 t h0)) Q
        ⊢ wp frame (wpE defs Variants.nat (c : Thread nD τ) bd) E (walk s q0 q1 t h0 kt live) Q

variable {walk : Fin 8 → Walk nD τ sig Λ F} {thr : F .f32}

/-- The walk of query block `s` from `j` tiles. -/
theorem walk_wp (hcall : Calls defs c E Ix U Lvl thr keys vals acc bars walk) (s : Fin 8) (q : FVec F S256x128 .bf16)
    (qk qv : PosShare TreeShare) (K V : S1x4096x128.Idx → F .bf16) :
    ∀ (k j : ℕ), j ≤ 2 * k + 1 → j < 18 → ∀ (live : BitVec 1) (R : Fin 8 → Row F) (Q : BitVec 32 × BitVec 1 → sProp 𝕄),
      iprop(keysHeld c keys vals qk qv K V ∗ rowsHeld c acc bars R
          ∗ (∀ x, keysHeld c keys vals qk qv K V -∗ rowsHeld c acc bars (Function.update R s (walkVal thr q K V j live (R s))) -∗ Q x))
        ⊢ wp frame (wpE defs Variants.nat (c : Thread nD τ) (some k)) E
            (walkTurn (query0 q) (query1 q) tri firstHead thr keys vals acc bars s (tileOf j) live (walk s (query0 q) (query1 q) tri firstHead)) Q := by
  have stop : ∀ (k j : ℕ), j < 18 → ∀ (live : BitVec 1), (j < 2 ∨ ¬live = 1#1) → ∀ (R : Fin 8 → Row F) (Q : BitVec 32 × BitVec 1 → sProp 𝕄),
      iprop(keysHeld c keys vals qk qv K V ∗ rowsHeld c acc bars R
          ∗ (∀ x, keysHeld c keys vals qk qv K V -∗ rowsHeld c acc bars (Function.update R s (walkVal thr q K V j live (R s))) -∗ Q x))
        ⊢ wp frame (wpE defs Variants.nat (c : Thread nD τ) (some k)) E
            (walkTurn (query0 q) (query1 q) tri firstHead thr keys vals acc bars s (tileOf j) live (walk s (query0 q) (query1 q) tri firstHead)) Q := by
    intro k j hj live h R Q
    have hc : ¬Scalar.andi (Scalar.cmpi .sge (tileOf j) 0#32) live = 1#1 := by
      by_cases h2 : j < 2
      · exact tileOf_stop ⟨j, hj⟩ h2 live
      · rw [tileOf_go ⟨j, hj⟩ (Nat.le_of_not_lt h2) live]
        exact h.resolve_left h2
    unfold walkTurn
    rw [if_neg hc, walkVal_stop thr q K V j live _ h, Function.update_eq_self]
    iintro ⟨Hk, Hr, HQ⟩
    rw [wp_pure]; imodintro
    iapply HQ $$ Hk Hr
  intro k
  induction k with
  | zero => intro j hj hj' live R Q; exact stop 0 j hj' live (.inl (by omega)) R Q
  | succ k ih =>
    intro j hj hj' live R Q
    by_cases h : j < 2 ∨ ¬live = 1#1
    · exact stop (k + 1) j hj' live h R Q
    have h2 : 2 ≤ j := Nat.le_of_not_lt fun e => h (.inl e)
    have hl : live = 1#1 := Classical.not_not.1 fun e => h (.inr e)
    subst hl
    unfold walkTurn
    rw [if_pos (tileOf_go ⟨j, hj'⟩ h2 1#1), walkVal_go thr q K V j h2]
    simp only [wp_bind]
    iintro ⟨Hk, Hr, HQ⟩
    iapply (wp_assume Variants.nat (c : Thread nD τ) (some (k + 1)) E (tileOf_chk ⟨j, hj'⟩ h2))
    rw [wp_ret]; imodintro
    iapply (pairStep_wp c (some (k + 1)) E _ _ _ _ _ _ thr _ _ _ _ (j - 2) (j - 2 - 1) (tileOf_off3 ⟨j, hj'⟩ h2) (tileOf_off4 ⟨j, hj'⟩ h2) s qk qv K V R
      (pairAt false q K V (j - 2) (R s)) (by rw [tileOf_hasB ⟨j, hj'⟩ h2]; rfl) _)
    isplitl [Hk]; · iexact Hk
    isplitl [Hr]; · iexact Hr
    iintro Hk Hr
    iapply (hcall s _ _ _ _ (some (k + 1)) k (fun u hu => by cases hu; exact Nat.lt_succ_self k) _ _ _)
    rw [tileOf_next ⟨j, hj'⟩ h2]
    iapply (ih (j - 2) (by omega) (by omega) _ _ _)
    isplitl [Hk]; · iexact Hk
    isplitl [Hr]; · iexact Hr
    iintro %x Hk Hr
    rw [Function.update_self, Function.update_idem]
    iapply HQ $$ Hk Hr

end Rules

end Cert.Attn

end
-- ==== Proof.Body.lean ====
/-
  The whole body of the attention kernel as one rule (`body_wp`): from the windows' blocks of queries,
  keys and values, the result's window ends at the rows of its eight query blocks, each the rounded
  accumulator after its walk (`blockOut`).
-/
module

public import proofs.«01_k».proof.Proof.Steps

@[expose] public section

noncomputable section

namespace Cert.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

/-! ## Tile numbers -/

/-- The tile query block `s` stands in, at a grid point. -/
def tileNo (i : grid0.Coords) (s : Fin 8) : ℕ := 8 * (i 2).val + s.val

theorem tileNo_lt (i : grid0.Coords) (s : Fin 8) : tileNo i s < 16 := by
  have h : (i 2).val < 2 := (i 2).isLt
  unfold tileNo; omega

theorem ownTile_words : ∀ (p : Fin 2) (s : Fin 8),
    Scalar.addi (Scalar.muli (BitVec.ofNat 32 p.val) 8#32) (BitVec.ofNat 32 s.val) = BitVec.ofNat 32 (8 * p.val + s.val) := by decide
theorem ownTile_eq (i : grid0.Coords) (s : Fin 8) : ownTile i (BitVec.ofNat 32 s.val) = BitVec.ofNat 32 (tileNo i s) :=
  ownTile_words ⟨(i 2).val, (i 2).isLt⟩ s
theorem hasB_words : ∀ j : Fin 16, Scalar.cmpi .sge (BitVec.ofNat 32 j.val) 1#32 = if 1 ≤ j.val then 1#1 else 0#1 := by decide
theorem hasB_eq (i : grid0.Coords) (s : Fin 8) :
    Scalar.cmpi .sge (ownTile i (BitVec.ofNat 32 s.val)) 1#32 = if 1 ≤ tileNo i s then 1#1 else 0#1 := by
  rw [ownTile_eq]; exact hasB_words ⟨tileNo i s, tileNo_lt i s⟩
theorem walkStart_eq (i : grid0.Coords) (s : Fin 8) : Scalar.subi (ownTile i (BitVec.ofNat 32 s.val)) 2#32 = tileOf (tileNo i s) := by
  rw [ownTile_eq]; rfl
theorem off1_words : ∀ j : Fin 16,
    (![0, (Scalar.indexCast (Scalar.muli (BitVec.ofNat 32 j.val) 256#32) : Index).toNat, 0] : Fin 3 → ℕ) = ![0, 256 * (j.val % 16), 0] := by decide
theorem off1_eq (i : grid0.Coords) (s : Fin 8) : k0_off1 i (BitVec.ofNat 32 s.val) = ![0, 256 * (tileNo i s % 16), 0] := by
  have h : k0_off1 i (BitVec.ofNat 32 s.val)
      = ![0, (Scalar.indexCast (Scalar.muli (ownTile i (BitVec.ofNat 32 s.val)) 256#32) : Index).toNat, 0] := rfl
  rw [h, ownTile_eq]; exact off1_words ⟨tileNo i s, tileNo_lt i s⟩
theorem off2_words : ∀ j : Fin 16,
    (![0, (Scalar.indexCast (Scalar.muli (Scalar.maxsi (Scalar.subi (BitVec.ofNat 32 j.val) 1#32) 0#32) 256#32) : Index).toNat, 0] : Fin 3 → ℕ)
      = ![0, 256 * ((j.val - 1) % 16), 0] := by decide
theorem off2_eq (i : grid0.Coords) (s : Fin 8) : k0_off2 i (BitVec.ofNat 32 s.val) = ![0, 256 * ((tileNo i s - 1) % 16), 0] := by
  have h : k0_off2 i (BitVec.ofNat 32 s.val)
      = ![0, (Scalar.indexCast (Scalar.muli (Scalar.maxsi (Scalar.subi (ownTile i (BitVec.ofNat 32 s.val)) 1#32) 0#32) 256#32) : Index).toNat, 0] := rfl
  rw [h, ownTile_eq]; exact off2_words ⟨tileNo i s, tileNo_lt i s⟩

/-! ## Families stepped one query block at a time -/

/-- A family that is `g` on the first `n` query blocks and `f` on the rest. -/
def upTo {α : Type} (f g : Fin 8 → α) (n : ℕ) : Fin 8 → α := fun s => if s.val < n then g s else f s

theorem upTo_at {α : Type} (f g : Fin 8 → α) (s : Fin 8) : upTo f g s.val s = f s := if_neg (Nat.lt_irrefl _)
theorem upTo_zero {α : Type} (f g : Fin 8 → α) : upTo f g 0 = f := funext fun _ => if_neg (Nat.not_lt_zero _)
theorem upTo_all {α : Type} (f g : Fin 8 → α) : upTo f g 8 = g := funext fun s => if_pos s.isLt
theorem upTo_update {α : Type} (f g : Fin 8 → α) (s : Fin 8) : Function.update (upTo f g s.val) s (g s) = upTo f g (s.val + 1) := by
  funext s'
  by_cases h : s' = s
  · subst h; rw [Function.update_self]; exact (if_pos (Nat.lt_succ_self _)).symm
  · rw [Function.update_of_ne h]
    have hv : s'.val ≠ s.val := fun e => h (Fin.ext e)
    unfold upTo
    by_cases h' : s'.val < s.val
    · rw [if_pos h', if_pos (Nat.lt_succ_of_lt h')]
    · rw [if_neg h', if_neg (by omega)]

/-! ## The rules -/

variable {F : FTy → Type} [FloatOps F]

/-- The result rows of query block `s`. -/
def blockOut (thr : F .f32) (i : grid0.Coords) (X : S1x2048x128.Idx → F .bf16) (K V : S1x4096x128.Idx → F .bf16) (s : Fin 8) : FVec F S256x128 .bf16 :=
  truncf .bf16 (rowLast thr (blockAt X s) K V (tileNo i s)).out bitsLt_bf16_f32

section Rules

variable {nD : Nat} {τ : Topo} {sig : RefSig} {Ix : Type} [DecidableEq Ix] {Name : Type} [DecidableEq Name]
variable {U : Type} [URA U] {Lvl : Type} [Preorder Lvl] {Λ : Labels} {defs : Defs nD τ sig (Elt F) Λ}
variable (c : Dev nD) (E : Set Name)

local notation "𝕄" => MT nD τ sig Ix (Elt F) Name U Lvl
local notation "𝕎" => wp frame (wpE defs Variants.nat (c : Thread nD τ) none) E

variable {acc : Memref sig .tc .vmem S8x256x128 .f32} {bars : Memref sig .tc .vmem S16x256x1 .f32}
  {out : Memref sig .tc .vmem S1x2048x128 .bf16} {hout : out.IsWhole} {keys vals : Memref sig .tc .vmem S1x4096x128 .bf16} {qs : Memref sig .tc .vmem S1x2048x128 .bf16}
  {walk : Fin 8 → Walk nD τ sig Λ F} {thr : F .f32} (i : grid0.Coords)
  (qx qk qv : PosShare TreeShare) (X : S1x2048x128.Idx → F .bf16) (K V : S1x4096x128.Idx → F .bf16)

/-- The rows after the first pairs, -/
def firsts : Fin 8 → Row F := fun s => rowFirst (blockAt X s) K V (tileNo i s)
/-- and after the walks. -/
def lasts (thr : F .f32) : Fin 8 → Row F := fun s => rowLast thr (blockAt X s) K V (tileNo i s)
/-- What a query block's walk starts with: whether it goes on, and the queries. -/
def startOf (thr : F .f32) (s : Fin 8) : BitVec 1 × FVec F S256x128 .bf16 :=
  (goesOn thr (firsts i X K V s).bar0 (firsts i X K V s).bar1, blockAt X s)

/-- Everything the body holds: the three input windows, and the scratch's rows. -/
def allHeld (qs : Memref sig .tc .vmem S1x2048x128 .bf16) (keys vals : Memref sig .tc .vmem S1x4096x128 .bf16)
    (acc : Memref sig .tc .vmem S8x256x128 .f32) (bars : Memref sig .tc .vmem S16x256x1 .f32) (R : Fin 8 → Row F) : sProp 𝕄 :=
  iprop(owns (c : Thread nD τ) qs qx X ∗ keysHeld c keys vals qk qv K V ∗ rowsHeld c acc bars R)

theorem firstPair_wp (s : Fin 8) (Q : BitVec 1 × FVec F S256x128 .bf16 → sProp 𝕄) :
    iprop(allHeld c qx qk qv X K V qs keys vals acc bars (upTo (fun _ => rowZero) (firsts i X K V) s.val)
        ∗ (allHeld c qx qk qv X K V qs keys vals acc bars (upTo (fun _ => rowZero) (firsts i X K V) (s.val + 1)) -∗ Q (startOf i X K V thr s)))
      ⊢ 𝕎 (firstPair thr i qs keys vals acc bars s) Q := by
  unfold firstPair allHeld startOf blockAt
  simp only [wp_bind]
  iintro ⟨⟨Hq, Hk, Hr⟩, HQ⟩
  iapply (load_wp Variants.nat c none E (inb_out s) qx X _)
  isplitl [Hq]; · iexact Hq
  iintro Hq
  iapply (pairStep_wp c none E _ _ _ _ _ _ thr _ _ _ _ (tileNo i s) (tileNo i s - 1) (off1_eq i s) (off2_eq i s) s qk qv K V
    (upTo (fun _ => rowZero) (firsts i X K V) s.val) (firsts i X K V s) (by rw [hasB_eq, upTo_at]; rfl) _)
  isplitl [Hk]; · iexact Hk
  isplitl [Hr]; · iexact Hr
  rw [upTo_update]
  iintro Hk Hr
  rw [wp_pure]; imodintro
  iapply HQ
  isplitl [Hq]; · iexact Hq
  isplitl [Hk]; · iexact Hk
  iexact Hr

theorem finish_wp (hcall : Calls defs c E Ix U Lvl thr keys vals acc bars walk) (s : Fin 8) (o : Fin 8 → FVec F S256x128 .bf16) (Q : PUnit → sProp 𝕄) :
    iprop(allHeld c qx qk qv X K V qs keys vals acc bars (upTo (firsts i X K V) (lasts i X K V thr) s.val)
        ∗ outHeld c out (upTo o (blockOut thr i X K V) s.val)
        ∗ (allHeld c qx qk qv X K V qs keys vals acc bars (upTo (firsts i X K V) (lasts i X K V thr) (s.val + 1))
            -∗ outHeld c out (upTo o (blockOut thr i X K V) (s.val + 1)) -∗ Q ⟨⟩))
      ⊢ 𝕎 (finish i acc out hout s (walk s) (startOf i X K V thr s)) Q := by
  unfold finish allHeld
  simp only [wp_bind]
  iintro ⟨⟨Hq, Hk, Hr⟩, Ho, HQ⟩
  iapply (hcall s _ _ _ _ none 8 (fun u hu => by cases hu) _ _ _)
  rw [walkStart_eq]
  have hj := tileNo_lt i s
  iapply (walk_wp c E hcall s (blockAt X s) qk qv K V 8 (tileNo i s) (by omega) (by omega) _ _ _)
  isplitl [Hk]; · iexact Hk
  isplitl [Hr]; · iexact Hr
  iintro %x Hk Hr
  have e : walkVal thr (blockAt X s) K V (tileNo i s) (startOf i X K V thr s).1 (upTo (firsts i X K V) (lasts i X K V thr) s.val s) = lasts i X K V thr s := by
    rw [upTo_at]; rfl
  rw [e, upTo_update]
  unfold rowsHeld
  icases Hr with ⟨Ha, Hb⟩
  iapply (acc_load_wp c none E s _ _)
  isplitl [Ha]; · iexact Ha
  iintro Ha
  iapply (out_load_wp c none E s _ _)
  isplitl [Ho]; · iexact Ho
  iintro Ho
  rw [flat_slab]
  iapply (out_store_wp c none E s _ _ _)
  isplitl [Ho]; · iexact Ho
  have e' : truncf .bf16 (upTo (firsts i X K V) (lasts i X K V thr) (s.val + 1) s).out bitsLt_bf16_f32 = blockOut thr i X K V s := by
    unfold upTo; rw [if_pos (Nat.lt_succ_self _)]; rfl
  rw [e', upTo_update]
  iintro Ho
  iapply HQ $$ [Hq Hk Ha Hb] Ho
  isplitl [Hq]; · iexact Hq
  isplitl [Hk]; · iexact Hk
  isplitl [Ha]; · iexact Ha
  iexact Hb

theorem put_all {s : Shape} {α : Type} (x w : s.Idx → α) (off : Fin s.rank → ℕ) (h : ∀ a, off a = 0) : VecWindow.put x off s.size w = w := by
  funext y
  unfold VecWindow.put
  rw [dif_pos (fun a => ⟨by rw [h a]; exact Nat.zero_le _, by rw [h a, Nat.zero_add]; exact (y a).isLt⟩)]
  exact congrArg w (funext fun a => Fin.ext (by show (y a).val - off a = (y a).val; rw [h a, Nat.sub_zero]))

theorem off_zero : ∀ a : Fin 3, (![0, 0, 0] : Fin 3 → ℕ) a = 0 := by decide

theorem clear_wp (A : S8x256x128.Idx → F .f32) (B : S16x256x1.Idx → F .f32) (Q : PUnit → sProp 𝕄) :
    iprop(owns (c : Thread nD τ) acc fullShare A ∗ owns (c : Thread nD τ) bars fullShare B ∗ (rowsHeld c acc bars (fun _ => rowZero) -∗ Q ⟨⟩))
      ⊢ 𝕎 (clear acc bars) Q := by
  unfold clear
  simp only [wp_bind]
  iintro ⟨Ha, Hb, HQ⟩
  iapply (load_wp Variants.nat c none E inb_S8x256x128_S8x256x128_0_0_0 fullShare A _)
  isplitl [Ha]; · iexact Ha
  iintro Ha
  iapply (store_wp Variants.nat c none E inb_S8x256x128_S8x256x128_0_0_0 A _)
  isplitl [Ha]; · iexact Ha
  rw [put_all (s := S8x256x128) _ _ _ off_zero]
  iintro Ha
  iapply (load_wp Variants.nat c none E inb_S16x256x1_S16x256x1_0_0_0 fullShare B _)
  isplitl [Hb]; · iexact Hb
  iintro Hb
  iapply (store_wp Variants.nat c none E inb_S16x256x1_S16x256x1_0_0_0 B _)
  isplitl [Hb]; · iexact Hb
  rw [put_all (s := S16x256x1) _ _ _ off_zero]
  iintro Hb
  iapply HQ
  unfold rowsHeld accHeld barsHeld
  isplitl [Ha]
  · iexists _
    isplitr
    swap; · iexact Ha
    ipureintro; intro s; rfl
  · iexists _
    isplitr
    swap; · iexact Hb
    ipureintro
    intro r
    have : barsOf (fun _ => (rowZero : Row F)) r = broadcast S256x1 (Scalar.ofBits .f32 0x00000000#32) := by
      unfold barsOf; split <;> rfl
    rw [this]; rfl

/-- The body: the scratch and the result's window at anything, the inputs read, the result's window left
    at the eight query blocks' results. -/
theorem body_wp (hcall : Calls defs c E Ix U Lvl thr keys vals acc bars walk) (A : S8x256x128.Idx → F .f32) (B : S16x256x1.Idx → F .f32)
    (O : S1x2048x128.Idx → F .bf16) (Q : PUnit → sProp 𝕄) :
    iprop(owns (c : Thread nD τ) qs qx X ∗ keysHeld c keys vals qk qv K V ∗ owns (c : Thread nD τ) acc fullShare A
        ∗ owns (c : Thread nD τ) bars fullShare B ∗ owns (c : Thread nD τ) out fullShare O
        ∗ (allHeld c qx qk qv X K V qs keys vals acc bars (lasts i X K V thr) -∗ outHeld c out (blockOut thr i X K V) -∗ Q ⟨⟩))
      ⊢ 𝕎 (body thr i qs keys vals out hout acc bars walk) Q := by
  unfold body
  simp only [wp_bind]
  iintro ⟨Hq, Hk, Ha, Hb, Ho, HQ⟩
  iapply (clear_wp c E A B _)
  isplitl [Ha]; · iexact Ha
  isplitl [Hb]; · iexact Hb
  iintro Hr
  ihave H : allHeld c qx qk qv X K V qs keys vals acc bars (upTo (fun _ => rowZero) (firsts i X K V) 0) $$ [Hq Hk Hr]
  · rw [upTo_zero]; unfold allHeld
    isplitl [Hq]; · iexact Hq
    isplitl [Hk]; · iexact Hk
    iexact Hr
  iapply (firstPair_wp c E i qx qk qv X K V (thr := thr) 0 _); isplitl [H]; · iexact H
  iintro H
  iapply (firstPair_wp c E i qx qk qv X K V (thr := thr) 1 _); isplitl [H]; · iexact H
  iintro H
  iapply (firstPair_wp c E i qx qk qv X K V (thr := thr) 2 _); isplitl [H]; · iexact H
  iintro H
  iapply (firstPair_wp c E i qx qk qv X K V (thr := thr) 3 _); isplitl [H]; · iexact H
  iintro H
  iapply (firstPair_wp c E i qx qk qv X K V (thr := thr) 4 _); isplitl [H]; · iexact H
  iintro H
  iapply (firstPair_wp c E i qx qk qv X K V (thr := thr) 5 _); isplitl [H]; · iexact H
  iintro H
  iapply (firstPair_wp c E i qx qk qv X K V (thr := thr) 6 _); isplitl [H]; · iexact H
  iintro H
  iapply (firstPair_wp c E i qx qk qv X K V (thr := thr) 7 _); isplitl [H]; · iexact H
  iintro H
  ihave H : allHeld c qx qk qv X K V qs keys vals acc bars (upTo (firsts i X K V) (lasts i X K V thr) 0) $$ [H]
  · irevert H; rw [show ((7 : Fin 8).val + 1) = 8 from rfl, upTo_all, upTo_zero]; iintro H; iexact H
  ihave Ho : outHeld c out (upTo (blockAt O) (blockOut thr i X K V) 0) $$ [Ho]
  · rw [upTo_zero]; unfold outHeld
    iexists O
    isplitr; · ipureintro; intro s; rfl
    iexact Ho
  iapply (finish_wp c E i qx qk qv X K V hcall 0 _ _); isplitl [H]; · iexact H
  isplitl [Ho]; · iexact Ho
  iintro H Ho
  iapply (finish_wp c E i qx qk qv X K V hcall 1 _ _); isplitl [H]; · iexact H
  isplitl [Ho]; · iexact Ho
  iintro H Ho
  iapply (finish_wp c E i qx qk qv X K V hcall 2 _ _); isplitl [H]; · iexact H
  isplitl [Ho]; · iexact Ho
  iintro H Ho
  iapply (finish_wp c E i qx qk qv X K V hcall 3 _ _); isplitl [H]; · iexact H
  isplitl [Ho]; · iexact Ho
  iintro H Ho
  iapply (finish_wp c E i qx qk qv X K V hcall 4 _ _); isplitl [H]; · iexact H
  isplitl [Ho]; · iexact Ho
  iintro H Ho
  iapply (finish_wp c E i qx qk qv X K V hcall 5 _ _); isplitl [H]; · iexact H
  isplitl [Ho]; · iexact Ho
  iintro H Ho
  iapply (finish_wp c E i qx qk qv X K V hcall 6 _ _); isplitl [H]; · iexact H
  isplitl [Ho]; · iexact Ho
  iintro H Ho
  iapply (finish_wp c E i qx qk qv X K V hcall 7 _ _); isplitl [H]; · iexact H
  isplitl [Ho]; · iexact Ho
  iintro H Ho
  rw [wp_pure]; imodintro
  iapply HQ $$ [H] [Ho]
  · irevert H; rw [show ((7 : Fin 8).val + 1) = 8 from rfl, upTo_all]; iintro H; iexact H
  · irevert Ho; rw [show ((7 : Fin 8).val + 1) = 8 from rfl, upTo_all]; iintro Ho; iexact Ho

end Rules

end Cert.Attn

end
-- ==== Proof.Blocks.lean ====
/-
  The tiles of the kernel's windows read at an index, and the result's window as its eight blocks laid
  one under the other (`joined`).
-/
module

public import proofs.«01_k».proof.Proof.Body
public import Idealize.ShloMosaic.Lib.ValueLayout
public import Idealize.ShloMosaic.Lib.Pointwise.Index

@[expose] public section

noncomputable section

namespace Cert.Attn

open Idealize.ShloMosaic
open Cert.KernelIdeal Cert.KernelIdeal.Facts₀ Cert.KernelIdeal.Facts

variable {F : FTy → Type} [FloatOps F]

theorem flat_apply {e : FTy} (x : FVec F S1x256x128 e) (r : Fin 256) (l : Fin 128) : flat x (ix2 r l) = x (ix3 (0 : Fin 1) r l) :=
  ValueIdx.shapeCast_1ab_ab_apply x _ r l

/-- Row `r` of block `s` is row `256 s + r` of the window. -/
theorem blockAt_apply (O : S1x2048x128.Idx → F .bf16) (s : Fin 8) (r : Fin 256) (l : Fin 128) :
    blockAt O s (ix2 r l) = O (ix3 (0 : Fin 1) (⟨256 * s.val + r.val, by omega⟩ : Fin 2048) l) := by
  unfold blockAt
  rw [flat_apply]
  unfold VecWindow.window
  congr 1
  funext a
  fin_cases a <;> apply Fin.ext
  · rfl
  · exact congrArg (256 * s.val + ·) (Nat.one_mul r.val)
  · show 0 + 1 * l.val = l.val; omega

/-- Row `r` of key tile `n` is row `256 n + r` of the keys. -/
theorem keyAt_apply (K : S1x4096x128.Idx → F .bf16) (n : ℕ) (hn : n < 16) (r : Fin 256) (l : Fin 128) :
    keyAt K n (ix2 r l) = K (ix3 (0 : Fin 1) (⟨256 * n + r.val, by omega⟩ : Fin 4096) l) := by
  unfold keyAt
  rw [flat_apply]
  unfold VecWindow.window
  congr 1
  funext a
  fin_cases a <;> apply Fin.ext
  · rfl
  · show 256 * (n % 16) + 1 * r.val = 256 * n + r.val
    rw [Nat.mod_eq_of_lt hn]; omega
  · show 0 + 1 * l.val = l.val; omega

/-- Eight blocks laid one under the other. -/
def joined (o : Fin 8 → FVec F S256x128 .bf16) : S1x2048x128.Idx → F .bf16 := fun x =>
  o ⟨(x 1).val / 256, Nat.div_lt_of_lt_mul (x 1).isLt⟩ (ix2 (⟨(x 1).val % 256, Nat.mod_lt _ (by decide)⟩ : Fin 256) (⟨(x 2).val, (x 2).isLt⟩ : Fin 128))

theorem eq_joined (O : S1x2048x128.Idx → F .bf16) (o : Fin 8 → FVec F S256x128 .bf16) (h : ∀ s, blockAt O s = o s) : O = joined o := by
  funext x
  unfold joined
  rw [← h, blockAt_apply]
  congr 1
  funext a
  fin_cases a <;> apply Fin.ext
  · show (x 0).val = 0
    have : (x 0).val < 1 := (x 0).isLt
    omega
  · exact (Nat.div_add_mod (x 1).val 256).symm
  · rfl

end Cert.Attn

end
-- ==== Proof.Bits.Text.lean ====
/-
  The printed attention kernel is `Attn.body`: its eight walks are `walkTurn`, one after the other.
-/
module

public import proofs.«01_k».proof.Proof.Tile
public import proofs.«01_k».proof.Proof.Gen.Kernel
public import Idealize.ShloMosaic.Lib.Pipeline.Regions

@[expose] public section

noncomputable section

namespace Cert.Attn.Bits

open Idealize.ShloMosaic Idealize.SL.Sem
open Cert.Kernel Cert.Kernel.Facts₀ Cert.Kernel.Facts

variable {F : FTy → Type} [FloatOps F]

/-- The constant the walk stops below. -/
def thr : F .f32 := Scalar.ofBits .f32 0xC2DC0000#32

variable (i : grid0.Coords) (keys : Memref sig .tc .vmem S1x4096x128 .bf16) (hkeys : keys.IsWhole)
  (vals : Memref sig .tc .vmem S1x4096x128 .bf16) (hvals : vals.IsWhole)
  (bars : Memref sig .tc .vmem S16x256x1 .f32) (hbars : bars.IsWhole)
  (acc : Memref sig .tc .vmem S8x256x128 .f32) (hacc : acc.IsWhole)

/-- The walk of query block `s`: the call of its label. -/
def walk (s : Fin 8) : Walk nD τ sig (Λ₀ F) F := fun q0 q1 t h0 kt live => match s with
  | 0 => Prog.lift (.call (1 : (Λ₀ F).Label) ⟨i, keys, hkeys, vals, hvals, q0, t, bars, hbars, q1, acc, hacc, h0, kt, live⟩)
  | 1 => Prog.lift (.call (2 : (Λ₀ F).Label) ⟨i, keys, hkeys, vals, hvals, q0, t, bars, hbars, q1, acc, hacc, h0, kt, live⟩)
  | 2 => Prog.lift (.call (3 : (Λ₀ F).Label) ⟨i, keys, hkeys, vals, hvals, q0, t, bars, hbars, q1, acc, hacc, h0, kt, live⟩)
  | 3 => Prog.lift (.call (4 : (Λ₀ F).Label) ⟨i, keys, hkeys, vals, hvals, q0, t, bars, hbars, q1, acc, hacc, h0, kt, live⟩)
  | 4 => Prog.lift (.call (5 : (Λ₀ F).Label) ⟨i, keys, hkeys, vals, hvals, q0, t, bars, hbars, q1, acc, hacc, h0, kt, live⟩)
  | 5 => Prog.lift (.call (6 : (Λ₀ F).Label) ⟨i, keys, hkeys, vals, hvals, q0, t, bars, hbars, q1, acc, hacc, h0, kt, live⟩)
  | 6 => Prog.lift (.call (7 : (Λ₀ F).Label) ⟨i, keys, hkeys, vals, hvals, q0, t, bars, hbars, q1, acc, hacc, h0, kt, live⟩)
  | 7 => Prog.lift (.call (8 : (Λ₀ F).Label) ⟨i, keys, hkeys, vals, hvals, q0, t, bars, hbars, q1, acc, hacc, h0, kt, live⟩)

set_option maxRecDepth 65536 in
/-- The printed body is `body` over those walks. -/
theorem body_eq (qs : Memref sig .tc .vmem S1x2048x128 .bf16) (hqs : qs.IsWhole) (out : Memref sig .tc .vmem S1x2048x128 .bf16) (hout : out.IsWhole) :
    cc0_sb_attention (F := F) i qs hqs keys hkeys vals hvals out hout acc hacc bars hbars
      = body thr i qs keys vals out hout acc bars (walk i keys hkeys vals hvals bars hbars acc hacc) := by
  chain_rfl

end Cert.Attn.Bits

end
-- ==== Proof.Ideal.Text.lean ====
/-
  The printed attention kernel is `Attn.body`: its eight walks are `walkTurn`, one after the other.
-/
module

public import proofs.«01_k».proof.Proof.Tile
public import Idealize.ShloMosaic.Lib.Pipeline.Regions

@[expose] public section

noncomputable section

namespace Cert.Attn.Ideal

open Idealize.ShloMosaic Idealize.SL.Sem
open Cert.KernelIdeal Cert.KernelIdeal.Facts₀ Cert.KernelIdeal.Facts

variable {F : FTy → Type} [FloatOps F] [Named F]

/-- The constant the walk stops below. -/
def thr : F .f32 := Named.named κ "underflow" 0xC2DC0000#32

variable (i : grid0.Coords) (keys : Memref sig .tc .vmem S1x4096x128 .bf16) (hkeys : keys.IsWhole)
  (vals : Memref sig .tc .vmem S1x4096x128 .bf16) (hvals : vals.IsWhole)
  (bars : Memref sig .tc .vmem S16x256x1 .f32) (hbars : bars.IsWhole)
  (acc : Memref sig .tc .vmem S8x256x128 .f32) (hacc : acc.IsWhole)

/-- The walk of query block `s`: the call of its label. -/
def walk (s : Fin 8) : Walk nD τ sig (Λ₀ F) F := fun q0 q1 t h0 kt live => match s with
  | 0 => Prog.lift (.call (1 : (Λ₀ F).Label) ⟨i, keys, hkeys, vals, hvals, q0, t, bars, hbars, q1, acc, hacc, h0, kt, live⟩)
  | 1 => Prog.lift (.call (2 : (Λ₀ F).Label) ⟨i, keys, hkeys, vals, hvals, q0, t, bars, hbars, q1, acc, hacc, h0, kt, live⟩)
  | 2 => Prog.lift (.call (3 : (Λ₀ F).Label) ⟨i, keys, hkeys, vals, hvals, q0, t, bars, hbars, q1, acc, hacc, h0, kt, live⟩)
  | 3 => Prog.lift (.call (4 : (Λ₀ F).Label) ⟨i, keys, hkeys, vals, hvals, q0, t, bars, hbars, q1, acc, hacc, h0, kt, live⟩)
  | 4 => Prog.lift (.call (5 : (Λ₀ F).Label) ⟨i, keys, hkeys, vals, hvals, q0, t, bars, hbars, q1, acc, hacc, h0, kt, live⟩)
  | 5 => Prog.lift (.call (6 : (Λ₀ F).Label) ⟨i, keys, hkeys, vals, hvals, q0, t, bars, hbars, q1, acc, hacc, h0, kt, live⟩)
  | 6 => Prog.lift (.call (7 : (Λ₀ F).Label) ⟨i, keys, hkeys, vals, hvals, q0, t, bars, hbars, q1, acc, hacc, h0, kt, live⟩)
  | 7 => Prog.lift (.call (8 : (Λ₀ F).Label) ⟨i, keys, hkeys, vals, hvals, q0, t, bars, hbars, q1, acc, hacc, h0, kt, live⟩)

set_option maxRecDepth 65536 in
/-- The printed body is `body` over those walks. -/
theorem body_eq (qs : Memref sig .tc .vmem S1x2048x128 .bf16) (hqs : qs.IsWhole) (out : Memref sig .tc .vmem S1x2048x128 .bf16) (hout : out.IsWhole) :
    cc0_sb_attention (F := F) i qs hqs keys hkeys vals hvals out hout acc hacc bars hbars
      = body thr i qs keys vals out hout acc bars (walk i keys hkeys vals hvals bars hbars acc hacc) := by
  chain_rfl

end Cert.Attn.Ideal

end
-- ==== Proof.Ideal.Run.lean ====
/-
  The run of the attention kernel with the named constant: at each grid point the body leaves the
  result's window at `outAt`; the inputs' windows keep what was fetched into them.
-/
module

public import proofs.«01_k».proof.Proof.Blocks
public import proofs.«01_k».proof.Proof.Ideal.Text
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Tactic

@[expose] public section

noncomputable section

namespace Cert.Attn.Ideal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat BodyObligation BodyObligationLoose)

variable {F : FTy → Type} [FloatOps F] [Named F]

/-- A call of a walk's label is one turn of the walk. -/
theorem calls (c : Dev nD) (E : Set ℕ) (i : grid0.Coords) (keys : Memref sig .tc .vmem S1x4096x128 .bf16) (hkeys : keys.IsWhole)
    (vals : Memref sig .tc .vmem S1x4096x128 .bf16) (hvals : vals.IsWhole) (bars : Memref sig .tc .vmem S16x256x1 .f32) (hbars : bars.IsWhole)
    (acc : Memref sig .tc .vmem S8x256x128 .f32) (hacc : acc.IsWhole) :
    Calls (defs₀ (F := F)) c E Unit (UR sig nD τ) ℕ thr keys vals acc bars (walk i keys hkeys vals hvals bars hbars acc hacc) := by
  intro s q0 q1 t h0 bd v hv kt live Q
  have hm : wp frame (wpE (defs₀ (F := F)) Variants.nat (c : Thread nD τ) (some v)) E
        (walkTurn q0 q1 t h0 thr keys vals acc bars s kt live (walk i keys hkeys vals hvals bars hbars acc hacc s q0 q1 t h0)) Q
      ⊢ wp frame (wpE (defs₀ (F := F)) Variants.nat (c : Thread nD τ) (some v)) E
        (walkTurn q0 q1 t h0 thr keys vals acc bars s kt live (walk i keys hkeys vals hvals bars hbars acc hacc s q0 q1 t h0))
        (fun x => wp frame (wpE (defs₀ (F := F)) Variants.nat (c : Thread nD τ) bd) E (.ret x) Q) :=
    wp_mono _ _ _ fun x => by rw [wp_ret]; exact fupd_intro
  refine hm.trans ?_
  fin_cases s
  all_goals
    refine BIBase.Entails.trans ?_ (wp_call Variants.nat (c : Thread nD τ) bd E v hv)
    refine Entails.of_eq ?_
    chain_rfl

variable (m : (ℓ : Loc nD τ sig) → Buf (Elt F) ℓ)

/-- The blocks of queries, keys and values at a point, read from the arrays as they were. -/
def queriesIn (c : Dev nD) (t : Fin grid0.N) : S1x2048x128.Idx → F .bf16 :=
  ((win0_0).blk t).view.read (Elt F) (m ((c : Thread nD τ).loc main_arg0))
def keysIn (c : Dev nD) (t : Fin grid0.N) : S1x4096x128.Idx → F .bf16 :=
  ((win0_1).blk t).view.read (Elt F) (m ((c : Thread nD τ).loc main_arg0))
def valuesIn (c : Dev nD) (t : Fin grid0.N) : S1x4096x128.Idx → F .bf16 :=
  ((win0_2).blk t).view.read (Elt F) (m ((c : Thread nD τ).loc main_arg0))

/-- What the body leaves in the result's window. -/
def outAt (c : Dev nD) (t : Fin grid0.N) : S1x2048x128.Idx → F .bf16 :=
  joined (blockOut thr (grid0.coords t) (queriesIn m c t) (keysIn m c t) (valuesIn m c t))

/-- The proof data of the run. -/
def dats (_ : Fin 1) (c : Dev nD) : Dat τ (Elt F) Unit ℕ (UR sig nD τ) ℕ (cfg0 (F := F)) c where
  A w := m (((win0 w).arr.view).loc (c : Thread nD τ))
  after w t := match w with
    | 0 => queriesIn m c t
    | 1 => keysIn m c t
    | 2 => valuesIn m c t
    | 3 => outAt m c t
  Φ _ := Pipeline.ΦA spec0 c
  q w := Pipeline.shareOf spec0 w
  owed _ := 0

theorem before0 (c : Dev nD) (t : Fin grid0.N) (d) : (dats m 0 c).before (0 : Fin 4) t d = queriesIn m c t :=
  (dats m 0 c).before_in_eq_fetched (0 : Fin 4) rfl (fun _ => rfl) (fun _ _ _ => rfl) (fun _ => rfl) t d
theorem before1 (c : Dev nD) (t : Fin grid0.N) (d) : (dats m 0 c).before (1 : Fin 4) t d = keysIn m c t :=
  (dats m 0 c).before_in_eq_fetched (1 : Fin 4) rfl (fun _ => rfl) (fun _ _ _ => rfl) (fun _ => rfl) t d
theorem before2 (c : Dev nD) (t : Fin grid0.N) (d) : (dats m 0 c).before (2 : Fin 4) t d = valuesIn m c t :=
  (dats m 0 c).before_in_eq_fetched (2 : Fin 4) rfl (fun _ => rfl) (fun _ _ _ => rfl) (fun _ => rfl) t d

local notation "𝕄" => MT nD τ sig Unit (Elt F) ℕ (UR sig nD τ) ℕ

/-- The body as the pipeline calls it. -/
theorem body_triple (c : Dev nD) (i : grid0.Coords) (qs : Memref sig .tc .vmem S1x2048x128 .bf16) (hqs : qs.IsWhole)
    (keys : Memref sig .tc .vmem S1x4096x128 .bf16) (hkeys : keys.IsWhole) (vals : Memref sig .tc .vmem S1x4096x128 .bf16) (hvals : vals.IsWhole)
    (out : Memref sig .tc .vmem S1x2048x128 .bf16) (hout : out.IsWhole) (X O : S1x2048x128.Idx → F .bf16) (K V : S1x4096x128.Idx → F .bf16)
    (Q : PUnit → sProp 𝕄) :
    iprop(Pipeline.ΦA spec0 c ∗ owns (c : Thread nD τ) qs fullShare X ∗ owns (c : Thread nD τ) keys fullShare K ∗ owns (c : Thread nD τ) vals fullShare V
        ∗ owns (c : Thread nD τ) out fullShare O
        ∗ (Pipeline.ΦA spec0 c -∗ owns (c : Thread nD τ) qs fullShare X -∗ owns (c : Thread nD τ) keys fullShare K -∗ owns (c : Thread nD τ) vals fullShare V
            -∗ owns (c : Thread nD τ) out fullShare (joined (blockOut thr i X K V)) -∗ Q ⟨⟩))
      ⊢ wp frame (wpE (defs₀ (F := F)) Variants.nat (c : Thread nD τ) none) Set.univ
          (cc0_sb_attention i qs hqs keys hkeys vals hvals out hout (Memref.whole cc0_scratch0) (Memref.isWhole_whole _) (Memref.whole cc0_scratch1) (Memref.isWhole_whole _)) Q := by
  unfold Pipeline.ΦA
  rw [scopedRest0_eq, body_eq]
  iintro ⟨⟨⟨⟨%A, Ha⟩, ⟨%B, Hb⟩⟩, Hρ⟩, Hq, Hk, Hv, Ho, HQ⟩
  iapply (body_wp c Set.univ i fullShare fullShare fullShare X K V (calls c Set.univ i keys hkeys vals hvals _ _ _ _) A B O Q)
  isplitl [Hq]; · iexact Hq
  isplitl [Hk Hv]
  · unfold keysHeld
    isplitl [Hk]; · iexact Hk
    iexact Hv
  isplitl [Ha]; · rw [owns_whole]; iexact Ha
  isplitl [Hb]; · rw [owns_whole]; iexact Hb
  isplitl [Ho]; · iexact Ho
  unfold allHeld keysHeld rowsHeld accHeld barsHeld outHeld
  iintro ⟨Hq, ⟨Hk, Hv⟩, ⟨⟨%A', %hA, Ha⟩, ⟨%B', %hB, Hb⟩⟩⟩ ⟨%O', %hO, Ho⟩
  obtain rfl := eq_joined O' _ hO
  iapply HQ $$ [Ha Hb Hρ] Hq Hk Hv Ho
  isplitr [Hρ]
  swap; · iexact Hρ
  isplitl [Ha]
  · iexists A'; rw [← owns_whole]; iexact Ha
  · iexists B'; rw [← owns_whole]; iexact Hb

theorem body_obligation (c : Dev nD) : BodyObligation (dats m 0 c) (defs₀ (F := F)) Variants.nat () Set.univ := fun t => by
  rw [bigSep_W0, bigSep_W0]
  show iprop(Pipeline.ΦA spec0 c ∗ (dats m 0 c).owesAt () t.castSucc
      ∗ (∃ d, owns (c : Thread nD τ) (st0_0 (F := F) t) fullShare ((dats m 0 c).before (0 : Fin 4) t d))
      ∗ (∃ d, owns (c : Thread nD τ) (st0_1 (F := F) t) fullShare ((dats m 0 c).before (1 : Fin 4) t d))
      ∗ (∃ d, owns (c : Thread nD τ) (st0_2 (F := F) t) fullShare ((dats m 0 c).before (2 : Fin 4) t d))
      ∗ (∃ d, owns (c : Thread nD τ) (st0_3 (F := F) t) fullShare ((dats m 0 c).before (3 : Fin 4) t d)))
    ⊢ wp frame (wpE (defs₀ (F := F)) Variants.nat (c : Thread nD τ) none) Set.univ (bodyAt0 (F := F) t) fun _ =>
        iprop(Pipeline.ΦA spec0 c ∗ (dats m 0 c).owesAt () t.succ
          ∗ owns (c : Thread nD τ) (st0_0 (F := F) t) fullShare (queriesIn m c t)
          ∗ owns (c : Thread nD τ) (st0_1 (F := F) t) fullShare (keysIn m c t)
          ∗ owns (c : Thread nD τ) (st0_2 (F := F) t) fullShare (valuesIn m c t)
          ∗ owns (c : Thread nD τ) (st0_3 (F := F) t) fullShare (outAt m c t))
  iintro ⟨HΦ, Hw, ⟨%d0, H0⟩, ⟨%d1, H1⟩, ⟨%d2, H2⟩, ⟨%d3, H3⟩⟩
  rw [before0, before1, before2]
  iapply (body_triple c (grid0.coords t) _ _ _ _ _ _ _ _ (queriesIn m c t) _ (keysIn m c t) (valuesIn m c t) _)
  isplitl [HΦ]; · iexact HΦ
  isplitl [H0]; · iexact H0
  isplitl [H1]; · iexact H1
  isplitl [H2]; · iexact H2
  isplitl [H3]; · iexact H3
  iintro HΦ H0 H1 H2 H3
  isplitl [HΦ]; · iexact HΦ
  isplitl [Hw]; · iexact Hw
  isplitl [H0]; · iexact H0
  isplitl [H1]; · iexact H1
  isplitl [H2]; · iexact H2
  iexact H3

/-- Every run of @main ends, with no counter left up, and every array at what the library computes of `dats`. -/
theorem run_main (ρ : Dev nD → PrngReg) : θ_run defs (onTc (τ := τ) (main (F := F))) ⟨m, fun _ => 0, ρ⟩
    (fun r => Pipeline.FramePost (cfgs (F := F)) (fun p c => dats m p c) 0 (fun c b => m ((c : Thread nD τ).loc b)) r ∧ r.2.sem = fun _ => 0) :=
  Pipeline.θ_run_frame_shared (cfgs (F := F)) (dats m) (0 : Fin 1) launch₀0 defs₀ Variants.nat m ρ main
    (hbody := fun c => (body_obligation m c).loose) (hq := fun _ _ _ => rfl) (howed := fun _ _ => rfl)
    (V := fun c b => m ((c : Thread nD τ).loc b))
    (hmain := Pipeline.hmain_region (cfgs (F := F)) (0 : Fin 1) defs₀ Variants.nat m main (fun _ => rfl))
    (hA := fun _ _ => rfl) (hΦ := fun _ _ => rfl)
    (Q' := fun r => Pipeline.FramePost (cfgs (F := F)) (fun p c => dats m p c) 0 (fun c b => m ((c : Thread nD τ).loc b)) r ∧ r.2.sem = fun _ => 0)
    (hQ' := fun _ h => h)

/-- The result's array after the run. -/
def finalOut (c : Dev nD) : Buf (Elt F) ((c : Thread nD τ).loc main_v0) := (dats m 0 c).arrAt (3 : Fin 4) (cfg0 (F := F)).N

/-- The run read at the argument, at the result and at the counters. -/
theorem run (ρ : Dev nD → PrngReg) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_v0) = finalOut m c) ∧ r.2.sem = fun _ => 0) :=
  (θ_run defs _ _).mono
    (fun _ h => ⟨fun c => ⟨((h.1 c).1 (0 : Fin 4)).trans ((dats m 0 c).arrAt_in (0 : Fin 4) rfl _), (h.1 c).1 (3 : Fin 4)⟩, h.2⟩)
    (run_main m ρ)

end Cert.Attn.Ideal

end
-- ==== Proof.Frames.lean ====
/- The frames of the three programs and the ledger entry of the named constant. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits.Run
public import proofs.«01_k».proof.Proof.Ideal.Run

@[expose] public section

noncomputable section

namespace Cert.Attn

open Idealize.ShloMosaic Idealize.SL.Sem

theorem frame_kernel : Cert.quiescent_Kernel (hKernel := Cert.Kernel.Gen.facts) := by
  intro m ρ _
  exact (θ_run (Cert.Kernel.defs (F := Bits)) _ _).mono (fun _ h => ⟨fun c => (h.1 c).1, h.2⟩) (Bits.run (F := Idealize.ShloMosaic.Bits) m ρ)

theorem frame_ideal : Cert.quiescent_KernelIdeal (hKernelIdeal := Cert.KernelIdeal.Gen.facts) := by
  intro m ρ _
  exact (θ_run (Cert.KernelIdeal.defs (F := Ideal)) _ _).mono (fun _ h => ⟨fun c => (h.1 c).1, h.2⟩) (Ideal.run (F := Idealize.ShloMosaic.Ideal) m ρ)

theorem frame_reference : Cert.quiescent_ReferenceIdeal (hReferenceIdeal := Cert.ReferenceIdeal.Gen.facts) := by
  intro m ρ _
  exact (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "underflow" .f32 0xC2DC0000#32 ⊥ rfl

end Cert.Attn

end
-- ==== Proof.Logs.lean ====
/-
  The logs of the stick over the extended reals: what a score leaves of it (`keepLog`), what it takes
  (`takeLog`), and why the kernel's exponent, the score plus the log of all that is left from its key on,
  is the reference's, the log of what it takes plus the sum of the later logs (`exponent_eq`).
-/
module

public import Idealize.ShloMosaic.PureOps.Ideal.Laws
public import Idealize.ShloMosaic.Lib.IdealHost

@[expose] public section

noncomputable section

namespace Cert.Attn

open Idealize.ShloMosaic

/-- The log of what a score leaves of the stick. -/
def keepLog (z : EReal) : EReal := 0 - (max z 0 + Ideal.log (1 + Ideal.exp (0 - max z (-z))))

/-- The log of what a score takes of the stick, as a softplus states it. -/
def takeLog (z : EReal) : EReal := -(max (-z) 0 + Ideal.log (1 + Ideal.exp (-max (-z) z)))

/-- The log of one more than an exponential of a real. -/
theorem log_one_add_exp (r : ℝ) : Ideal.log (1 + Ideal.exp (r : EReal)) = ((Real.log (1 + Real.exp r) : ℝ) : EReal) := by
  show Ideal.log ((1 : EReal) + ((Real.exp r : ℝ) : EReal)) = _
  rw [show (1 : EReal) + ((Real.exp r : ℝ) : EReal) = ((1 + Real.exp r : ℝ) : EReal) by push_cast; rfl]
  show (if 1 + Real.exp r ≤ 0 then (⊥ : EReal) else ((Real.log (1 + Real.exp r) : ℝ) : EReal)) = _
  rw [if_neg (by have := Real.exp_pos r; linarith)]

theorem log_one : Ideal.log 1 = 0 := by
  rw [show (1 : EReal) = ((1 : ℝ) : EReal) from rfl]
  show (if (1 : ℝ) ≤ 0 then (⊥ : EReal) else ((Real.log 1 : ℝ) : EReal)) = 0
  rw [if_neg (by norm_num), Real.log_one]; rfl

theorem coe_max' (a b : ℝ) : max (a : EReal) (b : EReal) = ((max a b : ℝ) : EReal) := (EReal.coe_strictMono.monotone.map_max).symm

theorem keepLog_coe (r : ℝ) : keepLog (r : EReal) = ((-(max r 0 + Real.log (1 + Real.exp (-max r (-r)))) : ℝ) : EReal) := by
  unfold keepLog
  rw [← EReal.coe_neg, coe_max', ← EReal.coe_zero, coe_max', ← EReal.coe_sub, log_one_add_exp, ← EReal.coe_add, ← EReal.coe_sub, zero_sub, zero_sub]

theorem keepLog_bot : keepLog ⊥ = 0 := by
  unfold keepLog
  simp [log_one]

theorem keepLog_top : keepLog ⊤ = ⊥ := by
  unfold keepLog
  simp [log_one]

theorem takeLog_coe (r : ℝ) : takeLog (r : EReal) = ((r + -(max r 0 + Real.log (1 + Real.exp (-max r (-r)))) : ℝ) : EReal) := by
  unfold takeLog
  rw [← EReal.coe_neg, coe_max', ← EReal.coe_zero, coe_max', ← EReal.coe_neg, log_one_add_exp, ← EReal.coe_add, ← EReal.coe_neg]
  congr 1
  rw [max_comm (-r) r]
  rcases le_total r 0 with h | h
  · rw [max_eq_left (a := -r) (by linarith), max_eq_right h]; ring
  · rw [max_eq_right (a := -r) (by linarith), max_eq_left h]; ring

theorem takeLog_bot : takeLog ⊥ = ⊥ := by
  unfold takeLog
  simp [log_one]

theorem takeLog_top : takeLog ⊤ = 0 := by
  unfold takeLog
  simp [log_one]

/-- A score leaves at most the whole stick. -/
theorem keepLog_le (z : EReal) : keepLog z ≤ 0 := by
  induction z with
  | bot => rw [keepLog_bot]
  | top => rw [keepLog_top]; exact bot_le
  | coe r =>
    rw [keepLog_coe, ← EReal.coe_zero, EReal.coe_le_coe_iff]
    have h1 := le_max_right r 0
    have h2 : 0 ≤ Real.log (1 + Real.exp (-max r (-r))) := Real.log_nonneg (by have := Real.exp_pos (-max r (-r)); linarith)
    linarith

/-- The two exponents. -/
theorem exponent_eq (z rest : EReal) (h : rest ≤ 0) :
    z + (keepLog z + rest) = takeLog z + ((keepLog z + rest) - keepLog z) := by
  induction z with
  | bot => rw [keepLog_bot, takeLog_bot]; simp
  | top => rw [keepLog_top, takeLog_top]; simp
  | coe r =>
    rw [keepLog_coe, takeLog_coe]
    generalize -(max r 0 + Real.log (1 + Real.exp (-max r (-r)))) = s
    induction rest with
    | bot => simp
    | top => simp at h
    | coe x =>
      norm_cast
      ring

/-- The low part of a log split in two: nothing, or minus infinity where the log itself is. -/
theorem add_sub_self (a : EReal) (h : a ≤ 0) : a + (a - a) = a := by
  induction a with
  | bot => simp
  | top => simp at h
  | coe r => norm_cast; ring

/-- A softplus's negation is `takeLog` of the negated score. -/
theorem softplus_neg (y : EReal) : -(max y 0 + Ideal.log (1 + Ideal.exp (-max (y - 0) (-(y - 0))))) = takeLog (-y) := by
  unfold takeLog
  rw [neg_neg, sub_zero]

theorem takeLog_neg (z : EReal) : takeLog (-z) = keepLog z := by
  unfold takeLog keepLog
  rw [neg_neg, zero_sub, zero_sub]

end Cert.Attn

end
-- ==== Proof.Values.lean ====
/-
  The values of a pair of key tiles over the extended reals, read at a row and a column.
-/
module

public import proofs.«01_k».proof.Proof.Tile
public import proofs.«01_k».proof.Proof.Logs
public import Idealize.ShloMosaic.Lib.MatmulPlain
public import Idealize.ShloMosaic.Lib.ValueIdx
public import Idealize.ShloMosaic.Lib.WordCmp
public import Idealize.ShloMosaic.Lib.IdealHost

@[expose] public section

noncomputable section

namespace Cert.Attn

open Idealize.ShloMosaic Idealize.ShloMosaic.ValueIdx Idealize.ShloMosaic.WordCmp
open Cert.KernelIdeal Cert.KernelIdeal.Facts₀ Cert.KernelIdeal.Facts
open scoped BigOperators

theorem firstHead_apply (r : Fin 256) (l : Fin 128) : firstHead (ix2 r l) = if l.val < 64 then 1#1 else 0#1 := by
  show IntOp.cmpi .slt (BitVec.ofNat 32 (0 * 128 + l.val)) (BitVec.ofNat 32 64) = _
  rw [Nat.zero_mul, Nat.zero_add, cmpi_slt_ofNat (by omega) (by omega)]
  by_cases h : l.val < 64 <;> simp [h]

theorem before_apply (r c : Fin 256) : before (ix2 r c) = if c.val < r.val then 1#1 else 0#1 := by
  show IntOp.cmpi .slt (BitVec.ofNat 32 (0 * 256 + c.val)) (BitVec.ofNat 32 (0 * 256 + r.val)) = _
  rw [Nat.zero_mul, Nat.zero_add, Nat.zero_add, cmpi_slt_ofNat (by omega) (by omega)]
  by_cases h : c.val < r.val <;> simp [h]

theorem tri_apply (j c : Fin 256) : (tri (F := Ideal)) (ix2 j c) = if c.val ≤ j.val then (1 : EReal) else 0 := by
  show Scalar.select (IntOp.cmpi .sge (BitVec.ofNat 32 (0 * 256 + j.val)) (BitVec.ofNat 32 (0 * 256 + c.val)))
    (Ideal.ofBits .f32 0x3F800000#32) (Ideal.ofBits .f32 0x00000000#32) = _
  rw [Nat.zero_mul, Nat.zero_add, Nat.zero_add, cmpi_sge_ofNat (by omega) (by omega), Ideal.ofBits_one_f32, Ideal.ofBits_zero_f32]
  by_cases h : c.val ≤ j.val <;> simp [h, Scalar.select]

theorem zero_apply (y : S256x256.Idx) : (zero (F := Ideal)) y = (0 : EReal) := Ideal.ofBits_zero_f32

theorem query0_apply (q : FVec Ideal S256x128 .bf16) (r : Fin 256) (l : Fin 128) :
    query0 q (ix2 r l) = if l.val < 64 then q (ix2 r l) else (0 : EReal) := by
  show Scalar.select (firstHead (ix2 r l)) (q (ix2 r l)) (Ideal.ofBits .bf16 0x0000#16) = _
  rw [firstHead_apply, show Ideal.ofBits .bf16 0x0000#16 = 0 by simp [Ideal.ofBits, Ideal.ieee]]
  by_cases h : l.val < 64 <;> simp [h, Scalar.select]

theorem query1_apply (q : FVec Ideal S256x128 .bf16) (r : Fin 256) (l : Fin 128) :
    query1 q (ix2 r l) = if l.val < 64 then (0 : EReal) else q (ix2 r l) := by
  show Scalar.select (firstHead (ix2 r l)) (Ideal.ofBits .bf16 0x0000#16) (q (ix2 r l)) = _
  rw [firstHead_apply, show Ideal.ofBits .bf16 0x0000#16 = 0 by simp [Ideal.ofBits, Ideal.ieee]]
  by_cases h : l.val < 64 <;> simp [h, Scalar.select]

theorem scores_apply (q k : FVec Ideal S256x128 .bf16) (r c : Fin 256) :
    scores q k (ix2 r c) = ∑ l : Fin 128, (q (ix2 r l) : EReal) * k (ix2 c l) := by
  refine (Ideal.matmul_transposedRhs_apply (M := 256) (K := 128) (N := 256) none q k (constant S256x256 .f32 0x00000000#32) r c).trans ?_
  show Ideal.ofBits .f32 0x00000000#32 + _ = _
  rw [Ideal.ofBits_zero_f32, zero_add]

theorem logKeep_apply (z : FVec Ideal S256x256 .f32) (y : S256x256.Idx) : logKeep z y = keepLog (z y) := by
  show Ideal.ofBits .f32 0x00000000#32 - (max (z y) (Ideal.ofBits .f32 0x00000000#32)
    + Ideal.log (Ideal.ofBits .f32 0x3F800000#32 + Ideal.exp (Ideal.ofBits .f32 0x00000000#32 - max (z y) (-(z y))))) = _
  rw [Ideal.ofBits_one_f32, Ideal.ofBits_zero_f32]
  rfl

theorem triProduct_apply (l : FVec Ideal S256x256 .bf16) (r c : Fin 256) :
    matmul dot_S256x256_S256x256_S256x256_1_0_0_1_n_n none l (tri (F := Ideal)) (constant S256x256 .f32 0x00000000#32) (ix2 r c)
      = ∑ j : Fin 256, if c.val ≤ j.val then (l (ix2 r j) : EReal) else 0 := by
  refine (Ideal.matmul_plain_apply (M := 256) (K := 256) (N := 256) none l tri (constant S256x256 .f32 0x00000000#32) r c).trans ?_
  show Ideal.ofBits .f32 0x00000000#32 + _ = _
  rw [Ideal.ofBits_zero_f32, zero_add]
  refine Finset.sum_congr rfl fun j _ => ?_
  rw [tri_apply]
  by_cases h : c.val ≤ j.val <;> simp [h]

/-- The logs' sums from a key on: the low parts change nothing. -/
theorem suffix_apply (l : FVec Ideal S256x256 .f32) (hl : ∀ y, (l y : EReal) ≤ 0) (r c : Fin 256) :
    suffix (tri (F := Ideal)) l (ix2 r c) = ∑ j : Fin 256, if c.val ≤ j.val then (l (ix2 r j) : EReal) else 0 := by
  show (matmul dot_S256x256_S256x256_S256x256_1_0_0_1_n_n none (truncf .bf16 l bitsLt_bf16_f32) (tri (F := Ideal)) (constant S256x256 .f32 0x00000000#32) (ix2 r c) : EReal)
    + matmul dot_S256x256_S256x256_S256x256_1_0_0_1_n_n none
      (truncf .bf16 (subf l (extf .f32 (truncf .bf16 l bitsLt_bf16_f32) bitsLt_bf16_f32)) bitsLt_bf16_f32) (tri (F := Ideal)) (constant S256x256 .f32 0x00000000#32) (ix2 r c) = _
  rw [triProduct_apply, triProduct_apply, ← Finset.sum_add_distrib]
  refine Finset.sum_congr rfl fun j _ => ?_
  by_cases h : c.val ≤ j.val
  · rw [if_pos h, if_pos h, if_pos h]
    exact add_sub_self _ (hl _)
  · rw [if_neg h, if_neg h, if_neg h, add_zero]

theorem total_apply (x : FVec Ideal S256x256 .f32) (r : Fin 256) (u : Fin 1) : total x (ix2 r u) = x (ix2 r 0) := by
  refine congrArg x (funext fun a => Fin.ext ?_)
  match a with
  | ⟨0, _⟩ => exact Nat.zero_add _
  | ⟨1, _⟩ => show 0 + u.val = 0; omega

theorem weights_apply (z s : FVec Ideal S256x256 .f32) (cb : FVec Ideal S256x1 .f32) (r c : Fin 256) :
    weights z s cb (ix2 r c) = Ideal.exp ((z (ix2 r c) + s (ix2 r c)) + cb (ix2 r 0)) := by
  show Ideal.exp ((z (ix2 r c) + s (ix2 r c)) + broadcastTo S256x256 cb broadcasts_S256x1_S256x256 (ix2 r c)) = _
  congr 2
  refine congrArg cb (funext fun a => Fin.ext ?_)
  match a with
  | ⟨0, _⟩ => rfl
  | ⟨1, _⟩ => rfl

theorem valueProduct_apply (w : FVec Ideal S256x256 .f32) (v : FVec Ideal S256x128 .bf16) (r : Fin 256) (l : Fin 128) :
    matmul dot_S256x256_S256x128_S256x128_1_0_0_1_n_n none (truncf .bf16 w bitsLt_bf16_f32) v (constant S256x128 .f32 0x00000000#32) (ix2 r l)
      = ∑ j : Fin 256, (w (ix2 r j) : EReal) * v (ix2 j l) := by
  refine (Ideal.matmul_plain_apply (M := 256) (K := 256) (N := 128) none (truncf .bf16 w bitsLt_bf16_f32) v (constant S256x128 .f32 0x00000000#32) r l).trans ?_
  show Ideal.ofBits .f32 0x00000000#32 + _ = _
  rw [Ideal.ofBits_zero_f32, zero_add]
  rfl

end Cert.Attn

end
-- ==== Proof.Rows.lean ====
/-
  What the walk leaves in a query block over the extended reals: the running sums are the sums of the
  logs over the keys worked in, and the output rows the sums of the values by their weights (`RowIs`),
  through one pair (`pairAt_is`) and to the end (`rowLast_is`).
-/
module

public import proofs.«01_k».proof.Proof.Steps
public import proofs.«01_k».proof.Proof.Blocks
public import proofs.«01_k».proof.Proof.Values

@[expose] public section

noncomputable section

namespace Cert.Attn

open Idealize.ShloMosaic hiding ix2 ix3 eq_ix2
open Idealize.ShloMosaic.ValueIdx
open Cert.KernelIdeal Cert.KernelIdeal.Facts₀ Cert.KernelIdeal.Facts
open scoped BigOperators

/-! ## A row of the attention -/

/-- The log of what key `j` leaves to the query at position `p`, the scores `s`. -/
def logOf (s : ℕ → EReal) (p j : ℕ) : EReal := if j < p then keepLog (s j) else 0
/-- The logs' sum over the keys from `a` to before `b`. -/
def sumLogs (s : ℕ → EReal) (p a b : ℕ) : EReal := ∑ i ∈ Finset.Ico a b, logOf s p i
/-- The weight of key `j`, the keys ending before `e`. -/
def weightOf (s : ℕ → EReal) (p e j : ℕ) : EReal := if j < p then Ideal.exp (s j + sumLogs s p j e) else 0

theorem logOf_le (s : ℕ → EReal) (p j : ℕ) : logOf s p j ≤ 0 := by
  unfold logOf; split
  · exact keepLog_le _
  · exact le_rfl

/-- Entry `l` of key, or value, `j`. -/
def entry (K : S1x4096x128.Idx → EReal) (j : ℕ) (l : Fin 128) : EReal := K (ix3 (0 : Fin 1) (⟨j % 4096, Nat.mod_lt _ (by decide)⟩ : Fin 4096) l)

/-- The score of row `r` of a query block against key `j`. -/
def scoreOf (q : FVec Ideal S256x128 .bf16) (K : S1x4096x128.Idx → EReal) (r : Fin 256) (j : ℕ) : EReal :=
  ∑ l : Fin 128, (q (ix2 r l) : EReal) * entry K j l

/-! ## Tiles -/

theorem keyAt_entry (K : S1x4096x128.Idx → EReal) (n : ℕ) (hn : n < 16) (c : Fin 256) (l : Fin 128) :
    keyAt (F := Ideal) K n (ix2 c l) = entry K (256 * n + c.val) l := by
  refine (keyAt_apply (F := Ideal) K n hn c l).trans ?_
  unfold entry
  congr 2
  exact Fin.ext (Nat.mod_eq_of_lt (by omega)).symm

theorem scores_key (q : FVec Ideal S256x128 .bf16) (K : S1x4096x128.Idx → EReal) (n : ℕ) (hn : n < 16) (r c : Fin 256) :
    scores q (keyAt (F := Ideal) K n) (ix2 r c) = scoreOf q K r (256 * n + c.val) := by
  rw [scores_apply]
  exact Finset.sum_congr rfl fun l _ => by rw [keyAt_entry K n hn]

/-- A sum over a tile from a column on, as a sum over positions. -/
theorem sum_tile (f : ℕ → EReal) (n c : ℕ) :
    (∑ j : Fin 256, if c ≤ j.val then f (256 * n + j.val) else 0) = ∑ i ∈ Finset.Ico (256 * n + c) (256 * (n + 1)), f i := by
  rw [Fin.sum_univ_eq_sum_range (fun i => if c ≤ i then f (256 * n + i) else 0) 256, ← Finset.sum_filter,
    show (Finset.range 256).filter (c ≤ ·) = Finset.Ico c 256 by ext x; simp; omega,
    Finset.sum_Ico_add f c 256 (256 * n)]
  rw [Nat.add_comm c, show 256 + 256 * n = 256 * (n + 1) by omega]

theorem sum_tile_all (f : ℕ → EReal) (n : ℕ) :
    (∑ j : Fin 256, f (256 * n + j.val)) = ∑ i ∈ Finset.Ico (256 * n) (256 * (n + 1)), f i := by
  have h := sum_tile f n 0
  simpa using h

/-- Where a tile of keys stands to the query block in tile `T`: its own, or left of it. -/
def Stands (diag : Bool) (T n : ℕ) : Prop := match diag with
  | true => n = T
  | false => n < T

theorem masked_apply (diag : Bool) (T n : ℕ) (h : Stands diag T n) (x : FVec Ideal S256x256 .f32) (r c : Fin 256) :
    masked diag x (ix2 r c) = if 256 * n + c.val < 256 * T + r.val then (x (ix2 r c) : EReal) else 0 := by
  match diag with
  | true =>
    have h : n = T := h
    subst h
    show Scalar.select (before (ix2 r c)) (x (ix2 r c)) (zero (F := Ideal) (ix2 r c)) = _
    rw [before_apply, zero_apply]
    by_cases hc : c.val < r.val
    · rw [if_pos hc, if_pos (by omega)]; rfl
    · rw [if_neg hc, if_neg (by omega)]; rfl
  | false =>
    have h : n < T := h
    rw [if_pos (by omega)]; rfl

section Head

variable (q : FVec Ideal S256x128 .bf16) (K V : S1x4096x128.Idx → EReal) (T : ℕ)

theorem maskedLog_apply (diag : Bool) (n : ℕ) (hn : n < 16) (h : Stands diag T n) (r c : Fin 256) :
    masked diag (logKeep (scores q (keyAt (F := Ideal) K n))) (ix2 r c) = logOf (scoreOf q K r) (256 * T + r.val) (256 * n + c.val) := by
  rw [masked_apply diag T n h, logKeep_apply, scores_key q K n hn]
  rfl

/-- The sums of a tile's logs. -/
theorem suffix_tile (diag : Bool) (n : ℕ) (hn : n < 16) (h : Stands diag T n) (r c : Fin 256) :
    suffix (tri (F := Ideal)) (masked diag (logKeep (scores q (keyAt (F := Ideal) K n)))) (ix2 r c)
      = sumLogs (scoreOf q K r) (256 * T + r.val) (256 * n + c.val) (256 * (n + 1)) := by
  rw [suffix_apply _ fun y => by
    obtain ⟨a, b, rfl⟩ : ∃ (a b : Fin 256), y = ix2 a b := ⟨y 0, y 1, eq_ix2 y⟩
    rw [maskedLog_apply q K T diag n hn h]; exact logOf_le _ _ _]
  rw [show sumLogs (scoreOf q K r) (256 * T + r.val) (256 * n + c.val) (256 * (n + 1)) = _ from
    (sum_tile (logOf (scoreOf q K r) (256 * T + r.val)) n c.val).symm]
  exact Finset.sum_congr rfl fun j _ => by rw [maskedLog_apply q K T diag n hn h]

/-- The weights of a tile, its right neighbours' sums given. -/
theorem weights_tile (diag : Bool) (n : ℕ) (hn : n < 16) (h : Stands diag T n) (cb : FVec Ideal S256x1 .f32)
    (r : Fin 256) (hcb : cb (ix2 r (0 : Fin 1)) = sumLogs (scoreOf q K r) (256 * T + r.val) (256 * (n + 1)) (256 * (T + 1))) (c : Fin 256) :
    masked diag (weights (scores q (keyAt (F := Ideal) K n)) (suffix (tri (F := Ideal)) (masked diag (logKeep (scores q (keyAt (F := Ideal) K n))))) cb) (ix2 r c)
      = weightOf (scoreOf q K r) (256 * T + r.val) (256 * (T + 1)) (256 * n + c.val) := by
  rw [masked_apply diag T n h, weights_apply, suffix_tile q K T diag n hn h, scores_key q K n hn, hcb]
  have hT : n ≤ T := by
    match diag with
    | true => exact le_of_eq h
    | false => exact le_of_lt h
  unfold weightOf
  rw [add_assoc]
  unfold sumLogs
  rw [Finset.sum_Ico_consecutive _ (by omega) (by omega)]

theorem total_tile (diag : Bool) (n : ℕ) (hn : n < 16) (h : Stands diag T n) (r : Fin 256) :
    total (suffix (tri (F := Ideal)) (masked diag (logKeep (scores q (keyAt (F := Ideal) K n))))) (ix2 r (0 : Fin 1))
      = sumLogs (scoreOf q K r) (256 * T + r.val) (256 * n) (256 * (n + 1)) := by
  rw [total_apply, suffix_tile q K T diag n hn h]
  rfl

/-- The values of a tile by their weights. -/
theorem product_tile (w : FVec Ideal S256x256 .f32) (f : ℕ → EReal) (n : ℕ) (hn : n < 16) (r : Fin 256)
    (hw : ∀ c : Fin 256, w (ix2 r c) = f (256 * n + c.val)) (l : Fin 128) :
    matmul dot_S256x256_S256x128_S256x128_1_0_0_1_n_n none (truncf .bf16 w bitsLt_bf16_f32) (keyAt (F := Ideal) V n) (constant S256x128 .f32 0x00000000#32) (ix2 r l)
      = ∑ j ∈ Finset.Ico (256 * n) (256 * (n + 1)), f j * entry V j l := by
  rw [valueProduct_apply, ← sum_tile_all (fun j => f j * entry V j l) n]
  exact Finset.sum_congr rfl fun j _ => by rw [hw, keyAt_entry V n hn]

variable (diag : Bool) (n : ℕ) (hn : n < 16) (hd : Stands diag T n) (cb : FVec Ideal S256x1 .f32)
variable (hcb : ∀ r : Fin 256, cb (ix2 r (0 : Fin 1)) = sumLogs (scoreOf q K r) (256 * T + r.val) (256 * (n + 1)) (256 * (T + 1)))

include hd in
theorem stands_le : n ≤ T := by
  match diag with
  | true => exact le_of_eq hd
  | false => exact le_of_lt hd

include hn hd hcb in
/-- The sums after the right tile. -/
theorem barA_tile (r : Fin 256) : barA diag (tri (F := Ideal)) q (keyAt (F := Ideal) K n) cb (ix2 r (0 : Fin 1))
    = sumLogs (scoreOf q K r) (256 * T + r.val) (256 * n) (256 * (T + 1)) := by
  have hT := stands_le T diag n hd
  show (cb (ix2 r (0 : Fin 1)) : EReal) + total (sufA diag (tri (F := Ideal)) q (keyAt (F := Ideal) K n)) (ix2 r (0 : Fin 1)) = _
  unfold sufA
  rw [hcb, total_tile q K T diag n hn hd, add_comm]
  exact Finset.sum_Ico_consecutive _ (by omega) (by omega)

/-- The left tile's sums: none where there is no left tile. -/
theorem sufB_absent (kB : FVec Ideal S256x128 .bf16) (r c : Fin 256) : sufB (tri (F := Ideal)) 0#1 q kB (ix2 r c) = (0 : EReal) := by
  unfold sufB
  rw [show Scalar.select 0#1 (logKeep (scores q kB)) (zero (F := Ideal)) = zero from rfl, suffix_apply _ fun y => le_of_eq (zero_apply y)]
  refine Finset.sum_eq_zero fun j _ => ?_
  rw [zero_apply, ite_self]

theorem sufB_present (kB : FVec Ideal S256x128 .bf16) :
    sufB (tri (F := Ideal)) 1#1 q kB = suffix (tri (F := Ideal)) (masked false (logKeep (scores q kB))) := rfl

include hn hd hcb in
/-- The sums after the pair. -/
theorem rowBar_pair (r : Fin 256) :
    rowBar diag (tri (F := Ideal)) (if 1 ≤ n then 1#1 else 0#1) q (keyAt (F := Ideal) K n) (keyAt (F := Ideal) K (n - 1)) cb (ix2 r (0 : Fin 1))
      = sumLogs (scoreOf q K r) (256 * T + r.val) (256 * (n - 1)) (256 * (T + 1)) := by
  have hT := stands_le T diag n hd
  show (barA diag (tri (F := Ideal)) q (keyAt (F := Ideal) K n) cb (ix2 r (0 : Fin 1)) : EReal)
    + total (sufB (tri (F := Ideal)) (if 1 ≤ n then 1#1 else 0#1) q (keyAt (F := Ideal) K (n - 1))) (ix2 r (0 : Fin 1)) = _
  rw [barA_tile q K T diag n hn hd cb hcb]
  by_cases h1 : 1 ≤ n
  · rw [if_pos h1, sufB_present, total_tile q K T false (n - 1) (by omega) (show n - 1 < T by omega), add_comm,
      show n - 1 + 1 = n by omega]
    exact Finset.sum_Ico_consecutive _ (by omega) (by omega)
  · obtain rfl : n = 0 := by omega
    rw [if_neg h1, total_apply, sufB_absent, add_zero]

include hn hd hcb in
/-- The output of the pair. -/
theorem rowOut_pair (r : Fin 256) (l : Fin 128) :
    rowOut diag (tri (F := Ideal)) (if 1 ≤ n then 1#1 else 0#1) q (keyAt (F := Ideal) K n) (keyAt (F := Ideal) V n)
        (keyAt (F := Ideal) K (n - 1)) (keyAt (F := Ideal) V (n - 1)) cb (ix2 r l)
      = ∑ j ∈ Finset.Ico (256 * (n - 1)) (256 * (n + 1)), weightOf (scoreOf q K r) (256 * T + r.val) (256 * (T + 1)) j * entry V j l := by
  have hT := stands_le T diag n hd
  unfold rowOut
  refine (congrArg₂ (fun a b : EReal => a + b)
    (product_tile V _ (weightOf (scoreOf q K r) (256 * T + r.val) (256 * (T + 1))) n hn r (fun c => weights_tile q K T diag n hn hd cb r (hcb r) c) l)
    (y' := ∑ j ∈ Finset.Ico (256 * (n - 1)) (256 * n), weightOf (scoreOf q K r) (256 * T + r.val) (256 * (T + 1)) j * entry V j l) ?_).trans ?_
  · by_cases h1 : 1 ≤ n
    · rw [if_pos h1]
      refine (product_tile V _ (weightOf (scoreOf q K r) (256 * T + r.val) (256 * (T + 1))) (n - 1) (by omega) r
        (fun c => weights_tile q K T false (n - 1) (by omega) (show n - 1 < T by omega) _ r ?_ c) l).trans ?_
      · rw [barA_tile q K T diag n hn hd cb hcb, show n - 1 + 1 = n by omega]
      · rw [show n - 1 + 1 = n by omega]
    · obtain rfl : n = 0 := by omega
      rw [if_neg h1]
      refine (valueProduct_apply _ _ r l).trans ?_
      rw [show Finset.Ico (256 * (0 - 1)) (256 * 0) = ∅ from rfl, Finset.sum_empty]
      refine Finset.sum_eq_zero fun j _ => ?_
      show (zero (F := Ideal) (ix2 r j) : EReal) * _ = 0
      rw [zero_apply, zero_mul]
  · rw [add_comm]
    exact Finset.sum_Ico_consecutive _ (by omega) (by omega)

end Head

/-! ## A query block -/

section Block

variable (q : FVec Ideal S256x128 .bf16) (K V : S1x4096x128.Idx → EReal) (T : ℕ)

/-- The head's queries a lane belongs to. -/
def headOf (l : Fin 128) : FVec Ideal S256x128 .bf16 := if l.val < 64 then query0 q else query1 q

/-- A query block with the tiles from `n` to its own worked in. -/
structure RowIs (n : ℕ) (row : Row Ideal) : Prop where
  bar0 : ∀ r : Fin 256, row.bar0 (ix2 r (0 : Fin 1)) = sumLogs (scoreOf (query0 q) K r) (256 * T + r.val) (256 * n) (256 * (T + 1))
  bar1 : ∀ r : Fin 256, row.bar1 (ix2 r (0 : Fin 1)) = sumLogs (scoreOf (query1 q) K r) (256 * T + r.val) (256 * n) (256 * (T + 1))
  out : ∀ (r : Fin 256) (l : Fin 128), row.out (ix2 r l)
    = ∑ j ∈ Finset.Ico (256 * n) (256 * (T + 1)), weightOf (scoreOf (headOf q l) K r) (256 * T + r.val) (256 * (T + 1)) j * entry V j l

/-- One pair more. -/
theorem pairAt_is (diag : Bool) (n : ℕ) (hn : n < 16) (hd : Stands diag T n) (row : Row Ideal) (h : RowIs q K V T (n + 1) row) :
    RowIs q K V T (n - 1) (pairAt (F := Ideal) diag q K V n row) where
  bar0 := rowBar_pair (query0 q) K T diag n hn hd row.bar0 h.bar0
  bar1 := rowBar_pair (query1 q) K T diag n hn hd row.bar1 h.bar1
  out r l := by
    have hT := stands_le T diag n hd
    show (row.out (ix2 r l) : EReal) + Scalar.select (firstHead (ix2 r l)) _ _ = _
    rw [h.out, firstHead_apply, rowOut_pair (query0 q) K V T diag n hn hd row.bar0 h.bar0,
      rowOut_pair (query1 q) K V T diag n hn hd row.bar1 h.bar1, ← Finset.sum_Ico_consecutive _ (show 256 * (n - 1) ≤ 256 * (n + 1) by omega) (show 256 * (n + 1) ≤ 256 * (T + 1) by omega), add_comm]
    unfold headOf
    by_cases hl : l.val < 64
    · simp only [if_pos hl]; rfl
    · simp only [if_neg hl]; rfl

theorem rowZero_is : RowIs q K V T (T + 1) (rowZero (F := Ideal)) where
  bar0 _ := by unfold sumLogs; rw [Finset.Ico_self, Finset.sum_empty]; exact Ideal.ofBits_zero_f32
  bar1 _ := by unfold sumLogs; rw [Finset.Ico_self, Finset.sum_empty]; exact Ideal.ofBits_zero_f32
  out _ _ := by rw [Finset.Ico_self, Finset.sum_empty]; exact Ideal.ofBits_zero_f32

/-- Nothing lies below minus infinity: the walk goes on. -/
theorem goesOn_bot (a b : FVec Ideal S256x1 .f32) : goesOn (F := Ideal) (⊥ : EReal) a b = 1#1 := by
  unfold goesOn
  rw [show Scalar.cmpf .olt (Scalar.maximumf (largest a) (largest b)) ((⊥ : EReal) : Ideal .f32) = 0#1 from by
    show BitVec.ofBool (decide ((Scalar.maximumf (largest a) (largest b) : EReal) < ⊥)) = 0#1
    rw [decide_eq_false not_lt_bot]; rfl]
  rfl

theorem walkVal_is : ∀ (j : ℕ) (row : Row Ideal), j ≤ T → T < 16 → RowIs q K V T (j - 1) row →
    RowIs q K V T 0 (walkVal (F := Ideal) (⊥ : EReal) q K V j 1#1 row)
  | 0, _, _, _, h => h
  | 1, _, _, _, h => h
  | n + 2, row, hj, hT, h => by
    unfold walkVal
    rw [if_pos rfl, goesOn_bot]
    exact walkVal_is n _ (by omega) hT (pairAt_is q K V T false n (by omega) (show n < T by omega) row h)

/-- The whole of a query block. -/
theorem rowLast_is (hT : T < 16) : RowIs q K V T 0 (rowLast (F := Ideal) (⊥ : EReal) q K V T) := by
  unfold rowLast
  rw [goesOn_bot]
  exact walkVal_is q K V T T _ le_rfl hT (pairAt_is q K V T true T hT rfl _ (rowZero_is q K V T))

end Block

end Cert.Attn

end
-- ==== Proof.Sums.lean ====
/-
  Sums of a row of the attention: a running sum from the right read off a window reduction, and the
  kernel's weighted sum of a row against the reference's.
-/
module

public import proofs.«01_k».proof.Proof.Rows

@[expose] public section

noncomputable section

namespace Cert.Attn

open Idealize.ShloMosaic hiding ix2 ix3 ix4 eq_ix2 eq_ix4
open Idealize.ShloMosaic.ValueIdx
open scoped BigOperators

theorem foldl_add {n : ℕ} (f : Fin n → EReal) (v : EReal) :
    (List.finRange n).foldl (fun r i => r + f i) v = v + ∑ i, f i := by
  have h : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [h, Fin.sum_univ_def]

/-- The host's window sum, as the exact one. -/
theorem host_window {s t u : Shape} {φ : FTy} (W S L H : Fin s.rank → ℕ) (x : FVec Ideal s φ) (z : u.Idx → Ideal φ)
    (h : s.ReduceWindows W S L H t) (hu : 0 < u.numel) :
    Host.reduceWindowAdd (F := Ideal) W S L H x z h hu = Ideal.hostReduceWindowAdd W S L H h x (z (Shape.Idx.first hu)) := rfl

/-- A sum over a one-row window. -/
theorem sum_row {N : ℕ} (g : (⟨4, ![1, 1, 1, N]⟩ : Shape).Idx → EReal) :
    ∑ w, g w = ∑ k : Fin N, g (ix4 (0 : Fin 1) (0 : Fin 1) (0 : Fin 1) k) := by
  refine (Fintype.sum_bijective (fun k : Fin N => (ix4 (0 : Fin 1) (0 : Fin 1) (0 : Fin 1) k : (⟨4, ![1, 1, 1, N]⟩ : Shape).Idx)) ⟨?_, ?_⟩ _ _ fun _ => rfl).symm
  · intro a b h
    exact congrFun h 3
  · intro w
    refine ⟨w 3, funext fun a => ?_⟩
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem sum_shifted (g : ℕ → EReal) (k N : ℕ) (hk : k ≤ N) :
    (∑ j : Fin N, if k + j.val < N then g (k + j.val) else 0) = ∑ i ∈ Finset.Ico k N, g i := by
  rw [Fin.sum_univ_eq_sum_range (fun i => if k + i < N then g (k + i) else 0) N, ← Finset.sum_filter, Finset.sum_Ico_eq_sum_range]
  refine Finset.sum_congr ?_ fun _ _ => rfl
  ext x; simp; omega

/-- One entry of such a window, inside the row or past its end. -/
theorem window_entry {A B C N : ℕ} (x : (⟨4, ![A, B, C, N]⟩ : Shape).Idx → EReal) (a : Fin A) (b : Fin B) (c : Fin C) (k : Fin N) (g : ℕ → EReal)
    (hg : ∀ i : Fin N, x (ix4 a b c i) = g i.val) (w : (⟨4, ![1, 1, 1, N]⟩ : Shape).Idx)
    (inst : Decidable (∀ d : Fin 4, (![0, 0, 0, 0] : Fin 4 → ℕ) d ≤ ((ix4 a b c k : (⟨4, ![A, B, C, N]⟩ : Shape).Idx) d).val * (![1, 1, 1, 1] : Fin 4 → ℕ) d + (w d).val
        ∧ ((ix4 a b c k : (⟨4, ![A, B, C, N]⟩ : Shape).Idx) d).val * (![1, 1, 1, 1] : Fin 4 → ℕ) d + (w d).val - (![0, 0, 0, 0] : Fin 4 → ℕ) d < (⟨4, ![A, B, C, N]⟩ : Shape).size d)) :
    (@dite EReal _ inst
      (fun hin => x (fun d => ⟨((ix4 a b c k : (⟨4, ![A, B, C, N]⟩ : Shape).Idx) d).val * (![1, 1, 1, 1] : Fin 4 → ℕ) d + (w d).val - (![0, 0, 0, 0] : Fin 4 → ℕ) d, (hin d).2⟩))
      (fun _ => 0)) = if k.val + (w 3).val < N then g (k.val + (w 3).val) else 0 := by
  have h0 : (w 0).val < 1 := (w 0).isLt
  have h1 : (w 1).val < 1 := (w 1).isLt
  have h2 : (w 2).val < 1 := (w 2).isLt
  have ha := a.isLt
  have hb := b.isLt
  have hc := c.isLt
  by_cases hj : k.val + (w 3).val < N
  · rw [if_pos hj, dif_pos, ← hg ⟨k.val + (w 3).val, hj⟩]
    · congr 1
      funext d
      refine Fin.ext ?_
      match d with
      | ⟨0, _⟩ => show a.val * 1 + (w 0).val - 0 = a.val; omega
      | ⟨1, _⟩ => show b.val * 1 + (w 1).val - 0 = b.val; omega
      | ⟨2, _⟩ => show c.val * 1 + (w 2).val - 0 = c.val; omega
      | ⟨3, _⟩ => show k.val * 1 + (w 3).val - 0 = k.val + (w 3).val; omega
    · intro d
      match d with
      | ⟨0, _⟩ => exact ⟨Nat.zero_le _, by show a.val * 1 + (w 0).val - 0 < A; omega⟩
      | ⟨1, _⟩ => exact ⟨Nat.zero_le _, by show b.val * 1 + (w 1).val - 0 < B; omega⟩
      | ⟨2, _⟩ => exact ⟨Nat.zero_le _, by show c.val * 1 + (w 2).val - 0 < C; omega⟩
      | ⟨3, _⟩ => exact ⟨Nat.zero_le _, by show k.val * 1 + (w 3).val - 0 < N; omega⟩
  · rw [if_neg hj, dif_neg]
    intro hin
    have h3 : k.val * 1 + (w 3).val - 0 < N := (hin 3).2
    omega

/-- A window as long as the last axis, padded after it: the sums from each place on. -/
theorem window_suffix {A B C N : ℕ} (hi : Fin 4 → ℕ)
    (h : (⟨4, ![A, B, C, N]⟩ : Shape).ReduceWindows (![1, 1, 1, N] : Fin 4 → ℕ) ![1, 1, 1, 1] ![0, 0, 0, 0] hi ⟨4, ![A, B, C, N]⟩)
    (x : (⟨4, ![A, B, C, N]⟩ : Shape).Idx → EReal) (v : EReal) (hv : v = 0) (a : Fin A) (b : Fin B) (c : Fin C) (k : Fin N) (g : ℕ → EReal)
    (hg : ∀ i : Fin N, x (ix4 a b c i) = g i.val) :
    Ideal.hostReduceWindowAdd (![1, 1, 1, N] : Fin 4 → ℕ) ![1, 1, 1, 1] ![0, 0, 0, 0] hi h x v (ix4 a b c k) = ∑ i ∈ Finset.Ico k.val N, g i := by
  subst hv
  unfold Ideal.hostReduceWindowAdd Host.reduceWindow
  refine (foldl_add _ _).trans ?_
  rw [zero_add]
  refine Eq.trans ?_ (((Shape.rowMajor ⟨4, ![1, 1, 1, N]⟩).symm.sum_comp (fun w : (⟨4, ![1, 1, 1, N]⟩ : Shape).Idx =>
    if k.val + (w 3).val < N then g (k.val + (w 3).val) else 0)).trans ((sum_row _).trans (sum_shifted g k.val N (le_of_lt k.isLt))))
  exact Finset.sum_congr rfl fun i _ => window_entry x a b c k g hg ((Shape.rowMajor ⟨4, ![1, 1, 1, N]⟩).symm i) _

/-! ## A row -/

theorem sumLogs_le (s : ℕ → EReal) (p a b : ℕ) : sumLogs s p a b ≤ 0 := Finset.sum_nonpos fun _ _ => logOf_le _ _ _

/-- The logs of the query's own key and of later ones are nothing. -/
theorem sumLogs_long (s : ℕ → EReal) (p a e N : ℕ) (hp : p < e) (he : e ≤ N) (ha : a ≤ e) : sumLogs s p a N = sumLogs s p a e := by
  unfold sumLogs
  rw [← Finset.sum_Ico_consecutive _ ha he, Finset.sum_eq_zero (s := Finset.Ico e N), add_zero]
  intro i hi
  unfold logOf
  rw [if_neg (by have := (Finset.mem_Ico.mp hi).1; omega)]

/-- A row of the reference. -/
def rowSum (s v : ℕ → EReal) (p N : ℕ) : EReal :=
  ∑ k : Fin N, (if k.val < p then Ideal.exp (takeLog (s k.val) + (sumLogs s p k.val N - logOf s p k.val)) else 0) * v k.val

/-- The kernel's row is the reference's. -/
theorem row_eq (s v : ℕ → EReal) (p e N : ℕ) (hp : p < e) (he : e ≤ N) :
    ∑ j ∈ Finset.Ico 0 e, weightOf s p e j * v j = rowSum s v p N := by
  unfold rowSum
  rw [Fin.sum_univ_eq_sum_range (fun k => (if k < p then Ideal.exp (takeLog (s k) + (sumLogs s p k N - logOf s p k)) else 0) * v k) N,
    Finset.range_eq_Ico, ← Finset.sum_Ico_consecutive _ (Nat.zero_le e) he, Finset.sum_eq_zero (s := Finset.Ico e N), add_zero]
  · refine Finset.sum_congr rfl fun k hk => ?_
    have hk := (Finset.mem_Ico.mp hk).2
    congr 1
    unfold weightOf
    by_cases h : k < p
    · rw [if_pos h, if_pos h, sumLogs_long s p k e N hp he (le_of_lt hk)]
      have hs : sumLogs s p k e = keepLog (s k) + sumLogs s p (k + 1) e := by
        unfold sumLogs
        rw [Finset.sum_eq_sum_Ico_succ_bot hk]
        congr 1
        unfold logOf
        rw [if_pos h]
      have hl : logOf s p k = keepLog (s k) := if_pos h
      rw [hs, hl, exponent_eq _ _ (sumLogs_le _ _ _ _)]
    · rw [if_neg h, if_neg h]
  · intro k hk
    have hk := (Finset.mem_Ico.mp hk).1
    rw [if_neg (by omega), zero_mul]

end Cert.Attn

end
-- ==== Proof.Reference.lean ====
/-
  The reference, read at an index: each result is a row sum over the keys.
-/
module

public import proofs.«01_k».proof.Proof.Sums
public import proofs.«01_k».proof.Proof.Gen.ReferenceIdeal.Read

@[expose] public section

noncomputable section

namespace Cert.Attn.Reference

open Idealize.ShloMosaic hiding ix2 ix3 ix4 eq_ix2 eq_ix4
open Idealize.ShloMosaic.ValueIdx
open Cert.ReferenceIdeal Cert.ReferenceIdeal.Gen Cert.ReferenceIdeal.Read
open scoped BigOperators

variable (X : (⟨S4x4096x1536, .bf16⟩ : BufTy).Contents (Elt Ideal))

/-- The mask: the key comes before the query. -/
theorem mask_apply (r c : Fin 4096) : val_main_v17 (F := Ideal) (ix2 r c) = BitVec.ofBool (decide (c.val < r.val)) := by
  rw [val_main_v17_apply, val_main_v15_apply, val_main_v16_apply, val_main_v12_apply, val_main_v14_apply, val_main_v11_apply, val_main_v13_apply]
  exact WordCmp.cmpi_slt_ofNat (by have := c.isLt; show c.val < _; omega) (by have := r.isLt; show r.val < _; omega)

theorem select_ofBool (p : Prop) [Decidable p] (a b : EReal) : Scalar.select (BitVec.ofBool (decide p)) a b = if p then a else b := by
  by_cases h : p <;> simp [h, Scalar.select]

/-- A column of the input at a place. -/
def lane (b : Fin 4) (j c : ℕ) : EReal := X (ix3 b ⟨j % 4096, Nat.mod_lt _ (by decide)⟩ ⟨c % 1536, Nat.mod_lt _ (by decide)⟩)

theorem lane_eq (i : S4x4096x1536.Idx) (b : Fin 4) (j c : ℕ) (h0 : (i 0).val = b.val) (h1 : (i 1).val = j) (h2 : (i 2).val = c) :
    X i = lane X b j c := by
  unfold lane
  congr 1
  funext d
  have l1 : (i 1).val < 4096 := (i 1).isLt
  have l2 : (i 2).val < 1536 := (i 2).isLt
  refine Fin.ext ?_
  match d with
  | ⟨0, _⟩ => exact h0
  | ⟨1, _⟩ => show (i 1).val = j % 4096; omega
  | ⟨2, _⟩ => show (i 2).val = c % 1536; omega

/-- The score of a query against a key. -/
def score (b : Fin 4) (h p j : ℕ) : EReal := ∑ d : Fin 64, lane X b p (64 * h + d.val) * lane X b j (512 + (64 * h + d.val))

theorem query_apply (b : Fin 4) (h : Fin 8) (p : Fin 4096) (d : Fin 64) :
    val_main_v3 (F := Ideal) X (ix4 b h p d) = lane X b p.val (64 * h.val + d.val) := by
  rw [val_main_v3_apply, val_main_v2_apply, val_main_v1_apply, val_main_v0_apply]
  have hb := b.isLt; have hh := h.isLt; have hp := p.isLt; have hd := d.isLt
  refine lane_eq X _ b p.val (64 * h.val + d.val) ?_ ?_ ?_
  · show (((b.val * 4096 + p.val) * 8 + h.val) * 64 + d.val) / 2097152 = b.val; omega
  · show (((b.val * 4096 + p.val) * 8 + h.val) * 64 + d.val) / 512 % 4096 = p.val; omega
  · show (((b.val * 4096 + p.val) * 8 + h.val) * 64 + d.val) % 512 = 64 * h.val + d.val; omega

theorem key_apply (b : Fin 4) (h : Fin 8) (p : Fin 4096) (d : Fin 64) :
    val_main_v6 (F := Ideal) X (ix4 b h p d) = lane X b p.val (512 + (64 * h.val + d.val)) := by
  rw [val_main_v6_apply, val_main_v5_apply, val_main_v4_apply, val_main_v0_apply]
  have hb := b.isLt; have hh := h.isLt; have hp := p.isLt; have hd := d.isLt
  refine lane_eq X _ b p.val (512 + (64 * h.val + d.val)) ?_ ?_ ?_
  · show (((b.val * 4096 + p.val) * 8 + h.val) * 64 + d.val) / 2097152 = b.val; omega
  · show (((b.val * 4096 + p.val) * 8 + h.val) * 64 + d.val) / 512 % 4096 = p.val; omega
  · show 512 + (((b.val * 4096 + p.val) * 8 + h.val) * 64 + d.val) % 512 = 512 + (64 * h.val + d.val); omega

theorem value_apply (b : Fin 4) (h : Fin 8) (p : Fin 4096) (d : Fin 64) :
    val_main_v9 (F := Ideal) X (ix4 b h p d) = lane X b p.val (1024 + (64 * h.val + d.val)) := by
  rw [val_main_v9_apply, val_main_v8_apply, val_main_v7_apply, val_main_v0_apply]
  have hb := b.isLt; have hh := h.isLt; have hp := p.isLt; have hd := d.isLt
  refine lane_eq X _ b p.val (1024 + (64 * h.val + d.val)) ?_ ?_ ?_
  · show (((b.val * 4096 + p.val) * 8 + h.val) * 64 + d.val) / 2097152 = b.val; omega
  · show (((b.val * 4096 + p.val) * 8 + h.val) * 64 + d.val) / 512 % 4096 = p.val; omega
  · show 1024 + (((b.val * 4096 + p.val) * 8 + h.val) * 64 + d.val) % 512 = 1024 + (64 * h.val + d.val); omega

theorem ix4_of {a b c d : ℕ} (f : (⟨4, ![a, b, c, d]⟩ : Shape).Idx) (x0 : Fin a) (x1 : Fin b) (x2 : Fin c) (x3 : Fin d)
    (h0 : f 0 = x0) (h1 : f 1 = x1) (h2 : f 2 = x2) (h3 : f 3 = x3) : f = ix4 x0 x1 x2 x3 := by
  funext i
  match i with
  | ⟨0, _⟩ => exact h0
  | ⟨1, _⟩ => exact h1
  | ⟨2, _⟩ => exact h2
  | ⟨3, _⟩ => exact h3

theorem score_apply (b : Fin 4) (h : Fin 8) (p k : Fin 4096) :
    val_main_v10 (F := Ideal) X (ix4 b h p k) = score X b h.val p.val k.val := by
  rw [val_main_v10_apply]
  unfold score
  refine Finset.sum_congr rfl fun d _ => ?_
  rw [ix4_of (lidx_main_v10 (ix4 b h p k) d) b h p d rfl rfl rfl rfl, ix4_of (ridx_main_v10 (ix4 b h p k) d) b h k d rfl rfl rfl rfl,
    query_apply, key_apply]

/-- The softplus of the reference. -/
theorem softplus_select (y : EReal) : Scalar.select (FloatOps.cmpf (F := Ideal) (φ := .f32) .une (y - Ideal.ofBits .f32 0x00000000#32) (y - Ideal.ofBits .f32 0x00000000#32))
      (y + Ideal.ofBits .f32 0x00000000#32)
      (max y (Ideal.ofBits .f32 0x00000000#32) + Ideal.log (1 + Ideal.exp (-max (y - Ideal.ofBits .f32 0x00000000#32) (-(y - Ideal.ofBits .f32 0x00000000#32)))))
    = max y 0 + Ideal.log (1 + Ideal.exp (-max (y - 0) (-(y - 0)))) := by
  have h : FloatOps.cmpf (F := Ideal) (φ := .f32) .une (y - Ideal.ofBits .f32 0x00000000#32) (y - Ideal.ofBits .f32 0x00000000#32) = 0#1 := by
    show Ideal.cmp .une _ _ = _
    simp [Ideal.cmp]
  rw [h, Ideal.ofBits_zero_f32]
  rfl

theorem softplus3 (i : S4x8x4096x4096.Idx) : val_main_call3_v1 (F := Ideal) X i
    = (let y : EReal := val_main_call3_v0 (F := Ideal) X i; max y 0 + Ideal.log (1 + Ideal.exp (-max (y - 0) (-(y - 0))))) :=
  softplus_select (val_main_call3_v0 (F := Ideal) X i)

theorem softplus0 (i : S4x8x4096x4096.Idx) : val_main_call0_v1 (F := Ideal) X i
    = (let y : EReal := val_main_call0_v0 (F := Ideal) X i; max y 0 + Ideal.log (1 + Ideal.exp (-max (y - 0) (-(y - 0))))) :=
  softplus_select (val_main_call0_v0 (F := Ideal) X i)

theorem takeLog_apply (i : S4x8x4096x4096.Idx) : val_main_v23 (F := Ideal) X i = takeLog (val_main_v10 (F := Ideal) X i) := by
  rw [val_main_v23_apply, softplus3, val_main_call3_v0_apply]
  exact (softplus_neg _).trans (congrArg takeLog (neg_neg _))

theorem keepLog_apply (i : S4x8x4096x4096.Idx) : val_main_v19 (F := Ideal) X i = keepLog (val_main_v10 (F := Ideal) X i) := by
  rw [val_main_v19_apply, softplus0, val_main_call0_v0_apply, val_main_v18_apply]
  refine (softplus_neg _).trans ((congrArg (fun t => takeLog (-t)) (neg_neg _)).trans (takeLog_neg _))

theorem log_apply (b : Fin 4) (h : Fin 8) (p k : Fin 4096) :
    val_main_v20 (F := Ideal) X (ix4 b h p k) = logOf (score X b h.val p.val) p.val k.val := by
  rw [val_main_v20_apply, val_main_call1_v1_apply, keepLog_apply, score_apply,
    show idx_main_call1_v1 (ix4 b h p k) = ix2 p k from eq_ix2 _, mask_apply, val_main_call1_v2_apply]
  refine (select_ofBool _ _ _).trans ?_
  unfold logOf
  rw [show val_main_call1_v0 (F := Ideal) (idx_main_call1_v2 (ix4 b h p k)) = 0 from Ideal.ofBits_zero_f32]

theorem suffix_apply (b : Fin 4) (h : Fin 8) (p k : Fin 4096) :
    val_main_v21 (F := Ideal) X (ix4 b h p k) = sumLogs (score X b h.val p.val) p.val k.val 4096 := by
  unfold val_main_v21 sumLogs
  have h0 : ∀ i, val_main_call2_v0 (F := Ideal) i = 0 := fun i => by
    rw [val_main_call2_v0_apply]; exact Ideal.ofBits_zero_f32
  have hg := fun i : Fin 4096 => log_apply X b h p i
  generalize val_main_v20 (F := Ideal) X = x at hg ⊢
  generalize val_main_call2_v0 (F := Ideal) = z at h0 ⊢
  have hr : (⟨4, ![4, 8, 4096, 4096]⟩ : Shape).ReduceWindows (![1, 1, 1, 4096] : Fin 4 → ℕ) ![1, 1, 1, 1] ![0, 0, 0, 0] ![0, 0, 0, 4095] ⟨4, ![4, 8, 4096, 4096]⟩ :=
    reduceWindows_S4x8x4096x4096_S4x8x4096x4096_w1s1p0_0_w1s1p0_0_w1s1p0_0_w4096s1p0_4095
  have e := window_suffix ![0, 0, 0, 4095] hr x (z (Shape.Idx.first h_S_)) (h0 _) b h p k
  have e2 := e (logOf (score X b h.val p.val) p.val) hg
  clear e hg
  rw [host_window]
  exact e2

theorem weight_apply (b : Fin 4) (h : Fin 8) (p k : Fin 4096) :
    val_main_v26 (F := Ideal) X (ix4 b h p k)
      = if k.val < p.val then Ideal.exp (takeLog (score X b h.val p.val k.val)
          + (sumLogs (score X b h.val p.val) p.val k.val 4096 - logOf (score X b h.val p.val) p.val k.val)) else 0 := by
  rw [val_main_v26_apply, val_main_call4_v1_apply, show idx_main_call4_v1 (ix4 b h p k) = ix2 p k from eq_ix2 _, mask_apply,
    val_main_v25_apply, val_main_v24_apply, val_main_v22_apply, takeLog_apply, score_apply, suffix_apply, log_apply, val_main_call4_v2_apply]
  refine (select_ofBool _ _ _).trans ?_
  rw [show val_main_call4_v0 (F := Ideal) (idx_main_call4_v2 (ix4 b h p k)) = 0 from Ideal.ofBits_zero_f32]
  rfl

/-- The reference at an index. -/
theorem result_apply (b : Fin 4) (p : Fin 4096) (y : Fin 512) :
    val_main_v30 (F := Ideal) X (ix3 b p y)
      = rowSum (score X b (y.val / 64) p.val) (fun j => lane X b j (1024 + y.val)) p.val 4096 := by
  have hb := b.isLt; have hp := p.isLt; have hy := y.isLt
  rw [val_main_v30_apply, val_main_v29_apply, val_main_v28_apply]
  refine (congrArg (val_main_v27 (F := Ideal) X) (ix4_of _ b ⟨y.val / 64, by omega⟩ p ⟨y.val % 64, by omega⟩
    (Fin.ext ?_) (Fin.ext ?_) (Fin.ext ?_) (Fin.ext ?_))).trans ?_
  · show ((b.val * 4096 + p.val) * 512 + y.val) / 2097152 = b.val; omega
  · show ((b.val * 4096 + p.val) * 512 + y.val) / 64 % 8 = y.val / 64; omega
  · show ((b.val * 4096 + p.val) * 512 + y.val) / 512 % 4096 = p.val; omega
  · show ((b.val * 4096 + p.val) * 512 + y.val) % 64 = y.val % 64; omega
  rw [val_main_v27_apply]
  unfold rowSum
  refine Finset.sum_congr rfl fun k _ => ?_
  rw [ix4_of (lidx_main_v27 (ix4 b ⟨y.val / 64, by omega⟩ p ⟨y.val % 64, by omega⟩) k) b ⟨y.val / 64, by omega⟩ p k rfl rfl rfl rfl,
    ix4_of (ridx_main_v27 (ix4 b ⟨y.val / 64, by omega⟩ p ⟨y.val % 64, by omega⟩) k) b ⟨y.val / 64, by omega⟩ k ⟨y.val % 64, by omega⟩ rfl rfl rfl rfl,
    weight_apply, value_apply]
  refine congrArg₂ (· * ·) rfl (congrArg (lane X b k.val) ?_)
  show 1024 + (64 * (y.val / 64) + y.val % 64) = 1024 + y.val
  omega

end Cert.Attn.Reference

end
-- ==== Proof.Final.lean ====
/-
  The kernel's array after the run, read at an index: a weighted sum over the keys of the tiles up
  to the query's own.
-/
module

public import proofs.«01_k».proof.Proof.Reference
public import proofs.«01_k».proof.Proof.Ideal.Run
public import Idealize.ShloMosaic.Lib.Pipeline.ValueKit

@[expose] public section

noncomputable section

namespace Cert.Attn.Ideal

open Idealize.ShloMosaic hiding ix2 ix3 ix4 eq_ix2 eq_ix4
open Idealize.ShloMosaic.ValueIdx
open Idealize.ShloMosaic.TcCoe
open Cert.KernelIdeal Cert.KernelIdeal.Gen
open Cert.Attn.Reference (lane score)
open scoped BigOperators

/-- The kernel's result, from the input. -/
def result (X : (⟨S4x4096x1536, .bf16⟩ : BufTy).Contents (Elt Ideal)) : (⟨S4x4096x512, .bf16⟩ : BufTy).Contents (Elt Ideal) :=
  fun i => ∑ j ∈ Finset.Ico 0 (256 * ((i 1).val / 256 + 1)),
    weightOf (score X (i 0) ((i 2).val / 64) (i 1).val) (i 1).val (256 * ((i 1).val / 256 + 1)) j * lane X (i 0) j (1024 + (i 2).val)

variable (m : (ℓ : Loc nD τ sig) → Buf (Elt Ideal) ℓ) (c : Dev nD)

/-- The places of the four windows. -/
theorem places : ∀ t : Fin grid0.N,
    win0_0.index t = ![(grid0.coords t 0).val, (grid0.coords t 2).val, (grid0.coords t 1).val]
    ∧ win0_1.index t = ![(grid0.coords t 0).val, 0, 4 + (grid0.coords t 1).val]
    ∧ win0_2.index t = ![(grid0.coords t 0).val, 0, 8 + (grid0.coords t 1).val]
    ∧ win0_3.index t = ![(grid0.coords t 0).val, (grid0.coords t 2).val, (grid0.coords t 1).val] := by
  decide +kernel

theorem queries_apply (t : Fin grid0.N) (r : Fin 2048) (l : Fin 128) :
    queriesIn m c t (ix3 0 r l)
      = lane (m ((c : Thread nD τ).loc main_arg0)) (grid0.coords t 0) (2048 * (grid0.coords t 2).val + r.val) (128 * (grid0.coords t 1).val + l.val) := by
  refine Reference.lane_eq _ (((win0_0).blk t).view.emb (ix3 0 r l)) _ _ _ ?_ ?_ ?_
  · blk_simp [(places t).1]
  · blk_simp [(places t).1]; show _ * 2048 + r.val = _; omega
  · blk_simp [(places t).1]; show _ * 128 + l.val = _; omega

theorem keys_apply (t : Fin grid0.N) (j : Fin 4096) (l : Fin 128) :
    keysIn m c t (ix3 0 j l)
      = lane (m ((c : Thread nD τ).loc main_arg0)) (grid0.coords t 0) j.val (512 + (128 * (grid0.coords t 1).val + l.val)) := by
  refine Reference.lane_eq _ (((win0_1).blk t).view.emb (ix3 0 j l)) _ _ _ ?_ ?_ ?_
  · blk_simp [(places t).2.1]
  · blk_simp [(places t).2.1]
  · blk_simp [(places t).2.1]; show _ * 128 + l.val = _; omega

theorem values_apply (t : Fin grid0.N) (j : Fin 4096) (l : Fin 128) :
    valuesIn m c t (ix3 0 j l)
      = lane (m ((c : Thread nD τ).loc main_arg0)) (grid0.coords t 0) j.val (1024 + (128 * (grid0.coords t 1).val + l.val)) := by
  refine Reference.lane_eq _ (((win0_2).blk t).view.emb (ix3 0 j l)) _ _ _ ?_ ?_ ?_
  · blk_simp [(places t).2.2.1]
  · blk_simp [(places t).2.2.1]
  · blk_simp [(places t).2.2.1]; show _ * 128 + l.val = _; omega

/-- A query of one head against a row of lanes: the other head's lanes are nothing. -/
theorem sum_head (l : Fin 128) (f g : Fin 128 → EReal) (u v : ℕ → EReal) (hq : Fin 128 → EReal)
    (hf : ∀ x : Fin 128, hq x = if x.val / 64 = l.val / 64 then f x else 0) (hu : ∀ x : Fin 128, f x = u x.val) (hv : ∀ x : Fin 128, g x = v x.val) :
    ∑ x : Fin 128, hq x * g x = ∑ d : Fin 64, u (64 * (l.val / 64) + d.val) * v (64 * (l.val / 64) + d.val) := by
  have e : ∀ x : Fin 128, hq x * g x = if x.val / 64 = l.val / 64 then u x.val * v x.val else 0 := fun x => by
    rw [hf, hv]
    by_cases h : x.val / 64 = l.val / 64
    · rw [if_pos h, if_pos h, hu]
    · rw [if_neg h, if_neg h, zero_mul]
  rw [Finset.sum_congr rfl fun x _ => e x]
  have hl : l.val / 64 = 0 ∨ l.val / 64 = 1 := by omega
  refine (Fin.sum_univ_add (a := 64) (b := 64) (fun x : Fin (64 + 64) => if x.val / 64 = l.val / 64 then u x.val * v x.val else 0)).trans ?_
  have h0 : ∀ d : Fin 64, d.val / 64 = 0 := fun d => by omega
  have h1 : ∀ d : Fin 64, (64 + d.val) / 64 = 1 := fun d => by omega
  rcases hl with hl | hl <;> simp [hl, h0, h1, -Fin.val_natAdd, -Fin.natAdd_eq_addNat, show ∀ d : Fin 64, (Fin.natAdd 64 d).val = 64 + d.val from fun _ => rfl]

theorem head_apply (q : FVec Ideal S256x128 .bf16) (r : Fin 256) (l x : Fin 128) :
    headOf q l (ix2 r x) = if x.val / 64 = l.val / 64 then q (ix2 r x) else 0 := by
  unfold headOf
  by_cases h : l.val < 64
  · rw [if_pos h, query0_apply]
    refine if_congr ?_ rfl rfl
    omega
  · rw [if_neg h, query1_apply]
    by_cases hx : x.val < 64
    · rw [if_pos hx, if_neg (by omega)]
    · rw [if_neg hx, if_pos (by omega)]

theorem lane_mod (X : (⟨S4x4096x1536, .bf16⟩ : BufTy).Contents (Elt Ideal)) (b : Fin 4) (j e : ℕ) : lane X b (j % 4096) e = lane X b j e := by
  unfold lane
  congr 2
  exact Fin.ext (Nat.mod_mod _ _)

theorem thr_bot : (thr : Ideal .f32) = (⊥ : EReal) := IdealRules.named_const.ideal_named_scalar _ _ _ _ rfl

/-- The scores of a row of a block, from the input. -/
theorem score_block (t : Fin grid0.N) (s : Fin 8) (r : Fin 256) (l : Fin 128) (j : ℕ) :
    scoreOf (headOf (blockAt (queriesIn m c t) s) l) (keysIn m c t) r j
      = score (m ((c : Thread nD τ).loc main_arg0)) (grid0.coords t 0) ((128 * (grid0.coords t 1).val + l.val) / 64)
          (2048 * (grid0.coords t 2).val + (256 * s.val + r.val)) j := by
  unfold scoreOf score
  refine (sum_head l (fun x => (blockAt (queriesIn m c t) s) (ix2 r x)) (fun x => entry (keysIn m c t) j x)
    (fun n => lane (m ((c : Thread nD τ).loc main_arg0)) (grid0.coords t 0) (2048 * (grid0.coords t 2).val + (256 * s.val + r.val)) (128 * (grid0.coords t 1).val + n))
    (fun n => lane (m ((c : Thread nD τ).loc main_arg0)) (grid0.coords t 0) j (512 + (128 * (grid0.coords t 1).val + n)))
    _ (fun x => head_apply _ r l x) (fun x => ?_) (fun x => ?_)).trans ?_
  · refine (blockAt_apply (F := Ideal) (queriesIn m c t) s r x).trans ?_
    exact queries_apply m c t ⟨256 * s.val + r.val, by omega⟩ x
  · unfold entry
    exact (keys_apply m c t _ x).trans (lane_mod _ _ _ _)
  · have h : 64 * ((128 * (grid0.coords t 1).val + l.val) / 64) = 128 * (grid0.coords t 1).val + 64 * (l.val / 64) := by omega
    rw [h]
    simp only [Nat.add_assoc]

/-- What the body leaves, from the input. -/
theorem outAt_apply (t : Fin grid0.N) (x : Fin 2048) (l : Fin 128) (i : S4x4096x512.Idx) (h0 : i 0 = grid0.coords t 0)
    (h1 : (i 1).val = 2048 * (grid0.coords t 2).val + x.val) (h2 : (i 2).val = 128 * (grid0.coords t 1).val + l.val) :
    outAt (F := Ideal) m c t (ix3 0 x l) = result (m ((c : Thread nD τ).loc main_arg0)) i := by
  have hs : x.val / 256 < 8 := by omega
  have e := (rowLast_is (blockAt (queriesIn m c t) ⟨x.val / 256, hs⟩) (keysIn m c t) (valuesIn m c t)
    (tileNo (grid0.coords t) ⟨x.val / 256, hs⟩) (tileNo_lt _ _)).out (⟨x.val % 256, Nat.mod_lt _ (by decide)⟩ : Fin 256) l
  rw [← thr_bot] at e
  refine Eq.trans e ?_
  unfold result
  have hT : tileNo (grid0.coords t) ⟨x.val / 256, hs⟩ = (i 1).val / 256 := by
    rw [h1]; show 8 * (grid0.coords t 2).val + x.val / 256 = _; omega
  have hp : 256 * tileNo (grid0.coords t) ⟨x.val / 256, hs⟩ + x.val % 256 = (i 1).val := by rw [hT, h1]; omega
  refine Finset.sum_congr (by rw [hT]) fun j _ => ?_
  refine congrArg₂ (· * ·) ?_ ?_
  · have hsc : scoreOf (headOf (blockAt (queriesIn m c t) ⟨x.val / 256, hs⟩) l) (keysIn m c t) (⟨x.val % 256, Nat.mod_lt _ (by decide)⟩ : Fin 256)
        = score (m ((c : Thread nD τ).loc main_arg0)) (i 0) ((i 2).val / 64) (i 1).val := by
      funext j
      rw [score_block, h0, h1, h2]
      congr 1
      show 2048 * _ + (256 * (x.val / 256) + x.val % 256) = _
      omega
    rw [hsc]
    show weightOf _ (256 * tileNo (grid0.coords t) ⟨x.val / 256, hs⟩ + x.val % 256) _ _ = _
    rw [hp, hT]
  · unfold entry
    rw [h0, h2]
    exact (values_apply m c t _ l).trans (lane_mod _ _ _ _)

theorem finalOut_eq : finalOut m c = result (m ((c : Thread nD τ).loc main_arg0)) := by
  refine (dats m 0 c).arrAt_eq_of_covers (3 : Fin 4) _ (by decide +kernel) fun t hf y => ?_
  blk_simp [(places t).2.2.2]
  obtain ⟨x, l, rfl⟩ : ∃ (x : Fin 2048) (l : Fin 128), y = ix3 (0 : Fin 1) x l := by
    refine ⟨y 1, y 2, funext fun a => ?_⟩
    match a with
    | ⟨0, _⟩ => exact Subsingleton.elim (α := Fin 1) _ _
    | ⟨1, _⟩ => rfl
    | ⟨2, _⟩ => rfl
  refine outAt_apply m c t x l ((win0_3.blk t).view.emb (ix3 (0 : Fin 1) x l)) (Fin.ext ?_) ?_ ?_
  · blk_simp [(places t).2.2.2]
  · blk_simp [(places t).2.2.2]; show _ * 2048 + x.val = _; omega
  · blk_simp [(places t).2.2.2]; show _ * 128 + l.val = _; omega

end Cert.Attn.Ideal

end
-- ==== Proof.Algebraic.lean ====
/-
  At exact numbers the kernel's result is the reference's.
-/
module

public import proofs.«01_k».proof.Defs
public import proofs.«01_k».proof.Proof.Final
public import proofs.«01_k».proof.Proof.Frames
public import proofs.«01_k».proof.Proof.Gen.ReferenceIdeal.Run
public import proofs.«01_k».proof.Proof.Gen.ReferenceIdeal.Read

@[expose] public section

noncomputable section

namespace Cert.Attn

open Idealize.ShloMosaic hiding ix2 ix3 ix4 eq_ix2 eq_ix4
open Idealize.ShloMosaic.ValueIdx
open Idealize.SL Idealize.SL.Sem

/-- The two results, from one input. -/
theorem result_eq (X : (⟨Cert.ReferenceIdeal.S4x4096x1536, .bf16⟩ : BufTy).Contents (Elt Ideal)) :
    Cert.ReferenceIdeal.Read.val_main_v30 (F := Ideal) X = Ideal.result X := by
  funext i
  obtain ⟨b, p, y, rfl⟩ : ∃ (b : Fin 4) (p : Fin 4096) (y : Fin 512), i = ix3 b p y := by
    refine ⟨i 0, i 1, i 2, funext fun a => ?_⟩
    match a with
    | ⟨0, _⟩ => rfl
    | ⟨1, _⟩ => rfl
    | ⟨2, _⟩ => rfl
  have hp := p.isLt
  refine (Reference.result_apply X b p y).trans ?_
  exact (row_eq (Reference.score X b (y.val / 64) p.val) (fun j => Reference.lane X b j (1024 + y.val)) p.val (256 * (p.val / 256 + 1)) 4096
    (by omega) (by omega)).symm

theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Ideal.finalOut m c, ?_, ?_⟩
  · exact (θ_run _ _ _).mono (fun _ h c => ⟨(h.1 c).2, (h.1 c).1⟩) (Ideal.run (F := Idealize.ShloMosaic.Ideal) m ρ)
  · refine (θ_run _ _ _).mono (fun _ h c => ⟨(h c).1.trans ?_, (h c).2⟩) (Cert.ReferenceIdeal.Value.run (F := Idealize.ShloMosaic.Ideal) m' ρ')
    rw [Cert.ReferenceIdeal.Read.val_main_v30_eq, hagree c]
    refine Eq.trans ?_ (Ideal.finalOut_eq m c).symm
    exact result_eq _

end Cert.Attn

end
-- ==== Proof.Ffn.Ideal.Body.lean ====
/-
  What the body of the experts kernel does to memory at one grid point: the row block held in the window
  goes through the feed-forward layer held in one of the two slots, or the result's window is cleared;
  then the next expert's weights may be copied into a slot.
-/
module

public import proofs.«01_k».proof.Proof.Body
public import proofs.«01_k».proof.Proof.Gen.ExpertsIdeal
public import Idealize.ShloMosaic.Lib.Pipeline.Regions
public import Idealize.ShloMosaic.Lib.VecWindow
public import Idealize.ShloMosaic.Lib.Tactic

@[expose] public section

noncomputable section

namespace Cert.Ffn.Ideal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.ExpertsIdeal Cert.ExpertsIdeal.Facts₀ Cert.ExpertsIdeal.Facts
open Cert.Attn (load_wp store_wp put_all)

/-! ## A word of scalar memory -/

section Word

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ} (𝒱 : Variants)
variable (c : Dev nD) (bd : Option 𝒱.V) (E : Set Name) {s : Shape} {e : EltTy}

local notation "𝕄" => MT nD τ sig Ix Val Name U Lvl

/-- A word read from a table held whole. -/
theorem word_wp {m : Memref sig .tc .smem s e} {r : Rect s} (h1 : r.shape.numel = 1) (hp : e.packing = 1) (q : PosShare TreeShare) (X : s.Idx → Val e)
    (Q : Val e → sProp 𝕄) :
    iprop(owns (c : Thread nD τ) m q X ∗ (owns (c : Thread nD τ) m q X -∗ Q (X (r.emb (Shape.Idx.first (h1.symm ▸ Nat.one_pos))))))
      ⊢ wp frame (wpE defs 𝒱 (c : Thread nD τ) bd) E (smemLoad m r h1 hp) Q := by
  unfold owns smemLoad
  iintro ⟨⟨%f, %hf, H⟩, Hk⟩
  subst hf
  iapply (wp_smemLoadElt 𝒱 (c : Thread nD τ) bd E (m := m) (r := r) (m.view.set_slice_subset r)) $$ H
  iintro H
  rw [wp_ret, show (m.access r).read Val f (Shape.Idx.first (h1.symm ▸ Nat.one_pos)) = m.view.read Val f (r.emb (Shape.Idx.first (h1.symm ▸ Nat.one_pos))) from rfl]
  imodintro
  iapply Hk
  iexists f
  isplitr
  · ipureintro; rfl
  iexact H

/-- The end of a program. -/
theorem ret_wp {α : Type} (x : α) (Q : α → sProp 𝕄) : Q x ⊢ wp frame (wpE defs 𝒱 (c : Thread nD τ) bd) E (Pure.pure x) Q := by
  show _ ⊢ wp frame (wpE defs 𝒱 (c : Thread nD τ) bd) E (.ret x) Q
  rw [wp_ret]; exact fupd_intro

/-- What the program takes for granted, where it holds. -/
theorem assume_wp {P : Prop} {d : Decidable P} (h : P) (Q : PLift P → sProp 𝕄) :
    Q ⟨h⟩ ⊢ wp frame (wpE defs 𝒱 (c : Thread nD τ) bd) E (Prog.lift (TpuEff.assume P d)) Q := by
  unfold Prog.lift
  rw [wp_assume_eq]
  iintro H
  imodintro
  iexists ⟨h⟩
  rw [wp_ret]; imodintro
  iexact H

end Word

variable {F : FTy → Type} [FloatOps F]

/-! ## The layer -/

theorem slot_up (s : Fin 2) : ∀ a, (![s.val, 0, 0] : Fin 3 → Nat) a + S1x1024x2048.size a ≤ S2x1024x2048.size a := by
  fin_cases s <;> decide
theorem slot_down (s : Fin 2) : ∀ a, (![s.val, 0, 0] : Fin 3 → Nat) a + S1x1024x1024.size a ≤ S2x1024x1024.size a := by
  fin_cases s <;> decide

/-- The up projection's weights in slot `s`. -/
def upAt (U : S2x1024x2048.Idx → F .bf16) (s : Fin 2) : FVec F S1024x2048 .bf16 :=
  shapeCast S1024x2048 (VecWindow.window (s := S2x1024x2048) U ![s.val, 0, 0] S1x1024x2048.size (slot_up s)) shapeCasts_S1x1024x2048_S1024x2048
/-- The down projection's weights in slot `s`. -/
def downAt (D : S2x1024x1024.Idx → F .bf16) (s : Fin 2) : FVec F S1024x1024 .bf16 :=
  shapeCast S1024x1024 (VecWindow.window (s := S2x1024x1024) D ![s.val, 0, 0] S1x1024x1024.size (slot_down s)) shapeCasts_S1x1024x1024_S1024x1024

/-- The up projection's weights as a slot keeps them. -/
def upKept (W : S1x1024x2048.Idx → F .f32) : FVec F S1024x2048 .bf16 :=
  truncf .bf16 (shapeCast S1024x2048 (VecWindow.window (s := S1x1024x2048) W ![0, 0, 0] S1x1024x2048.size inb_S1x1024x2048_S1x1024x2048_0_0_0) shapeCasts_S1x1024x2048_S1024x2048 : FVec F S1024x2048 .f32) bitsLt_bf16_f32
/-- The down projection's weights as a slot keeps them. -/
def downKept (W : S1x1024x1024.Idx → F .f32) : FVec F S1024x1024 .bf16 :=
  truncf .bf16 (shapeCast S1024x1024 (VecWindow.window (s := S1x1024x1024) W ![0, 0, 0] S1x1024x1024.size inb_S1x1024x1024_S1x1024x1024_0_0_0) shapeCasts_S1x1024x1024_S1024x1024 : FVec F S1024x1024 .f32) bitsLt_bf16_f32

/-- `put` of weights into slot `s`. -/
def upPut (U : S2x1024x2048.Idx → F .bf16) (s : Fin 2) (w : FVec F S1024x2048 .bf16) : S2x1024x2048.Idx → F .bf16 :=
  VecWindow.put (s := S2x1024x2048) U ![s.val, 0, 0] S1x1024x2048.size (shapeCast S1x1024x2048 w shapeCasts_S1024x2048_S1x1024x2048)
def downPut (D : S2x1024x1024.Idx → F .bf16) (s : Fin 2) (w : FVec F S1024x1024 .bf16) : S2x1024x1024.Idx → F .bf16 :=
  VecWindow.put (s := S2x1024x1024) D ![s.val, 0, 0] S1x1024x1024.size (shapeCast S1x1024x1024 w shapeCasts_S1024x1024_S1x1024x1024)

/-- What the layer's two gates leave of the up projection. -/
def gates (v36 : FVec F S512x2048 .f32) : FVec F S512x1024 .f32 :=
  have v39 : FVec F S512x1024 .f32 := minimumf (extractStridedSlice S512x1024 ![0, 0] v36 slices_S512x2048_o0_0_S512x1024) (broadcast S512x1024 (Scalar.ofBits .f32 0x40E00000#32))
  have v44 : FVec F S512x1024 .f32 := minimumf (broadcast S512x1024 (Scalar.ofBits .f32 0x40E00000#32))
    (maximumf (broadcast S512x1024 (Scalar.ofBits .f32 0xC0E00000#32)) (extractStridedSlice S512x1024 ![0, 1024] v36 slices_S512x2048_o0_1024_S512x1024))
  have v48 : FVec F S512x1024 .f32 := subf (broadcast S512x1024 (Scalar.ofBits .f32 0x00000000#32)) (mulf (broadcast S512x1024 (Scalar.ofBits .f32 0x3FD9DB23#32)) v39)
  have v53 : FVec F S512x1024 .f32 := divf (broadcast S512x1024 (Scalar.ofBits .f32 0x3F800000#32)) (addf (broadcast S512x1024 (Scalar.ofBits .f32 0x3F800000#32)) (exp v48))
  mulf (mulf v39 v53) (addf v44 (broadcast S512x1024 (Scalar.ofBits .f32 0x3F800000#32)))

/-- The up projection of a row block. -/
def upRows (X : S512x1024.Idx → F .f32) (wu : FVec F S1024x2048 .bf16) (B : S1x1x2048.Idx → F .f32) : FVec F S512x2048 .f32 :=
  addf (matmul dot_S512x1024_S1024x2048_S512x2048_1_0_0_1_n_n none
      (truncf .bf16 (VecWindow.window (s := S512x1024) X ![0, 0] S512x1024.size inb_S512x1024_S512x1024_0_0 : FVec F S512x1024 .f32) bitsLt_bf16_f32) wu (constant S512x2048 .f32 0x00000000#32))
    (broadcastTo S512x2048 (shapeCast S1x2048 (VecWindow.window (s := S1x1x2048) B ![0, 0, 0] S1x1x2048.size inb_S1x1x2048_S1x1x2048_0_0_0) shapeCasts_S1x1x2048_S1x2048) broadcasts_S1x2048_S512x2048)

/-- The down projection, before its bias. -/
def downRows (g : FVec F S512x1024 .f32) (wd : FVec F S1024x1024 .bf16) : FVec F S512x1024 .f32 :=
  matmul dot_S512x1024_S1024x1024_S512x1024_1_0_0_1_n_n none (truncf .bf16 g bitsLt_bf16_f32) wd (constant S512x1024 .f32 0x00000000#32)

/-- The layer's result on a row block. -/
def layer (X : S512x1024.Idx → F .f32) (wu : FVec F S1024x2048 .bf16) (bu : S1x1x2048.Idx → F .f32) (wd : FVec F S1024x1024 .bf16)
    (b : S1x1x1024.Idx → F .f32) : FVec F S512x1024 .f32 :=
  addf (downRows (gates (upRows X wu bu)) wd)
    (broadcastTo S512x1024 (shapeCast S1x1024 (VecWindow.window (s := S1x1x1024) b ![0, 0, 0] S1x1x1024.size inb_S1x1x1024_S1x1x1024_0_0_0) shapeCasts_S1x1x1024_S1x1024) broadcasts_S1x1024_S512x1024)

/-- What a row block without rows gets. -/
def nothing : FVec F S512x1024 .f32 := broadcast S512x1024 (Scalar.ofBits .f32 0x00000000#32)

/-! ## The body in three parts -/

section Body

variable (i : grid0.Coords) (arg1 : Memref sig .tc .smem S189 .i32) (harg1 : arg1.IsWhole) (arg2 : Memref sig .tc .smem S189 .i32) (harg2 : arg2.IsWhole)
  (arg3 : Memref sig .tc .smem S1 .i32) (harg3 : arg3.IsWhole) (arg4 : Memref sig .tc .vmem S512x1024 .f32) (harg4 : arg4.IsWhole)
  (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)
  (arg9 : Memref sig .tc .vmem S512x1024 .f32) (harg9 : arg9.IsWhole) (arg10 : Memref sig .tc .vmem S2x1024x2048 .bf16) (harg10 : arg10.IsWhole)
  (arg11 : Memref sig .tc .vmem S2x1024x1024 .bf16) (harg11 : arg11.IsWhole)

/-- The row block through the layer. -/
def work (v0 : BitVec 32) : Prog (TpuEff nD τ sig (Elt F) Λ₀ .tc) PUnit :=
  if k0_h1 : k0_cond1 i v0 = 1#1 then do
    let v62 : FVec F S512x1024 .f32 ← k0_part1 i arg1 harg1 arg2 harg2 arg3 harg3 arg4 harg4 arg5 harg5 arg6 harg6 arg7 harg7 arg8 harg8 arg9 harg9 arg10 harg10 arg11 harg11 v0 (Scalar.subi (BitVec.ofNat 32 (i 0).val) 1#32) k0_h1
    let v63 : Vec F S1x1x1024 .f32 ← Prog.lift (.load arg8 (Rect.unit (s := S1x1x1024) ![0, 0, 0] S1x1x1024.size inb_S1x1x1024_S1x1x1024_0_0_0).toLoadRect (View.loadsAt_vmem h_S1x1x1024))
    let _v67 : Vec F S512x1024 .f32 ← Prog.lift (.load arg9 (Rect.unit (s := S512x1024) ![0, 0] S512x1024.size inb_S512x1024_S512x1024_0_0).toLoadRect (View.loadsAt_vmem h_S512x1024))
    Prog.lift (.store arg9 (Rect.unit (s := S512x1024) ![0, 0] S512x1024.size inb_S512x1024_S512x1024_0_0)
      (addf v62 (broadcastTo S512x1024 (shapeCast S1x1024 v63 shapeCasts_S1x1x1024_S1x1024) broadcasts_S1x1024_S512x1024)) Finset.univ (View.stores_vmem_bits_univ h_S512x1024 rfl) (.inl rfl))
    pure ⟨⟩
  else pure ⟨⟩

/-- The result's window cleared. -/
def clear (v0 : BitVec 32) : Prog (TpuEff nD τ sig (Elt F) Λ₀ .tc) PUnit :=
  if _k0_h2 : k0_cond2 i v0 = 1#1 then do
    let _v25 : Vec F S512x1024 .f32 ← Prog.lift (.load arg9 (Rect.unit (s := S512x1024) ![0, 0] S512x1024.size inb_S512x1024_S512x1024_0_0).toLoadRect (View.loadsAt_vmem h_S512x1024))
    Prog.lift (.store arg9 (Rect.unit (s := S512x1024) ![0, 0] S512x1024.size inb_S512x1024_S512x1024_0_0) (nothing (F := F)) Finset.univ (View.stores_vmem_bits_univ h_S512x1024 rfl) (.inl rfl))
    pure ⟨⟩
  else pure ⟨⟩

/-- The next expert's weights into their slot. -/
def keep (v0 v13 v17 : BitVec 32) : Prog (TpuEff nD τ sig (Elt F) Λ₀ .tc) PUnit :=
  if k0_h3 : k0_cond3 i v0 v13 v17 = 1#1 then do
    let v25 : Elt F .i32 ← smemLoad arg2 (Rect.unit (s := S189) (k0_off8 i) S1.size (k0_off8_inb i)) numel1_S1 rfl
    have k0_hw2 : k0_chk2 i v0 v13 v17 v25 := (← Prog.lift (TpuEff.assume (k0_chk2 i v0 v13 v17 v25) (k0_chk2.dec i v0 v13 v17 v25))).down
    let v26 : Vec F S1x1024x2048 .f32 ← Prog.lift (.load arg5 (Rect.unit (s := S1x1024x2048) ![0, 0, 0] S1x1024x2048.size inb_S1x1024x2048_S1x1024x2048_0_0_0).toLoadRect (View.loadsAt_vmem h_S1x1024x2048))
    let _v30 : Vec F S1x1024x2048 .bf16 ← Prog.lift (.load arg10 (Rect.unit (s := S2x1024x2048) (k0_off9 v25) S1x1024x2048.size (k0_off9_inb i v0 v13 v17 v25 k0_hw2 k0_h3)).toLoadRect (View.loadsAt_vmem h_S1x1024x2048))
    Prog.lift (.store arg10 (Rect.unit (s := S2x1024x2048) (k0_off9 v25) S1x1024x2048.size (k0_off9_inb i v0 v13 v17 v25 k0_hw2 k0_h3))
      (shapeCast S1x1024x2048 (truncf .bf16 (shapeCast S1024x2048 v26 shapeCasts_S1x1024x2048_S1024x2048 : FVec F S1024x2048 .f32) bitsLt_bf16_f32) shapeCasts_S1024x2048_S1x1024x2048)
      Finset.univ (View.stores_vmem h_S1x1024x2048 (harg10.storeExact_slice rfl _ (k0_off9_packedbf16 i v0 v13 v17 v25 k0_hw2 k0_h3)) (fun _ => rfl)) (.inl rfl))
    let v33 : Vec F S1x1024x1024 .f32 ← Prog.lift (.load arg7 (Rect.unit (s := S1x1024x1024) ![0, 0, 0] S1x1024x1024.size inb_S1x1024x1024_S1x1024x1024_0_0_0).toLoadRect (View.loadsAt_vmem h_S1x1024x1024))
    let _v37 : Vec F S1x1024x1024 .bf16 ← Prog.lift (.load arg11 (Rect.unit (s := S2x1024x1024) (k0_off10 v25) S1x1024x1024.size (k0_off10_inb i v0 v13 v17 v25 k0_hw2 k0_h3)).toLoadRect (View.loadsAt_vmem h_S1x1024x1024))
    Prog.lift (.store arg11 (Rect.unit (s := S2x1024x1024) (k0_off10 v25) S1x1024x1024.size (k0_off10_inb i v0 v13 v17 v25 k0_hw2 k0_h3))
      (shapeCast S1x1024x1024 (truncf .bf16 (shapeCast S1024x1024 v33 shapeCasts_S1x1024x1024_S1024x1024 : FVec F S1024x1024 .f32) bitsLt_bf16_f32) shapeCasts_S1024x1024_S1x1024x1024)
      Finset.univ (View.stores_vmem h_S1x1024x1024 (harg11.storeExact_slice rfl _ (k0_off10_packedbf16 i v0 v13 v17 v25 k0_hw2 k0_h3)) (fun _ => rfl)) (.inl rfl))
    pure ⟨⟩
  else pure ⟨⟩

/-- The body, its parts in order. -/
def body : Prog (TpuEff nD τ sig (Elt F) Λ₀ .tc) PUnit := do
  let v0 : Elt F .i32 ← smemLoad arg3 (Rect.unit (s := S1) ![0] S1.size inb_S1_S1_0) numel1_S1 rfl
  work i arg1 harg1 arg2 harg2 arg3 harg3 arg4 harg4 arg5 harg5 arg6 harg6 arg7 harg7 arg8 harg8 arg9 harg9 arg10 harg10 arg11 harg11 v0
  clear i arg9 v0
  let v13 : Elt F .i32 ← smemLoad arg1 (Rect.unit (s := S189) (k0_off6 i) S1.size (k0_off6_inb i)) numel1_S1 rfl
  let v17 : Elt F .i32 ← smemLoad arg1 (Rect.unit (s := S189) (k0_off7 i) S1.size (k0_off7_inb i)) numel1_S1 rfl
  keep i arg2 arg5 arg7 arg10 harg10 arg11 harg11 v0 v13 v17

theorem body_eq : cc0_moe_experts (F := F) i arg1 harg1 arg2 harg2 arg3 harg3 arg4 harg4 arg5 harg5 arg6 harg6 arg7 harg7 arg8 harg8 arg9 harg9 arg10 harg10 arg11 harg11
    = body i arg1 harg1 arg2 harg2 arg3 harg3 arg4 harg4 arg5 harg5 arg6 harg6 arg7 harg7 arg8 harg8 arg9 harg9 arg10 harg10 arg11 harg11 := by
  unfold cc0_moe_experts body
  refine bind_congr fun v0 => ?_
  by_cases h1 : k0_cond1 i v0 = 1#1 <;> by_cases h2 : k0_cond2 i v0 = 1#1
  all_goals
    simp only [work, clear, h1, h2, dif_pos, dif_neg, not_false_eq_true, bind_assoc, pure_bind]
  all_goals
    chain_rfl

/-! ## What the parts do -/

variable (c : Dev nD) (E : Set ℕ)

local notation "𝕄" => MT nD τ sig Unit (Elt F) ℕ (UR sig nD τ) ℕ
local notation "𝕎" => wp frame (wpE (defs₀ (F := F)) Variants.none (c : Thread nD τ) none) E

theorem off_up (s : Fin 2) : k0_off4 (BitVec.ofNat 32 s.val) = ![s.val, 0, 0] := by fin_cases s <;> rfl
theorem off_down (s : Fin 2) : k0_off5 (BitVec.ofNat 32 s.val) = ![s.val, 0, 0] := by fin_cases s <;> rfl
theorem off_up' (s : Fin 2) : k0_off9 (BitVec.ofNat 32 s.val) = ![s.val, 0, 0] := by fin_cases s <;> rfl
theorem off_down' (s : Fin 2) : k0_off10 (BitVec.ofNat 32 s.val) = ![s.val, 0, 0] := by fin_cases s <;> rfl

theorem window_off {s : Shape} {α : Type} (x : s.Idx → α) {off off' size : Fin s.rank → ℕ} (h : off = off') (inb : ∀ a, off a + size a ≤ s.size a)
    (inb' : ∀ a, off' a + size a ≤ s.size a) : VecWindow.window x off size inb = VecWindow.window x off' size inb' := by
  subst h; rfl

/-- The word of a table at `off`. -/
def wordAt (T : S189.Idx → BitVec 32) (off : Fin 1 → ℕ) (inb : ∀ a, off a + S1.size a ≤ S189.size a) : BitVec 32 :=
  T ((Rect.unit (s := S189) off S1.size inb).emb (Shape.Idx.first (numel1_S1.symm ▸ Nat.one_pos)))

theorem zero2 : ∀ a : Fin 2, (![0, 0] : Fin 2 → ℕ) a = 0 := by decide

/-- What is kept of the result's window by the row block's pass. -/
def worked (i : grid0.Coords) (v0 : BitVec 32) (s : Fin 2) (X : S512x1024.Idx → F .f32) (U : S2x1024x2048.Idx → F .bf16) (bu : S1x1x2048.Idx → F .f32)
    (D : S2x1024x1024.Idx → F .bf16) (b : S1x1x1024.Idx → F .f32) (O : S512x1024.Idx → F .f32) : S512x1024.Idx → F .f32 :=
  if k0_cond1 i v0 = 1#1 then layer X (upAt U s) bu (downAt D s) b else O

variable (q2 : PosShare TreeShare) (T2 : S189.Idx → BitVec 32)
variable (X : S512x1024.Idx → F .f32) (U : S2x1024x2048.Idx → F .bf16) (bu : S1x1x2048.Idx → F .f32) (D : S2x1024x1024.Idx → F .bf16) (b : S1x1x1024.Idx → F .f32)
variable (Wu : S1x1024x2048.Idx → F .f32) (Wd : S1x1024x1024.Idx → F .f32) (O : S512x1024.Idx → F .f32)

theorem work_wp (v0 : BitVec 32) (s : Fin 2) (hs : k0_cond1 i v0 = 1#1 → wordAt T2 (k0_off3 i) (k0_off3_inb i) = BitVec.ofNat 32 s.val) (Q : PUnit → sProp 𝕄) :
    iprop(owns (c : Thread nD τ) arg2 q2 T2 ∗ owns (c : Thread nD τ) arg4 fullShare X ∗ owns (c : Thread nD τ) arg6 fullShare bu ∗ owns (c : Thread nD τ) arg8 fullShare b
        ∗ owns (c : Thread nD τ) arg9 fullShare O ∗ owns (c : Thread nD τ) arg10 fullShare U ∗ owns (c : Thread nD τ) arg11 fullShare D
        ∗ (owns (c : Thread nD τ) arg2 q2 T2 -∗ owns (c : Thread nD τ) arg4 fullShare X -∗ owns (c : Thread nD τ) arg6 fullShare bu -∗ owns (c : Thread nD τ) arg8 fullShare b
          -∗ owns (c : Thread nD τ) arg9 fullShare (worked i v0 s X U bu D b O) -∗ owns (c : Thread nD τ) arg10 fullShare U -∗ owns (c : Thread nD τ) arg11 fullShare D -∗ Q ⟨⟩))
      ⊢ 𝕎 (work i arg1 harg1 arg2 harg2 arg3 harg3 arg4 harg4 arg5 harg5 arg6 harg6 arg7 harg7 arg8 harg8 arg9 harg9 arg10 harg10 arg11 harg11 v0) Q := by
  unfold work worked
  iintro ⟨H2, H4, H6, H8, H9, H10, H11, HQ⟩
  by_cases h1 : k0_cond1 i v0 = 1#1
  swap
  · rw [dif_neg h1, if_neg h1]
    iapply (ret_wp Variants.none c none E _ _)
    iapply HQ $$ H2 H4 H6 H8 H9 H10 H11
  rw [dif_pos h1, if_pos h1]
  unfold k0_part1
  simp only [wp_bind]
  iapply (word_wp Variants.none c none E numel1_S1 rfl q2 T2 _)
  isplitl [H2]; · iexact H2
  iintro H2
  have hw : T2 ((Rect.unit (s := S189) (k0_off3 i) S1.size (k0_off3_inb i)).emb (Shape.Idx.first (numel1_S1.symm ▸ Nat.one_pos))) = BitVec.ofNat 32 s.val := hs h1
  rw [hw]
  iapply (assume_wp Variants.none c none E (show k0_chk1 i v0 (BitVec.ofNat 32 s.val) from ⟨fun _ => by rw [off_up]; exact slot_up s, fun _ => by rw [off_down]; exact slot_down s⟩) _)
  iapply (load_wp Variants.none c none E inb_S512x1024_S512x1024_0_0 fullShare X _)
  isplitl [H4]; · iexact H4
  iintro H4
  iapply (load_wp Variants.none c none E _ fullShare U _)
  isplitl [H10]; · iexact H10
  iintro H10
  iapply (load_wp Variants.none c none E inb_S1x1x2048_S1x1x2048_0_0_0 fullShare bu _)
  isplitl [H6]; · iexact H6
  iintro H6
  iapply (load_wp Variants.none c none E _ fullShare D _)
  isplitl [H11]; · iexact H11
  iintro H11
  iapply (ret_wp Variants.none c none E _ _)
  iapply (load_wp Variants.none c none E inb_S1x1x1024_S1x1x1024_0_0_0 fullShare b _)
  isplitl [H8]; · iexact H8
  iintro H8
  iapply (load_wp Variants.none c none E inb_S512x1024_S512x1024_0_0 fullShare O _)
  isplitl [H9]; · iexact H9
  iintro H9
  iapply (store_wp Variants.none c none E inb_S512x1024_S512x1024_0_0 O _)
  isplitl [H9]; · iexact H9
  rw [put_all (s := S512x1024) _ _ _ zero2]
  iintro H9
  iapply (ret_wp Variants.none c none E _ _)
  iapply HQ $$ H2 H4 H6 H8 [H9] H10 H11
  rw [window_off (s := S2x1024x2048) U (off_up s) _ (slot_up s), window_off (s := S2x1024x1024) D (off_down s) _ (slot_down s)]
  iexact H9

/-- What clearing leaves of the result's window. -/
def cleared (i : grid0.Coords) (v0 : BitVec 32) (O : S512x1024.Idx → F .f32) : S512x1024.Idx → F .f32 :=
  if k0_cond2 i v0 = 1#1 then nothing else O

theorem clear_wp (v0 : BitVec 32) (Q : PUnit → sProp 𝕄) :
    iprop(owns (c : Thread nD τ) arg9 fullShare O ∗ (owns (c : Thread nD τ) arg9 fullShare (cleared i v0 O) -∗ Q ⟨⟩)) ⊢ 𝕎 (clear i arg9 v0) Q := by
  unfold clear cleared
  iintro ⟨H9, HQ⟩
  by_cases h2 : k0_cond2 i v0 = 1#1
  swap
  · rw [dif_neg h2, if_neg h2]
    iapply (ret_wp Variants.none c none E _ _)
    iapply HQ $$ H9
  rw [dif_pos h2, if_pos h2]
  simp only [wp_bind]
  iapply (load_wp Variants.none c none E inb_S512x1024_S512x1024_0_0 fullShare O _)
  isplitl [H9]; · iexact H9
  iintro H9
  iapply (store_wp Variants.none c none E inb_S512x1024_S512x1024_0_0 O _)
  isplitl [H9]; · iexact H9
  rw [put_all (s := S512x1024) _ _ _ zero2]
  iintro H9
  iapply (ret_wp Variants.none c none E _ _)
  iapply HQ $$ H9

/-- What the slots hold once the next expert's weights may have been kept. -/
def upNext (i : grid0.Coords) (v0 v13 v17 : BitVec 32) (s : Fin 2) (U : S2x1024x2048.Idx → F .bf16) (Wu : S1x1024x2048.Idx → F .f32) : S2x1024x2048.Idx → F .bf16 :=
  if k0_cond3 i v0 v13 v17 = 1#1 then upPut U s (upKept Wu) else U
def downNext (i : grid0.Coords) (v0 v13 v17 : BitVec 32) (s : Fin 2) (D : S2x1024x1024.Idx → F .bf16) (Wd : S1x1024x1024.Idx → F .f32) : S2x1024x1024.Idx → F .bf16 :=
  if k0_cond3 i v0 v13 v17 = 1#1 then downPut D s (downKept Wd) else D

/-- A `put` at an equal offset. -/
theorem put_off {s : Shape} {α : Type} (x : s.Idx → α) {off off' size : Fin s.rank → ℕ} (h : off = off') (w : ((a : Fin s.rank) → Fin (size a)) → α) :
    VecWindow.put x off size w = VecWindow.put x off' size w := by
  subst h; rfl

theorem packed_up (s : Fin 2) (inb : ∀ a, (![s.val, 0, 0] : Fin 3 → ℕ) a + S1x1024x2048.size a ≤ S2x1024x2048.size a) :
    (Rect.unit (s := S2x1024x2048) ![s.val, 0, 0] S1x1024x2048.size inb).PackedRows (EltTy.packing .bf16) := by
  revert inb; fin_cases s <;> decide
theorem packed_down (s : Fin 2) (inb : ∀ a, (![s.val, 0, 0] : Fin 3 → ℕ) a + S1x1024x1024.size a ≤ S2x1024x1024.size a) :
    (Rect.unit (s := S2x1024x1024) ![s.val, 0, 0] S1x1024x1024.size inb).PackedRows (EltTy.packing .bf16) := by
  revert inb; fin_cases s <;> decide

theorem check2 (v0 v13 v17 : BitVec 32) (s : Fin 2) : k0_chk2 i v0 v13 v17 (BitVec.ofNat 32 s.val) := by
  unfold k0_chk2
  rw [off_up', off_down']
  exact ⟨fun _ => slot_up s, fun _ => packed_up s, fun _ => slot_down s, fun _ => packed_down s⟩

theorem keep_wp (v0 v13 v17 : BitVec 32) (s : Fin 2) (hs : k0_cond3 i v0 v13 v17 = 1#1 → wordAt T2 (k0_off8 i) (k0_off8_inb i) = BitVec.ofNat 32 s.val) (Q : PUnit → sProp 𝕄) :
    iprop(owns (c : Thread nD τ) arg2 q2 T2 ∗ owns (c : Thread nD τ) arg5 fullShare Wu ∗ owns (c : Thread nD τ) arg7 fullShare Wd
        ∗ owns (c : Thread nD τ) arg10 fullShare U ∗ owns (c : Thread nD τ) arg11 fullShare D
        ∗ (owns (c : Thread nD τ) arg2 q2 T2 -∗ owns (c : Thread nD τ) arg5 fullShare Wu -∗ owns (c : Thread nD τ) arg7 fullShare Wd
          -∗ owns (c : Thread nD τ) arg10 fullShare (upNext i v0 v13 v17 s U Wu) -∗ owns (c : Thread nD τ) arg11 fullShare (downNext i v0 v13 v17 s D Wd) -∗ Q ⟨⟩))
      ⊢ 𝕎 (keep i arg2 arg5 arg7 arg10 harg10 arg11 harg11 v0 v13 v17) Q := by
  unfold keep upNext downNext
  iintro ⟨H2, H5, H7, H10, H11, HQ⟩
  by_cases h3 : k0_cond3 i v0 v13 v17 = 1#1
  swap
  · rw [dif_neg h3, if_neg h3, if_neg h3]
    iapply (ret_wp Variants.none c none E _ _)
    iapply HQ $$ H2 H5 H7 H10 H11
  rw [dif_pos h3, if_pos h3, if_pos h3]
  simp only [wp_bind]
  iapply (word_wp Variants.none c none E numel1_S1 rfl q2 T2 _)
  isplitl [H2]; · iexact H2
  iintro H2
  have hw : T2 ((Rect.unit (s := S189) (k0_off8 i) S1.size (k0_off8_inb i)).emb (Shape.Idx.first (numel1_S1.symm ▸ Nat.one_pos))) = BitVec.ofNat 32 s.val := hs h3
  rw [hw]
  iapply (assume_wp Variants.none c none E (check2 i v0 v13 v17 s) _)
  iapply (load_wp Variants.none c none E inb_S1x1024x2048_S1x1024x2048_0_0_0 fullShare Wu _)
  isplitl [H5]; · iexact H5
  iintro H5
  iapply (load_wp Variants.none c none E _ fullShare U _)
  isplitl [H10]; · iexact H10
  iintro H10
  iapply (store_wp Variants.none c none E _ U _)
  isplitl [H10]; · iexact H10
  iintro H10
  iapply (load_wp Variants.none c none E inb_S1x1024x1024_S1x1024x1024_0_0_0 fullShare Wd _)
  isplitl [H7]; · iexact H7
  iintro H7
  iapply (load_wp Variants.none c none E _ fullShare D _)
  isplitl [H11]; · iexact H11
  iintro H11
  iapply (store_wp Variants.none c none E _ D _)
  isplitl [H11]; · iexact H11
  iintro H11
  iapply (ret_wp Variants.none c none E _ _)
  rw [put_off (s := S2x1024x2048) U (off_up' s), put_off (s := S2x1024x1024) D (off_down' s)]
  iapply HQ $$ H2 H5 H7 [H10] [H11]
  · iexact H10
  · iexact H11

/-- The word of the one-word table. -/
def countAt (T3 : S1.Idx → BitVec 32) : BitVec 32 :=
  T3 ((Rect.unit (s := S1) ![0] S1.size inb_S1_S1_0).emb (Shape.Idx.first (numel1_S1.symm ▸ Nat.one_pos)))

variable (q1 q3 : PosShare TreeShare) (T1 : S189.Idx → BitVec 32) (T3 : S1.Idx → BitVec 32)

/-- The whole body. -/
theorem body_wp (r s : Fin 2)
    (hr : k0_cond1 i (countAt T3) = 1#1 → wordAt T2 (k0_off3 i) (k0_off3_inb i) = BitVec.ofNat 32 r.val)
    (hs : wordAt T2 (k0_off8 i) (k0_off8_inb i) = BitVec.ofNat 32 s.val) (Q : PUnit → sProp 𝕄) :
    iprop((owns (c : Thread nD τ) arg1 q1 T1 ∗ owns (c : Thread nD τ) arg2 q2 T2 ∗ owns (c : Thread nD τ) arg3 q3 T3)
        ∗ owns (c : Thread nD τ) arg4 fullShare X ∗ owns (c : Thread nD τ) arg5 fullShare Wu ∗ owns (c : Thread nD τ) arg6 fullShare bu
        ∗ owns (c : Thread nD τ) arg7 fullShare Wd ∗ owns (c : Thread nD τ) arg8 fullShare b ∗ owns (c : Thread nD τ) arg9 fullShare O
        ∗ owns (c : Thread nD τ) arg10 fullShare U ∗ owns (c : Thread nD τ) arg11 fullShare D
        ∗ ((owns (c : Thread nD τ) arg1 q1 T1 ∗ owns (c : Thread nD τ) arg2 q2 T2 ∗ owns (c : Thread nD τ) arg3 q3 T3)
          -∗ owns (c : Thread nD τ) arg4 fullShare X -∗ owns (c : Thread nD τ) arg5 fullShare Wu -∗ owns (c : Thread nD τ) arg6 fullShare bu
          -∗ owns (c : Thread nD τ) arg7 fullShare Wd -∗ owns (c : Thread nD τ) arg8 fullShare b
          -∗ owns (c : Thread nD τ) arg9 fullShare (cleared i (countAt T3) (worked i (countAt T3) r X U bu D b O))
          -∗ owns (c : Thread nD τ) arg10 fullShare (upNext i (countAt T3) (wordAt T1 (k0_off6 i) (k0_off6_inb i)) (wordAt T1 (k0_off7 i) (k0_off7_inb i)) s U Wu)
          -∗ owns (c : Thread nD τ) arg11 fullShare (downNext i (countAt T3) (wordAt T1 (k0_off6 i) (k0_off6_inb i)) (wordAt T1 (k0_off7 i) (k0_off7_inb i)) s D Wd) -∗ Q ⟨⟩))
      ⊢ 𝕎 (cc0_moe_experts (F := F) i arg1 harg1 arg2 harg2 arg3 harg3 arg4 harg4 arg5 harg5 arg6 harg6 arg7 harg7 arg8 harg8 arg9 harg9 arg10 harg10 arg11 harg11) Q := by
  rw [body_eq]
  unfold body
  simp only [wp_bind]
  iintro ⟨⟨H1, H2, H3⟩, H4, H5, H6, H7, H8, H9, H10, H11, HQ⟩
  iapply (word_wp Variants.none c none E numel1_S1 rfl q3 T3 _)
  isplitl [H3]; · iexact H3
  iintro H3
  iapply (work_wp i arg1 harg1 arg2 harg2 arg3 harg3 arg4 harg4 arg5 harg5 arg6 harg6 arg7 harg7 arg8 harg8 arg9 harg9 arg10 harg10 arg11 harg11 c E q2 T2 X U bu D b O (countAt T3) r hr _)
  isplitl [H2]; · iexact H2
  isplitl [H4]; · iexact H4
  isplitl [H6]; · iexact H6
  isplitl [H8]; · iexact H8
  isplitl [H9]; · iexact H9
  isplitl [H10]; · iexact H10
  isplitl [H11]; · iexact H11
  iintro H2 H4 H6 H8 H9 H10 H11
  iapply (clear_wp i arg9 c E _ (countAt T3) _)
  isplitl [H9]; · iexact H9
  iintro H9
  iapply (word_wp Variants.none c none E numel1_S1 rfl q1 T1 _)
  isplitl [H1]; · iexact H1
  iintro H1
  iapply (word_wp Variants.none c none E numel1_S1 rfl q1 T1 _)
  isplitl [H1]; · iexact H1
  iintro H1
  iapply (keep_wp i arg2 arg5 arg7 arg10 harg10 arg11 harg11 c E q2 T2 U D Wu Wd (countAt T3) (wordAt T1 (k0_off6 i) (k0_off6_inb i)) (wordAt T1 (k0_off7 i) (k0_off7_inb i)) s (fun _ => hs) _)
  isplitl [H2]; · iexact H2
  isplitl [H5]; · iexact H5
  isplitl [H7]; · iexact H7
  isplitl [H10]; · iexact H10
  isplitl [H11]; · iexact H11
  iintro H2 H5 H7 H10 H11
  iapply HQ $$ [H1 H2 H3] H4 H5 H6 H7 H8 H9 H10 H11
  isplitl [H1]; · iexact H1
  isplitl [H2]; · iexact H2
  iexact H3

end Body

end Cert.Ffn.Ideal

end
-- ==== Proof.Ffn.Ideal.Words.lean ====
/-
  The experts kernel's tables at a grid point: which word each load reads, and what the words decide.
-/
module

public import proofs.«01_k».proof.Proof.Ffn.Ideal.Body
public import Idealize.ShloMosaic.Lib.ValueLayout

@[expose] public section

noncomputable section

namespace Cert.Ffn.Ideal

open Idealize.ShloMosaic Idealize.ShloMosaic.ValueIdx
open Cert.ExpertsIdeal Cert.ExpertsIdeal.Facts₀ Cert.ExpertsIdeal.Facts

variable {F : FTy → Type} [FloatOps F]

/-- The word of a table for row block `n` (the last one past the end). -/
def entry (T : S189.Idx → BitVec 32) (n : ℕ) : BitVec 32 := T (ix1 (⟨min n 188, by omega⟩ : Fin 189))

/-- The tables of a call: every expert a number under 32, every slot 0 or 1, and a row block of the same
    expert as the one before it also in the same slot. -/
structure Grouped (T1 T2 : S189.Idx → BitVec 32) : Prop where
  expert : ∀ n, (entry T1 n).toNat < 32
  slot : ∀ n, (entry T2 n).toNat < 2
  same : ∀ n, n + 1 < 189 → entry T1 (n + 1) = entry T1 n → entry T2 (n + 1) = entry T2 n

theorem entry_of (T : S189.Idx → BitVec 32) (y : S189.Idx) (n : ℕ) (h : (y 0).val = min n 188) : T y = entry T n := by
  exact congrArg T (funext fun | 0 => Fin.ext h)

theorem entry_eq (T : S189.Idx → BitVec 32) (y : S189.Idx) : entry T (y 0).val = T y :=
  (entry_of T y _ (by have : (y 0).val < 189 := (y 0).isLt; omega)).symm

theorem wordAt_eq (T : S189.Idx → BitVec 32) (off : Fin 1 → ℕ) (inb : ∀ a, off a + S1.size a ≤ S189.size a) (n : ℕ) (h : off 0 = min n 188) :
    wordAt T off inb = entry T n := by
  refine entry_of T _ n ?_
  show off 0 + 1 * _ = _
  rw [h]
  show _ + 1 * (0 : ℕ) = _
  omega

/-! ## Where each load reads -/

theorem off1_at : ∀ t : Fin grid0.N, k0_off1 (grid0.coords t) 0 = min t.val 188 := by decide +kernel
theorem off2_at : ∀ t : Fin grid0.N, k0_off2 (grid0.coords t) 0 = min (t.val - 1) 188 := by decide +kernel
theorem off3_at : ∀ t : Fin grid0.N, k0_off3 (grid0.coords t) 0 = min (t.val - 1) 188 := by decide +kernel
theorem off6_at : ∀ t : Fin grid0.N, k0_off6 (grid0.coords t) 0 = min t.val 188 := by decide +kernel
theorem off7_at : ∀ t : Fin grid0.N, k0_off7 (grid0.coords t) 0 = min (min t.val 188 - 1) 188 := by decide +kernel
theorem off8_at : ∀ t : Fin grid0.N, k0_off8 (grid0.coords t) 0 = min t.val 188 := by decide +kernel

/-! ## What the words decide -/

theorem and_cond : ∀ a b : BitVec 1, Scalar.cmpi .ne (Scalar.extui (Scalar.andi a b)) 0#32 = 1#1 ↔ a = 1#1 ∧ b = 1#1 := by decide
theorem one_cond : ∀ a : BitVec 1, Scalar.cmpi .ne (Scalar.extui a) 0#32 = 1#1 ↔ a = 1#1 := by decide
theorem or_cond : ∀ a b : BitVec 1, Scalar.ori a b = 1#1 ↔ a = 1#1 ∨ b = 1#1 := by decide
theorem ofBool_one (p : Bool) : (BitVec.ofBool p = 1#1) ↔ p = true := by cases p <;> decide

theorem slt_cond (a b : BitVec 32) : Scalar.cmpi .slt a b = 1#1 ↔ a.toInt < b.toInt := by
  show BitVec.ofBool (a.slt b) = 1#1 ↔ _
  rw [ofBool_one, BitVec.slt_iff_toInt_lt]
theorem sge_cond (a b : BitVec 32) : Scalar.cmpi .sge a b = 1#1 ↔ b.toInt ≤ a.toInt := by
  show BitVec.ofBool (b.sle a) = 1#1 ↔ _
  rw [ofBool_one, BitVec.sle_iff_toInt_le]
theorem ne_cond (a b : BitVec 32) : Scalar.cmpi .ne a b = 1#1 ↔ a ≠ b := by
  show BitVec.ofBool (a != b) = 1#1 ↔ _
  rw [ofBool_one, bne_iff_ne]

theorem less_at : ∀ t : Fin grid0.N, (Scalar.subi (BitVec.ofNat 32 (grid0.coords t 0).val) 1#32).toInt = (t.val : ℤ) - 1 := by decide +kernel
theorem this_at : ∀ t : Fin grid0.N, (BitVec.ofNat 32 (grid0.coords t 0).val).toInt = (t.val : ℤ) := by decide +kernel
theorem zero_at : ∀ t : Fin grid0.N, Scalar.cmpi .eq (BitVec.ofNat 32 (grid0.coords t 0).val) 0#32 = 1#1 ↔ t.val = 0 := by decide +kernel

/-- The row block of the point before is worked on where there is one with rows; -/
theorem cond1_iff (t : Fin grid0.N) (v0 : BitVec 32) : k0_cond1 (grid0.coords t) v0 = 1#1 ↔ 1 ≤ t.val ∧ (t.val : ℤ) - 1 < v0.toInt := by
  unfold k0_cond1
  dsimp only
  rw [and_cond, sge_cond, slt_cond, less_at]
  refine and_congr_left fun _ => ?_
  show (0 : ℤ) ≤ _ ↔ _
  omega
/-- the result is cleared where there is none; -/
theorem cond2_iff (t : Fin grid0.N) (v0 : BitVec 32) : k0_cond2 (grid0.coords t) v0 = 1#1 ↔ v0.toInt ≤ (t.val : ℤ) - 1 := by
  unfold k0_cond2
  dsimp only
  rw [one_cond, sge_cond, less_at]
/-- and weights are kept for the point's own row block where it starts an expert. -/
theorem cond3_iff (t : Fin grid0.N) (v0 v13 v17 : BitVec 32) :
    k0_cond3 (grid0.coords t) v0 v13 v17 = 1#1 ↔ (t.val : ℤ) < v0.toInt ∧ (t.val = 0 ∨ v13 ≠ v17) := by
  unfold k0_cond3
  dsimp only
  rw [and_cond, or_cond, slt_cond, this_at, zero_at, ne_cond]

/-! ## The slots -/

theorem upAt_upPut (U : S2x1024x2048.Idx → F .bf16) (s : Fin 2) (w : FVec F S1024x2048 .bf16) : upAt (upPut U s w) s = w := by
  unfold upAt upPut
  rw [VecWindow.window_put_same (s := S2x1024x2048)]
  funext y
  rw [eq_ix2 y]
  exact (shapeCast_1ab_ab_apply (a := 1024) (b := 2048) _ _ _ _).trans (shapeCast_ab_1ab_apply (a := 1024) (b := 2048) w _ _ _ _)
theorem downAt_downPut (D : S2x1024x1024.Idx → F .bf16) (s : Fin 2) (w : FVec F S1024x1024 .bf16) : downAt (downPut D s w) s = w := by
  unfold downAt downPut
  rw [VecWindow.window_put_same (s := S2x1024x1024)]
  funext y
  rw [eq_ix2 y]
  exact (shapeCast_1ab_ab_apply (a := 1024) (b := 1024) _ _ _ _).trans (shapeCast_ab_1ab_apply (a := 1024) (b := 1024) w _ _ _ _)

/-! ## The tables' side condition -/

theorem ok_of (pf : pre0.Contents (Elt F)) (h : ∀ y, (pf 0 y : BitVec 32).toNat < 32) : ok0 pf := by
  refine ⟨fun i => ⟨fun a => ?_, .inl rfl⟩, fun i => ⟨fun a => ?_, .inl rfl⟩, fun i => ⟨fun a => ?_, .inl rfl⟩, fun i => ⟨fun a => ?_, .inl rfl⟩⟩
  all_goals
    fin_cases a
    · exact (show ∀ n : ℕ, n < 32 → (n + 1) * 1 ≤ 32 by omega) _ (h _)
    · show ((0#32 : BitVec 32).toNat + 1) * _ ≤ _; decide
    · show ((0#32 : BitVec 32).toNat + 1) * _ ≤ _; decide

end Cert.Ffn.Ideal

end
-- ==== Proof.Ffn.Tables.lean ====
/-
  What the precondition says of the tables.
-/
module

public import proofs.«01_k».proof.Proof.Ffn.Ideal.Words
public import proofs.«01_k».proof.Proof.Ffn.Bits.Words
public import proofs.«01_k».proof.Proof.Gen.Pre_grouped

@[expose] public section

noncomputable section

namespace Cert.Ffn

open Idealize.ShloMosaic

theorem and_one : ∀ a b : BitVec 1, IntOp.andi a b = 1#1 ↔ a = 1#1 ∧ b = 1#1 := by decide
theorem or_one : ∀ a b : BitVec 1, IntOp.ori a b = 1#1 ↔ a = 1#1 ∨ b = 1#1 := by decide
theorem not_one : ∀ a : BitVec 1, ~~~a = 1#1 ↔ a ≠ 1#1 := by decide
theorem ofBool_one (p : Bool) : (BitVec.ofBool p = 1#1) ↔ p = true := by cases p <;> decide

theorem eq_one {w : ℕ} (a b : BitVec w) : IntOp.cmpi .eq a b = 1#1 ↔ a = b := by
  show BitVec.ofBool (a == b) = 1#1 ↔ _
  rw [ofBool_one, beq_iff_eq]
theorem ne_one {w : ℕ} (a b : BitVec w) : IntOp.cmpi .ne a b = 1#1 ↔ a ≠ b := by
  show BitVec.ofBool (a != b) = 1#1 ↔ _
  rw [ofBool_one, bne_iff_ne]
theorem slt_one {w : ℕ} (a b : BitVec w) : IntOp.cmpi .slt a b = 1#1 ↔ a.toInt < b.toInt := by
  show BitVec.ofBool (a.slt b) = 1#1 ↔ _
  rw [ofBool_one, BitVec.slt_iff_toInt_lt]
theorem sge_one {w : ℕ} (a b : BitVec w) : IntOp.cmpi .sge a b = 1#1 ↔ b.toInt ≤ a.toInt := by
  show BitVec.ofBool (b.sle a) = 1#1 ↔ _
  rw [ofBool_one, BitVec.sle_iff_toInt_le]

/-- A word from 0 to under `k`, as a number. -/
theorem toNat_lt (a : BitVec 32) (k : ℕ) (h0 : (0 : ℤ) ≤ a.toInt) (hk : a.toInt < k) : a.toNat < k := by
  rw [BitVec.toInt_eq_toNat_cond] at h0 hk
  have := a.isLt
  split at h0 <;> omega

section

variable {F : FTy → Type} [FloatOps F]
open Cert.Pre_grouped

variable (a0 a1 : IVec S189 32) (a2 : IVec S1 32) (a3 : FVec F S96768x1024 .f32) (a4 : FVec F S32x1024x2048 .f32) (a5 : FVec F S32x1x2048 .f32)
  (a6 : FVec F S32x1024x1024 .f32) (a7 : FVec F S32x1x1024 .f32)

/-- The precondition at a pair of row blocks. -/
theorem pair (h : fn a0 a1 a2 a3 a4 a5 a6 a7 = fun _ => 1#1) (i j : Fin 189) :
    (BitVec.ofNat 32 i.val ≠ BitVec.ofNat 32 j.val + 1#32 ∨ a0 (ValueIdx.ix1 i) ≠ a0 (ValueIdx.ix1 j) ∨ a1 (ValueIdx.ix1 i) = a1 (ValueIdx.ix1 j))
      ∧ (((0 : ℤ) ≤ (a0 (ValueIdx.ix1 i)).toInt ∧ (a0 (ValueIdx.ix1 i)).toInt < 32) ∧ ((0 : ℤ) ≤ (a1 (ValueIdx.ix1 i)).toInt ∧ (a1 (ValueIdx.ix1 i)).toInt < 2)) := by
  have h' : IntOp.andi
      (IntOp.ori (~~~(IntOp.cmpi .eq (BitVec.ofNat 32 i.val) (IntOp.addi (BitVec.ofNat 32 j.val) 1#32)))
        (IntOp.ori (IntOp.cmpi .ne (a0 (ValueIdx.ix1 i)) (a0 (ValueIdx.ix1 j))) (IntOp.cmpi .eq (a1 (ValueIdx.ix1 i)) (a1 (ValueIdx.ix1 j)))))
      (IntOp.andi (IntOp.andi (IntOp.cmpi .sge (a0 (ValueIdx.ix1 i)) 0#32) (IntOp.cmpi .slt (a0 (ValueIdx.ix1 i)) 32#32))
        (IntOp.andi (IntOp.cmpi .sge (a1 (ValueIdx.ix1 i)) 0#32) (IntOp.cmpi .slt (a1 (ValueIdx.ix1 i)) 2#32))) = 1#1 := by
    refine Eq.trans ?_ (congrFun h (ValueIdx.ix2 i j))
    have hi : ∀ T : IVec S189 32, T (ValueIdx.ix1 i) = broadcastInDim S189x189 ![0, 1] Facts.bcast_S189x1_S189x189_0_1 (broadcastInDim S189x1 ![0] Facts.bcast_S189_S189x1_0 T) (ValueIdx.ix2 i j) :=
      fun T => congrArg T (funext fun | 0 => rfl)
    have hj : ∀ T : IVec S189 32, T (ValueIdx.ix1 j) = broadcastInDim S189x189 ![0, 1] Facts.bcast_S1x189_S189x189_0_1 (broadcastInDim S1x189 ![1] Facts.bcast_S189_S1x189_1 T) (ValueIdx.ix2 i j) :=
      fun T => congrArg T (funext fun | 0 => rfl)
    rw [hi a0, hi a1, hj a0, hj a1]
    rfl
  simp only [and_one, or_one, not_one, ne_eq, eq_one, ne_one, slt_one, sge_one] at h'
  exact h'

end

theorem grouped_ideal {F : FTy → Type} [FloatOps F] (a0 a1 : IVec Cert.Pre_grouped.S189 32) (a2 a3 a4 a5 a6 a7)
    (h : Cert.Pre_grouped.fn (F := F) a0 a1 a2 a3 a4 a5 a6 a7 = fun _ => 1#1) : Ideal.Grouped a0 a1 where
  expert n := by
    obtain ⟨-, ⟨h0, h1⟩, -⟩ := pair a0 a1 a2 a3 a4 a5 a6 a7 h ⟨min n 188, by omega⟩ 0
    exact toNat_lt _ 32 h0 h1
  slot n := by
    obtain ⟨-, -, h0, h1⟩ := pair a0 a1 a2 a3 a4 a5 a6 a7 h ⟨min n 188, by omega⟩ 0
    exact toNat_lt _ 2 h0 h1
  same n hn he := by
    obtain ⟨h1, -⟩ := pair a0 a1 a2 a3 a4 a5 a6 a7 h ⟨min (n + 1) 188, by omega⟩ ⟨min n 188, by omega⟩
    rcases h1 with h1 | h1 | h1
    · refine absurd ?_ h1
      have e1 : min (n + 1) 188 = n + 1 := by omega
      have e2 : min n 188 = n := by omega
      show BitVec.ofNat 32 (min (n + 1) 188) = BitVec.ofNat 32 (min n 188) + 1#32
      rw [e1, e2, BitVec.ofNat_add]
    · exact absurd he h1
    · exact h1

theorem grouped_bits {F : FTy → Type} [FloatOps F] (a0 a1 : IVec Cert.Pre_grouped.S189 32) (a2 a3 a4 a5 a6 a7)
    (h : Cert.Pre_grouped.fn (F := F) a0 a1 a2 a3 a4 a5 a6 a7 = fun _ => 1#1) : Bits.Grouped a0 a1 where
  expert n := by
    obtain ⟨-, ⟨h0, h1⟩, -⟩ := pair a0 a1 a2 a3 a4 a5 a6 a7 h ⟨min n 188, by omega⟩ 0
    exact toNat_lt _ 32 h0 h1
  slot n := by
    obtain ⟨-, -, h0, h1⟩ := pair a0 a1 a2 a3 a4 a5 a6 a7 h ⟨min n 188, by omega⟩ 0
    exact toNat_lt _ 2 h0 h1
  same n hn he := by
    obtain ⟨h1, -⟩ := pair a0 a1 a2 a3 a4 a5 a6 a7 h ⟨min (n + 1) 188, by omega⟩ ⟨min n 188, by omega⟩
    rcases h1 with h1 | h1 | h1
    · refine absurd ?_ h1
      have e1 : min (n + 1) 188 = n + 1 := by omega
      have e2 : min n 188 = n := by omega
      show BitVec.ofNat 32 (min (n + 1) 188) = BitVec.ofNat 32 (min n 188) + 1#32
      rw [e1, e2, BitVec.ofNat_add]
    · exact absurd he h1
    · exact h1

end Cert.Ffn

end
-- ==== Proof.Ffn.Ideal.Run.lean ====
/-
  The run of the experts kernel: at each grid point the body leaves the result's window at the layer of the
  row block of the point before, with the weights of that row block's expert, which a slot has kept.
-/
module

public import proofs.«01_k».proof.Proof.Ffn.Ideal.Words
public import proofs.«01_k».proof.Proof.Gen.ExpertsIdeal.Launch
public import Idealize.ShloMosaic.Lib.Pipeline.FrameBody
public import Idealize.ShloMosaic.Lib.Pipeline.Frame
public import Idealize.ShloMosaic.Lib.Pipeline.ValueKit
public import Idealize.ShloMosaic.Lib.Tactic

@[expose] public section

noncomputable section

namespace Cert.Ffn.Ideal

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.ExpertsIdeal Cert.ExpertsIdeal.Gen
open Idealize.ShloMosaic.Pipeline (Dat BodyObligation BodyObligationLoose)

variable {F : FTy → Type} [FloatOps F]
variable (m : (ℓ : Loc nD τ sig) → Buf (Elt F) ℓ)

/-! ## The tables -/

/-- Each row block's expert, each row block's slot, and the number of row blocks with rows. -/
def experts : S189.Idx → BitVec 32 := m (((0 : Dev nD) : Thread nD τ).loc main_arg0)
def slots : S189.Idx → BitVec 32 := m (((0 : Dev nD) : Thread nD τ).loc main_arg1)
def counts : S1.Idx → BitVec 32 := m (((0 : Dev nD) : Thread nD τ).loc main_arg2)

/-- The number of row blocks with rows. -/
def used : ℤ := (countAt (counts m)).toInt

variable (hg : Grouped (experts m) (slots m))

/-- The tables' contents, which meet the launch's side condition. -/
def tables : pre0.Contents (Elt F) := fun j => m (((0 : Dev nD) : Thread nD τ).loc (pre0.ref j))

include hg in
theorem tables_ok : ok0 (tables m) := ok_of _ fun y => by
  have h := hg.expert ((show S189.Idx from y) 0).val
  rw [entry_eq (experts m) (show S189.Idx from y)] at h
  exact h

def adm : (pcfg0 (F := F)).Adm := ⟨tables m, tables_ok m hg⟩

/-- The slot of row block `n`. -/
def slotAt (n : ℕ) : Fin 2 := ⟨(entry (slots m) n).toNat, hg.slot n⟩

theorem slotAt_eq (n : ℕ) : entry (slots m) n = BitVec.ofNat 32 (slotAt m hg n).val := by
  unfold slotAt
  rw [BitVec.ofNat_toNat, BitVec.setWidth_eq]

/-! ## The blocks at a point -/

abbrev win (w : Fin 6) : Pipeline.Window sig grid0 := win0 (adm m hg) w

def rowsIn (c : Dev nD) (t : Fin grid0.N) : S512x1024.Idx → F .f32 :=
  ((win m hg 0).blk t).view.read (Elt F) (m ((c : Thread nD τ).loc main_arg3))
def upIn (c : Dev nD) (t : Fin grid0.N) : S1x1024x2048.Idx → F .f32 :=
  ((win m hg 1).blk t).view.read (Elt F) (m ((c : Thread nD τ).loc main_arg4))
def upBiasIn (c : Dev nD) (t : Fin grid0.N) : S1x1x2048.Idx → F .f32 :=
  ((win m hg 2).blk t).view.read (Elt F) (m ((c : Thread nD τ).loc main_arg5))
def downIn (c : Dev nD) (t : Fin grid0.N) : S1x1024x1024.Idx → F .f32 :=
  ((win m hg 3).blk t).view.read (Elt F) (m ((c : Thread nD τ).loc main_arg6))
def downBiasIn (c : Dev nD) (t : Fin grid0.N) : S1x1x1024.Idx → F .f32 :=
  ((win m hg 4).blk t).view.read (Elt F) (m ((c : Thread nD τ).loc main_arg7))

/-- The weights of an expert. -/
def upOf (c : Dev nD) (e : BitVec 32) : S1x1024x2048.Idx → F .f32 := fun y =>
  m ((c : Thread nD τ).loc main_arg4) (ValueIdx.ix3 (⟨e.toNat % 32, Nat.mod_lt _ (by decide)⟩ : Fin 32) (y 1 : Fin 1024) (y 2 : Fin 2048))
def downOf (c : Dev nD) (e : BitVec 32) : S1x1024x1024.Idx → F .f32 := fun y =>
  m ((c : Thread nD τ).loc main_arg6) (ValueIdx.ix3 (⟨e.toNat % 32, Nat.mod_lt _ (by decide)⟩ : Fin 32) (y 1 : Fin 1024) (y 2 : Fin 1024))

theorem place1 (t : Fin grid0.N) : cc0_transform_1 k0_off1_inb numel1_S1 (tables m) (grid0.coords t) = ![(entry (experts m) t.val).toNat, 0, 0] := by
  rw [← wordAt_eq (experts m) (k0_off1 (grid0.coords t)) (k0_off1_inb _) t.val (off1_at t)]
  rfl
theorem place2 (t : Fin grid0.N) : cc0_transform_2 k0_off2_inb numel1_S1 (tables m) (grid0.coords t) = ![(entry (experts m) (t.val - 1)).toNat, 0, 0] := by
  rw [← wordAt_eq (experts m) (k0_off2 (grid0.coords t)) (k0_off2_inb _) (t.val - 1) (off2_at t)]
  rfl
theorem place3 (t : Fin grid0.N) : cc0_transform_3 k0_off1_inb numel1_S1 (tables m) (grid0.coords t) = ![(entry (experts m) t.val).toNat, 0, 0] := by
  rw [← wordAt_eq (experts m) (k0_off1 (grid0.coords t)) (k0_off1_inb _) t.val (off1_at t)]
  rfl
theorem place4 (t : Fin grid0.N) : cc0_transform_4 k0_off2_inb numel1_S1 (tables m) (grid0.coords t) = ![(entry (experts m) (t.val - 1)).toNat, 0, 0] := by
  rw [← wordAt_eq (experts m) (k0_off2 (grid0.coords t)) (k0_off2_inb _) (t.val - 1) (off2_at t)]
  rfl

theorem upIn_eq (c : Dev nD) (t : Fin grid0.N) : upIn m hg c t = upOf m c (entry (experts m) t.val) := by
  funext y
  have h := hg.expert t.val
  have h0 : (y 0).val = 0 := by have : (y 0).val < 1 := (y 0).isLt; omega
  refine congrArg (m ((c : Thread nD τ).loc main_arg4)) (funext fun | 0 => Fin.ext ?_ | 1 => Fin.ext ?_ | 2 => Fin.ext ?_)
  · show cc0_transform_1 k0_off1_inb numel1_S1 (tables m) (grid0.coords t) 0 * 1 + 1 * (y 0).val = (entry (experts m) t.val).toNat % 32
    rw [place1, h0, Nat.mod_eq_of_lt h]
    show (entry (experts m) t.val).toNat * 1 + 1 * 0 = _
    omega
  · show cc0_transform_1 k0_off1_inb numel1_S1 (tables m) (grid0.coords t) 1 * 1024 + 1 * (y 1).val = (y 1).val
    rw [place1]
    show 0 * 1024 + 1 * (y 1).val = _
    omega
  · show cc0_transform_1 k0_off1_inb numel1_S1 (tables m) (grid0.coords t) 2 * 2048 + 1 * (y 2).val = (y 2).val
    rw [place1]
    show 0 * 2048 + 1 * (y 2).val = _
    omega
theorem downIn_eq (c : Dev nD) (t : Fin grid0.N) : downIn m hg c t = downOf m c (entry (experts m) t.val) := by
  funext y
  have h := hg.expert t.val
  have h0 : (y 0).val = 0 := by have : (y 0).val < 1 := (y 0).isLt; omega
  refine congrArg (m ((c : Thread nD τ).loc main_arg6)) (funext fun | 0 => Fin.ext ?_ | 1 => Fin.ext ?_ | 2 => Fin.ext ?_)
  · show cc0_transform_3 k0_off1_inb numel1_S1 (tables m) (grid0.coords t) 0 * 1 + 1 * (y 0).val = (entry (experts m) t.val).toNat % 32
    rw [place3, h0, Nat.mod_eq_of_lt h]
    show (entry (experts m) t.val).toNat * 1 + 1 * 0 = _
    omega
  · show cc0_transform_3 k0_off1_inb numel1_S1 (tables m) (grid0.coords t) 1 * 1024 + 1 * (y 1).val = (y 1).val
    rw [place3]
    show 0 * 1024 + 1 * (y 1).val = _
    omega
  · show cc0_transform_3 k0_off1_inb numel1_S1 (tables m) (grid0.coords t) 2 * 1024 + 1 * (y 2).val = (y 2).val
    rw [place3]
    show 0 * 1024 + 1 * (y 2).val = _
    omega

/-! ## What the slots hold between points -/

/-- Before point `n`, the slot of the row block to be worked on holds the weights of its expert. -/
def Kept (c : Dev nD) (n : ℕ) (U : S2x1024x2048.Idx → F .bf16) (D : S2x1024x1024.Idx → F .bf16) : Prop :=
  1 ≤ n → n ≤ 189 → (n : ℤ) - 1 < used m →
    upAt U (slotAt m hg (n - 1)) = upKept (upOf m c (entry (experts m) (n - 1))) ∧ downAt D (slotAt m hg (n - 1)) = downKept (downOf m c (entry (experts m) (n - 1)))

theorem kept_next (c : Dev nD) (t : Fin grid0.N) (U : S2x1024x2048.Idx → F .bf16) (D : S2x1024x1024.Idx → F .bf16) (hk : Kept m hg c t.val U D) :
    Kept m hg c (t.val + 1)
      (upNext (grid0.coords t) (countAt (counts m)) (entry (experts m) t.val) (entry (experts m) (min t.val 188 - 1)) (slotAt m hg t.val) U (upIn m hg c t))
      (downNext (grid0.coords t) (countAt (counts m)) (entry (experts m) t.val) (entry (experts m) (min t.val 188 - 1)) (slotAt m hg t.val) D (downIn m hg c t)) := by
  intro _ hn hu
  have hu' : (t.val : ℤ) < (countAt (counts m)).toInt := by
    have : used m = (countAt (counts m)).toInt := rfl
    push_cast at hu
    omega
  rw [Nat.add_sub_cancel]
  unfold upNext downNext
  by_cases h : k0_cond3 (grid0.coords t) (countAt (counts m)) (entry (experts m) t.val) (entry (experts m) (min t.val 188 - 1)) = 1#1
  · rw [if_pos h, if_pos h, upAt_upPut, downAt_downPut, upIn_eq, downIn_eq]
    exact ⟨rfl, rfl⟩
  · rw [if_neg h, if_neg h]
    rw [cond3_iff] at h
    have ht : t.val ≠ 0 := fun e => h ⟨hu', .inl e⟩
    have hm : min t.val 188 - 1 = t.val - 1 := by omega
    have he : entry (experts m) t.val = entry (experts m) (t.val - 1) := by
      by_contra e
      exact h ⟨hu', .inr (by rw [hm]; exact e)⟩
    have e1 : t.val - 1 + 1 = t.val := by omega
    have hs : entry (slots m) t.val = entry (slots m) (t.val - 1) := by
      have := hg.same (t.val - 1) (by omega)
      rw [e1] at this
      exact this he
    have hs' : slotAt m hg t.val = slotAt m hg (t.val - 1) := Fin.ext (show (entry (slots m) t.val).toNat = (entry (slots m) (t.val - 1)).toNat by rw [hs])
    rw [hs', he]
    exact hk (by omega) (by omega) (by unfold used; omega)

/-! ## The run -/

/-- What the body leaves in the result's window. -/
def outAt (c : Dev nD) (t : Fin grid0.N) : S512x1024.Idx → F .f32 :=
  if (t.val : ℤ) - 1 < used m then
    layer (rowsIn m hg c t) (upKept (upOf m c (entry (experts m) (t.val - 1)))) (upBiasIn m hg c t) (downKept (downOf m c (entry (experts m) (t.val - 1)))) (downBiasIn m hg c t)
  else nothing

local notation "𝕄" => MT nD τ sig Unit (Elt F) ℕ (UR sig nD τ) ℕ

/-- The tables as the body may read them. -/
def held (c : Dev nD) : sProp 𝕄 :=
  iprop(owns (c : Thread nD τ) (Memref.whole main_arg0) fullShare.right (experts m) ∗ owns (c : Thread nD τ) (Memref.whole main_arg1) fullShare.right (slots m)
    ∗ owns (c : Thread nD τ) (Memref.whole main_arg2) fullShare.right (counts m))

/-- What passes from point to point. -/
def passed (c : Dev nD) (n : ℕ) : sProp 𝕄 :=
  iprop((∃ U D, ⌜Kept m hg c n U D⌝ ∗ owns (c : Thread nD τ) (Memref.whole cc0_scratch0) fullShare U ∗ owns (c : Thread nD τ) (Memref.whole cc0_scratch1) fullShare D)
    ∗ held m c ∗ ∃ r, prngReg c r)

/-- The proof data of the run. -/
def dats (_ : Fin 1) (c : Dev nD) : Dat τ (Elt F) Unit ℕ (UR sig nD τ) ℕ (cfg0 (adm m hg)) c where
  A w := m (((win m hg w).arr.view).loc (c : Thread nD τ))
  after w t := match w with
    | 0 => rowsIn m hg c t
    | 1 => upIn m hg c t
    | 2 => upBiasIn m hg c t
    | 3 => downIn m hg c t
    | 4 => downBiasIn m hg c t
    | 5 => outAt m hg c t
  Φ t := passed m hg c t.val
  q _ := fullShare
  owed _ := 0

theorem before0 (c : Dev nD) (t : Fin grid0.N) (d) : (dats m hg 0 c).before (0 : Fin 6) t d = rowsIn m hg c t :=
  (dats m hg 0 c).before_in_eq_fetched (0 : Fin 6) rfl (fun _ => rfl) (fun _ _ _ => rfl) (fun _ => rfl) t d
theorem before1 (c : Dev nD) (t : Fin grid0.N) (d) : (dats m hg 0 c).before (1 : Fin 6) t d = upIn m hg c t :=
  (dats m hg 0 c).before_in_eq_fetched (1 : Fin 6) rfl (fun _ => rfl) (fun _ _ _ => rfl) (fun _ => rfl) t d
theorem before2 (c : Dev nD) (t : Fin grid0.N) (d) : (dats m hg 0 c).before (2 : Fin 6) t d = upBiasIn m hg c t :=
  (dats m hg 0 c).before_in_eq_fetched (2 : Fin 6) rfl (fun _ => rfl) (fun _ _ _ => rfl) (fun _ => rfl) t d
theorem before3 (c : Dev nD) (t : Fin grid0.N) (d) : (dats m hg 0 c).before (3 : Fin 6) t d = downIn m hg c t :=
  (dats m hg 0 c).before_in_eq_fetched (3 : Fin 6) rfl (fun _ => rfl) (fun _ _ _ => rfl) (fun _ => rfl) t d
theorem before4 (c : Dev nD) (t : Fin grid0.N) (d) : (dats m hg 0 c).before (4 : Fin 6) t d = downBiasIn m hg c t :=
  (dats m hg 0 c).before_in_eq_fetched (4 : Fin 6) rfl (fun _ => rfl) (fun _ _ _ => rfl) (fun _ => rfl) t d

/-- The result's window is left alone at the first point only, and not written back there. -/
theorem idle_iff (t : Fin grid0.N) : idle0 (tables m) 5 (grid0.coords t) = true ↔ t.val = 0 ∧ ¬ used m ≤ -1 := by
  have hw : (tables m).atD 2 ![0] = countAt (counts m) := rfl
  show (!(k0_cond1 (grid0.coords t) ((tables m).atD 2 ![0]) == 1#1) && !(k0_cond2 (grid0.coords t) ((tables m).atD 2 ![0]) == 1#1)) = true ↔ _
  rw [hw, Bool.and_eq_true, Bool.not_eq_true', Bool.not_eq_true', beq_eq_false_iff_ne, beq_eq_false_iff_ne, ne_eq, ne_eq, cond1_iff, cond2_iff]
  unfold used
  omega
theorem no_flush (t : Fin grid0.N) (h : t.val = 0) : (win m hg 5).flush t = false := by
  obtain rfl : t = ⟨0, by decide⟩ := Fin.ext h
  rfl

/-- What the body leaves is what the data say it leaves. -/
theorem left_eq (c : Dev nD) (t : Fin grid0.N) (U : S2x1024x2048.Idx → F .bf16) (D : S2x1024x1024.Idx → F .bf16) (hk : Kept m hg c t.val U D)
    (O : S512x1024.Idx → F .f32) (hi : ¬ (t.val = 0 ∧ ¬ used m ≤ -1)) :
    cleared (grid0.coords t) (countAt (counts m)) (worked (grid0.coords t) (countAt (counts m)) (slotAt m hg (t.val - 1)) (rowsIn m hg c t) U (upBiasIn m hg c t) D (downBiasIn m hg c t) O)
      = outAt m hg c t := by
  have hN : t.val < 190 := lt_of_lt_of_eq t.isLt N_0
  have hu : used m = (countAt (counts m)).toInt := rfl
  unfold cleared worked outAt
  by_cases h : (t.val : ℤ) - 1 < used m
  · have h1 : 1 ≤ t.val := by omega
    rw [if_neg (by rw [cond2_iff]; omega), if_pos (by rw [cond1_iff]; omega), if_pos h, (hk h1 (by omega) h).1, (hk h1 (by omega) h).2]
  · rw [if_pos (by rw [cond2_iff]; omega), if_neg h]
theorem left_idle (t : Fin grid0.N) (h0 : t.val = 0) (hu : ¬ used m ≤ -1) (s : Fin 2) (X U bu D b) (O : S512x1024.Idx → F .f32) :
    cleared (grid0.coords t) (countAt (counts m)) (worked (grid0.coords t) (countAt (counts m)) s X U bu D b O) = O := by
  have hu' : used m = (countAt (counts m)).toInt := rfl
  unfold cleared worked
  rw [if_neg (by rw [cond2_iff]; omega), if_neg (by rw [cond1_iff]; omega)]

theorem body_obligation (c : Dev nD) : BodyObligation (dats m hg 0 c) (defs₀ (F := F)) Variants.none () Set.univ := fun t => by
  rw [bigSep_W0, bigSep_W0]
  show iprop(passed m hg c t.val ∗ (dats m hg 0 c).owesAt () t.castSucc
      ∗ (∃ d, owns (c : Thread nD τ) (spec0_0.stage ((cfg0 (adm m hg)).slots t (0 : Fin 6))) fullShare ((dats m hg 0 c).before (0 : Fin 6) t d))
      ∗ (∃ d, owns (c : Thread nD τ) (spec0_1.stage ((cfg0 (adm m hg)).slots t (1 : Fin 6))) fullShare ((dats m hg 0 c).before (1 : Fin 6) t d))
      ∗ (∃ d, owns (c : Thread nD τ) (spec0_2.stage ((cfg0 (adm m hg)).slots t (2 : Fin 6))) fullShare ((dats m hg 0 c).before (2 : Fin 6) t d))
      ∗ (∃ d, owns (c : Thread nD τ) (spec0_3.stage ((cfg0 (adm m hg)).slots t (3 : Fin 6))) fullShare ((dats m hg 0 c).before (3 : Fin 6) t d))
      ∗ (∃ d, owns (c : Thread nD τ) (spec0_4.stage ((cfg0 (adm m hg)).slots t (4 : Fin 6))) fullShare ((dats m hg 0 c).before (4 : Fin 6) t d))
      ∗ (∃ d, owns (c : Thread nD τ) (spec0_5.stage ((cfg0 (adm m hg)).slots t (5 : Fin 6))) fullShare ((dats m hg 0 c).before (5 : Fin 6) t d)))
    ⊢ wp frame (wpE (defs₀ (F := F)) Variants.none (c : Thread nD τ) none) Set.univ
        (cc0_moe_experts (grid0.coords t) (Memref.whole main_arg0) (Memref.isWhole_whole _) (Memref.whole main_arg1) (Memref.isWhole_whole _) (Memref.whole main_arg2) (Memref.isWhole_whole _)
          (spec0_0.stage ((cfg0 (adm m hg)).slots t (0 : Fin 6))) (hstage0_0 (((cfg0 (adm m hg)).slots t (0 : Fin 6)).cast nbuf0_0))
          (spec0_1.stage ((cfg0 (adm m hg)).slots t (1 : Fin 6))) (hstage0_1 (((cfg0 (adm m hg)).slots t (1 : Fin 6)).cast nbuf0_1))
          (spec0_2.stage ((cfg0 (adm m hg)).slots t (2 : Fin 6))) (hstage0_2 (((cfg0 (adm m hg)).slots t (2 : Fin 6)).cast nbuf0_2))
          (spec0_3.stage ((cfg0 (adm m hg)).slots t (3 : Fin 6))) (hstage0_3 (((cfg0 (adm m hg)).slots t (3 : Fin 6)).cast nbuf0_3))
          (spec0_4.stage ((cfg0 (adm m hg)).slots t (4 : Fin 6))) (hstage0_4 (((cfg0 (adm m hg)).slots t (4 : Fin 6)).cast nbuf0_4))
          (spec0_5.stage ((cfg0 (adm m hg)).slots t (5 : Fin 6))) (hstage0_5 (((cfg0 (adm m hg)).slots t (5 : Fin 6)).cast nbuf0_5))
          (Memref.whole cc0_scratch0) (Memref.isWhole_whole _) (Memref.whole cc0_scratch1) (Memref.isWhole_whole _)) fun _ =>
        iprop(passed m hg c (t.val + 1) ∗ (dats m hg 0 c).owesAt () t.succ
          ∗ owns (c : Thread nD τ) (spec0_0.stage ((cfg0 (adm m hg)).slots t (0 : Fin 6))) fullShare (rowsIn m hg c t)
          ∗ owns (c : Thread nD τ) (spec0_1.stage ((cfg0 (adm m hg)).slots t (1 : Fin 6))) fullShare (upIn m hg c t)
          ∗ owns (c : Thread nD τ) (spec0_2.stage ((cfg0 (adm m hg)).slots t (2 : Fin 6))) fullShare (upBiasIn m hg c t)
          ∗ owns (c : Thread nD τ) (spec0_3.stage ((cfg0 (adm m hg)).slots t (3 : Fin 6))) fullShare (downIn m hg c t)
          ∗ owns (c : Thread nD τ) (spec0_4.stage ((cfg0 (adm m hg)).slots t (4 : Fin 6))) fullShare (downBiasIn m hg c t)
          ∗ (match idle0 (tables m) 5 (grid0.coords t) with
            | true =>
              match (win m hg 5).flush t with
              | false => iprop(∃ d, owns (c : Thread nD τ) (spec0_5.stage ((cfg0 (adm m hg)).slots t (5 : Fin 6))) fullShare ((dats m hg 0 c).before (5 : Fin 6) t d))
              | true => owns (c : Thread nD τ) (spec0_5.stage ((cfg0 (adm m hg)).slots t (5 : Fin 6))) fullShare (outAt m hg c t)
            | false => owns (c : Thread nD τ) (spec0_5.stage ((cfg0 (adm m hg)).slots t (5 : Fin 6))) fullShare (outAt m hg c t)))
  iintro ⟨HΦ, Hw, ⟨%d0, H0⟩, ⟨%d1, H1⟩, ⟨%d2, H2⟩, ⟨%d3, H3⟩, ⟨%d4, H4⟩, ⟨%d5, H5⟩⟩
  rw [before0, before1, before2, before3, before4]
  unfold passed held
  icases HΦ with ⟨⟨%U, %D, %hk, HU, HD⟩, HT, Hρ⟩
  have hr : k0_cond1 (grid0.coords t) (countAt (counts m)) = 1#1 → wordAt (slots m) (k0_off3 (grid0.coords t)) (k0_off3_inb _) = BitVec.ofNat 32 (slotAt m hg (t.val - 1)).val :=
    fun _ => (wordAt_eq _ _ _ _ (off3_at t)).trans (slotAt_eq m hg _)
  have hs : wordAt (slots m) (k0_off8 (grid0.coords t)) (k0_off8_inb _) = BitVec.ofNat 32 (slotAt m hg t.val).val :=
    (wordAt_eq _ _ _ _ (off8_at t)).trans (slotAt_eq m hg _)
  iapply (body_wp (grid0.coords t) _ _ _ _ _ _ _ _ _ _ _ _ _ _ _ _ _ _ _ _ _ _ c Set.univ fullShare.right (slots m) (rowsIn m hg c t) U (upBiasIn m hg c t) D (downBiasIn m hg c t)
    (upIn m hg c t) (downIn m hg c t) ((dats m hg 0 c).before (5 : Fin 6) t d5) fullShare.right fullShare.right (experts m) (counts m) (slotAt m hg (t.val - 1)) (slotAt m hg t.val) hr hs _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [HU]; · iexact HU
  isplitl [HD]; · iexact HD
  iintro HT H0 H1 H2 H3 H4 H5 HU HD
  rw [wordAt_eq (experts m) _ _ _ (off6_at t), wordAt_eq (experts m) _ _ _ (off7_at t)]
  isplitl [HT HU HD Hρ]
  · isplitl [HU HD]
    · iexists _, _
      isplitr
      · ipureintro; exact kept_next m hg c t U D hk
      isplitl [HU]; · iexact HU
      iexact HD
    isplitl [HT]; · iexact HT
    iexact Hρ
  isplitl [Hw]; · iexact Hw
  isplitl [H0]; · iexact H0
  isplitl [H1]; · iexact H1
  isplitl [H2]; · iexact H2
  isplitl [H3]; · iexact H3
  isplitl [H4]; · iexact H4
  by_cases hi : t.val = 0 ∧ ¬ used m ≤ -1
  · rw [(idle_iff m t).2 hi, no_flush m hg t hi.1, left_idle m t hi.1 hi.2]
    iexists d5
    iexact H5
  · rw [Bool.eq_false_iff.2 (fun h => hi ((idle_iff m t).1 h)), left_eq m hg c t U D hk _ hi]
    iexact H5

theorem prefHeld_eq (c : Dev nD) (v : pre0.Contents (Elt F)) :
    (Pipeline.prefHeld (Ix := Unit) (Name := ℕ) (U := UR sig nD τ) (Lvl := ℕ) pre0 c (fun _ => fullShare.right) v : sProp 𝕄)
      = iprop((((c : Thread nD τ).loc main_arg0) ↦{fullShare.right} v 0) ∗ (((c : Thread nD τ).loc main_arg1) ↦{fullShare.right} v 1) ∗ (((c : Thread nD τ).loc main_arg2) ↦{fullShare.right} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem enters (c : Dev nD) : iprop(Pipeline.ΦA spec0 c ∗ Pipeline.ΦT pre0 (tables m) c) ⊢ passed (F := F) m hg c 0 := by
  unfold Pipeline.ΦA Pipeline.ΦT passed held
  rw [scopedRest0_eq, prefHeld_eq, owns_whole, owns_whole, owns_whole]
  iintro ⟨⟨⟨⟨%U, HU⟩, ⟨%D, HD⟩⟩, Hρ⟩, ⟨H0, H1, H2⟩⟩
  isplitl [HU HD]
  · iexists U, D
    isplitr
    · ipureintro; intro h; omega
    rw [owns_whole, owns_whole]
    isplitl [HU]; · iexact HU
    iexact HD
  isplitl [H0 H1 H2]
  · isplitl [H0]; · iexact H0
    isplitl [H1]; · iexact H1
    iexact H2
  iexact Hρ

theorem leaves (c : Dev nD) (n : ℕ) : passed (F := F) m hg c n ⊢ Pipeline.ΦA spec0 c := by
  unfold Pipeline.ΦA passed
  rw [scopedRest0_eq]
  iintro ⟨⟨%U, %D, -, HU, HD⟩, -, Hρ⟩
  isplitr [Hρ]
  swap; · iexact Hρ
  isplitl [HU]
  · iexists U; rw [← owns_whole]; iexact HU
  · iexists D; rw [← owns_whole]; iexact HD

/-- Every run of @main ends, with no counter left up, and every array at what the library computes of `dats`. -/
theorem run_main (ρ : Dev nD → PrngReg) : θ_run defs (onTc (τ := τ) (main (F := F))) ⟨m, fun _ => 0, ρ⟩
    (fun r => Pipeline.FramePost (Pipeline.pin (pcfgs (F := F)) fun _ => adm m hg) (fun p c => dats m hg p c) 0 (fun c b => m ((c : Thread nD τ).loc b)) r ∧ r.2.sem = fun _ => 0) :=
  Pipeline.θ_run_frameP_track (pcfgs (F := F)) (fun _ => adm m hg) (dats m hg) (0 : Fin 1) launch0 defs₀ Variants.none m ρ main
    (hbody := fun c => (body_obligation m hg c).loose)
    (hshare := fun c w => by unfold Dat.share; split <;> rfl) (howed := fun _ _ => rfl)
    (V := fun c b => m ((c : Thread nD τ).loc b))
    (hmain := Pipeline.hmainP_region (pcfgs (F := F)) (0 : Fin 1) defs₀ Variants.none m main (fun _ => rfl))
    (hA := fun _ _ => rfl)
    (hpf := fun c k => by obtain rfl : c = 0 := Subsingleton.elim _ _; rfl)
    (hin := enters m hg) (hout := fun c => leaves m hg c _)
    (Q' := fun r => Pipeline.FramePost (Pipeline.pin (pcfgs (F := F)) fun _ => adm m hg) (fun p c => dats m hg p c) 0 (fun c b => m ((c : Thread nD τ).loc b)) r ∧ r.2.sem = fun _ => 0)
    (hQ' := fun _ h => h)

/-- The result's array after the run. -/
def finalOut (c : Dev nD) : Buf (Elt F) ((c : Thread nD τ).loc main_v0) := (dats m hg 0 c).arrAt (5 : Fin 6) (cfg0 (adm m hg)).N

/-- The run read at the arguments, at the result and at the counters. -/
theorem run (ρ : Dev nD → PrngReg) : θ_run defs (onTc (τ := τ) (main (F := F))) ⟨m, fun _ => 0, ρ⟩
    (fun r => (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v0) = finalOut m hg c) ∧ r.2.sem = fun _ => 0) :=
  (θ_run defs _ _).mono
    (fun _ h => ⟨fun c => ⟨⟨(h.1 c).2 main_arg0 (show main_arg0 ∈ Pipeline.restRefs sig spec0 by decide), (h.1 c).2 main_arg1 (show main_arg1 ∈ Pipeline.restRefs sig spec0 by decide), (h.1 c).2 main_arg2 (show main_arg2 ∈ Pipeline.restRefs sig spec0 by decide),
      ((h.1 c).1 (0 : Fin 6)).trans ((dats m hg 0 c).arrAt_in (0 : Fin 6) rfl _), ((h.1 c).1 (1 : Fin 6)).trans ((dats m hg 0 c).arrAt_in (1 : Fin 6) rfl _),
      ((h.1 c).1 (2 : Fin 6)).trans ((dats m hg 0 c).arrAt_in (2 : Fin 6) rfl _), ((h.1 c).1 (3 : Fin 6)).trans ((dats m hg 0 c).arrAt_in (3 : Fin 6) rfl _),
      ((h.1 c).1 (4 : Fin 6)).trans ((dats m hg 0 c).arrAt_in (4 : Fin 6) rfl _)⟩, (h.1 c).1 (5 : Fin 6)⟩, h.2⟩)
    (run_main m hg ρ)

end Cert.Ffn.Ideal

end
-- ==== Proof.Ffn.Frames.lean ====
/- The frames of the three programs of the experts call. -/
module

public import proofs.«01_k».proof.Defs
public import proofs.«01_k».proof.Proof.Ffn.Tables
public import proofs.«01_k».proof.Proof.Ffn.Ideal.Run
public import proofs.«01_k».proof.Proof.Ffn.Bits.Run
public import proofs.«01_k».proof.Proof.Gen.ExpertsReferenceIdeal
public import proofs.«01_k».proof.Proof.Gen.ExpertsReferenceIdeal.Run

@[expose] public section

noncomputable section

namespace Cert.Ffn

open Idealize.ShloMosaic Idealize.SL.Sem

theorem frame_kernel : Cert.quiescent_Experts (hExperts := Cert.Experts.Gen.facts) (hPre_grouped := Cert.Pre_grouped.Gen.facts) := by
  intro m ρ hp
  exact (θ_run (Cert.Experts.defs (F := Bits)) _ _).mono (fun _ h => ⟨fun c => (h.1 c).1, h.2⟩)
    (Bits.run (F := Idealize.ShloMosaic.Bits) m (grouped_bits _ _ _ _ _ _ _ _ (hp 0)) ρ)

theorem frame_ideal : Cert.quiescent_ExpertsIdeal (hExpertsIdeal := Cert.ExpertsIdeal.Gen.facts) (hPre_grouped := Cert.Pre_grouped.Gen.facts) := by
  intro m ρ hp
  exact (θ_run (Cert.ExpertsIdeal.defs (F := Ideal)) _ _).mono (fun _ h => ⟨fun c => (h.1 c).1, h.2⟩)
    (Ideal.run (F := Idealize.ShloMosaic.Ideal) m (grouped_ideal _ _ _ _ _ _ _ _ (hp 0)) ρ)

theorem frame_reference : Cert.quiescent_ExpertsReferenceIdeal (hExpertsReferenceIdeal := Cert.ExpertsReferenceIdeal.Gen.facts) (hPre_grouped := Cert.Pre_grouped.Gen.facts) := by
  intro m ρ _
  exact (θ_run (Cert.ExpertsReferenceIdeal.defs (F := Ideal)) _ _).mono
    (fun r h => ⟨fun c => (h c).2, Idealize.ShloMosaic.sem_eq_zero_of_no_sems (by decide) r.2⟩)
    (Cert.ExpertsReferenceIdeal.Value.run (F := Ideal) m ρ)

theorem preserves : Cert.preserves_Experts_ExpertsIdeal := trivial

end Cert.Ffn

end
-- ==== Proof.Ffn.Reference.lean ====
/-
  The experts' layer of the reference, read at an index: the row goes through the layer of its row
  block's expert, or is cleared where the row block has no rows.
-/
module

public import proofs.«01_k».proof.Proof.Gen.ExpertsReferenceIdeal.Read
public import Idealize.ShloMosaic.Lib.ValueLayout
public import Idealize.ShloMosaic.Lib.ValueIdx
public import Idealize.ShloMosaic.Lib.IdealHost

@[expose] public section

noncomputable section

namespace Cert.Ffn

open Idealize.ShloMosaic
open Idealize.ShloMosaic.ValueIdx
open scoped BigOperators

/-- An array read at an index given by its coordinates. -/
theorem read2 {α : Type} {a b : ℕ} (f : (⟨2, ![a, b]⟩ : Shape).Idx → α) (i : (⟨2, ![a, b]⟩ : Shape).Idx) (x : Fin a) (y : Fin b)
    (h0 : (i 0).val = x.val) (h1 : (i 1).val = y.val) : f i = f (ix2 x y) :=
  congrArg f (funext fun | 0 => Fin.ext h0 | 1 => Fin.ext h1)
theorem read3 {α : Type} {a b c : ℕ} (f : (⟨3, ![a, b, c]⟩ : Shape).Idx → α) (i : (⟨3, ![a, b, c]⟩ : Shape).Idx) (x : Fin a) (y : Fin b) (z : Fin c)
    (h0 : (i 0).val = x.val) (h1 : (i 1).val = y.val) (h2 : (i 2).val = z.val) : f i = f (ix3 x y z) :=
  congrArg f (funext fun | 0 => Fin.ext h0 | 1 => Fin.ext h1 | 2 => Fin.ext h2)

/-! ## The layer -/

/-- The two gates' result, from the two halves of the up projection. -/
def gated (u l : Ideal .f32) : Ideal .f32 :=
  FloatOps.mulf
    (FloatOps.mulf (FloatOps.minimumf u (FloatOps.ofBits .f32 0x40E00000#32))
      (FloatOps.divf (FloatOps.ofBits .f32 0x3F800000#32)
        (FloatOps.addf (FloatOps.ofBits .f32 0x3F800000#32)
          (FloatOps.exp (FloatOps.subf (FloatOps.ofBits .f32 0x00000000#32)
            (FloatOps.mulf (FloatOps.ofBits .f32 0x3FD9DB23#32) (FloatOps.minimumf u (FloatOps.ofBits .f32 0x40E00000#32))))))))
    (FloatOps.addf (FloatOps.minimumf (FloatOps.ofBits .f32 0x40E00000#32) (FloatOps.maximumf (FloatOps.ofBits .f32 0xC0E00000#32) l))
      (FloatOps.ofBits .f32 0x3F800000#32))

section Layer

variable (X : (⟨2, ![96768, 1024]⟩ : Shape).Idx → EReal) (Wu : (⟨3, ![32, 1024, 2048]⟩ : Shape).Idx → EReal) (bu : (⟨3, ![32, 1, 2048]⟩ : Shape).Idx → EReal)
variable (Wd : (⟨3, ![32, 1024, 1024]⟩ : Shape).Idx → EReal) (bd : (⟨3, ![32, 1, 1024]⟩ : Shape).Idx → EReal)

/-- The up projection of row `t` under expert `e`. -/
def hidden (e : Fin 32) (t : Fin 96768) (g : Fin 2048) : EReal := (∑ k : Fin 1024, X (ix2 t k) * Wu (ix3 e k g)) + bu (ix3 e 0 g)

/-- Row `t` through the layer of expert `e`. -/
def rowOf (e : Fin 32) (t : Fin 96768) (d : Fin 1024) : EReal :=
  (∑ f : Fin 1024, (gated (hidden X Wu bu e t ⟨f.val, by have := f.isLt; omega⟩) (hidden X Wu bu e t ⟨1024 + f.val, by have := f.isLt; omega⟩) : EReal) * Wd (ix3 e f d))
    + bd (ix3 e 0 d)

end Layer

/-! ## The row block of a row -/

theorem quotient (n : ℕ) (h : n < 96768) : IntOp.divsi .host (BitVec.ofNat 32 n) 512#32 = BitVec.ofNat 32 (n / 512) := by
  have hc : ¬ IntOp.SDivCorner (BitVec.ofNat 32 n) 512#32 := by
    unfold IntOp.SDivCorner
    rintro (h | ⟨_, h⟩) <;> exact absurd h (by decide)
  have hm : (BitVec.ofNat 32 n).msb = false := by
    rw [BitVec.msb_eq_false_iff_two_mul_lt, BitVec.toNat_ofNat]
    omega
  unfold IntOp.divsi
  rw [if_neg hc, BitVec.sdiv_eq, hm, show (512#32).msb = false from by decide]
  apply BitVec.eq_of_toNat_eq
  show (BitVec.ofNat 32 n / 512#32).toNat = _
  rw [BitVec.toNat_udiv, BitVec.toNat_ofNat, BitVec.toNat_ofNat, BitVec.toNat_ofNat, Nat.mod_eq_of_lt (by omega), Nat.mod_eq_of_lt (by omega), Nat.mod_eq_of_lt (by omega)]

/-- Rows are counted from zero, so that the quotient rounded down is the quotient. -/
theorem no_borrow (n : ℕ) (h : n < 96768) (a b : BitVec 32) :
    Scalar.select (IntOp.andi (IntOp.cmpi .ne (if BitVec.ofNat 32 n = 0 then 0 else if (BitVec.ofNat 32 n).msb then -1 else 1) 1#32)
      (IntOp.cmpi .ne (IntOp.remsi .host (BitVec.ofNat 32 n) 512#32) 0#32)) a b = b := by
  have hm : (BitVec.ofNat 32 n).msb = false := by
    rw [BitVec.msb_eq_false_iff_two_mul_lt, BitVec.toNat_ofNat]
    omega
  by_cases h0 : BitVec.ofNat 32 n = 0
  · rw [h0]
    rfl
  · rw [if_neg h0, hm]
    have : IntOp.cmpi .ne (if (false : Bool) = true then (-1 : BitVec 32) else 1) 1#32 = 0#1 := by decide
    rw [this]
    have h2 : ∀ x : BitVec 1, IntOp.andi 0#1 x = 0#1 := by decide
    rw [h2]
    rfl

namespace Reference

open Cert.ExpertsReferenceIdeal Cert.ExpertsReferenceIdeal.Gen Cert.ExpertsReferenceIdeal.Read

theorem block_apply (t : Fin 96768) : val_main_v1 (F := Ideal) (ix1 t) = BitVec.ofNat 32 (t.val / 512) := by
  rw [val_main_v1_apply, val_main_call0_v11_apply, val_main_call0_v6_apply, val_main_call0_v10_apply, val_main_call0_v8_apply, val_main_call0_v2_apply,
    val_main_call0_v5_apply, val_main_call0_v7_apply, val_main_call0_v9_apply, val_main_call0_v1_apply, val_main_v0_apply, val_main_call0_v0_apply]
  have h3 : val_main_call0_v3 (F := Ideal) (ix1 t) = if BitVec.ofNat 32 t.val = 0 then 0 else if (BitVec.ofNat 32 t.val).msb then -1 else 1 := rfl
  have h4 : val_main_call0_v4 (F := Ideal) (idx_main_call0_v5 (ix1 t)) = 1#32 := by
    show (if (512#32 : BitVec 32) = 0 then 0 else if (512#32 : BitVec 32).msb then -1 else 1) = 1#32
    decide
  rw [h3, h4]
  exact (no_borrow t.val t.isLt _ _).trans (quotient t.val t.isLt)

variable (T : (⟨S189, .i32⟩ : BufTy).Contents (Elt Ideal)) (n : (⟨S1, .i32⟩ : BufTy).Contents (Elt Ideal))
variable (X : (⟨S96768x1024, .f32⟩ : BufTy).Contents (Elt Ideal)) (Wu : (⟨S32x1024x2048, .f32⟩ : BufTy).Contents (Elt Ideal)) (bu : (⟨S32x1x2048, .f32⟩ : BufTy).Contents (Elt Ideal))
variable (Wd : (⟨S32x1024x1024, .f32⟩ : BufTy).Contents (Elt Ideal)) (bd : (⟨S32x1x1024, .f32⟩ : BufTy).Contents (Elt Ideal))

theorem expert_apply (t : Fin 96768) (e : Fin 32) : val_main_v8 (F := Ideal) T (ix2 t e) = T (ix1 ⟨t.val / 512, by have := t.isLt; omega⟩) := by
  rw [val_main_v8_apply, val_main_v5_apply, val_main_v4_apply, val_main_v3_apply, val_main_v2_apply]
  exact congrArg T (funext fun | 0 => rfl)

theorem gate_apply (t : Fin 96768) (e : Fin 32) :
    val_main_v16 (F := Ideal) T n (ix2 t e)
      = if T (ix1 ⟨t.val / 512, by have := t.isLt; omega⟩) = BitVec.ofNat 32 e.val ∧ ((t.val / 512 : ℕ) : ℤ) < (n (ix1 0)).toInt then (1 : EReal) else 0 := by
  have ht := t.isLt
  have h1 : val_main_v10 (F := Ideal) T (ix2 t e) = BitVec.ofBool (T (ix1 ⟨t.val / 512, by have := t.isLt; omega⟩) == BitVec.ofNat 32 e.val) := by
    rw [val_main_v10_apply, expert_apply, val_main_v9_apply, val_main_v7_apply, val_main_v6_apply]
    rfl
  have h2 : val_main_v14 (F := Ideal) n (ix2 t e) = BitVec.ofBool ((BitVec.ofNat 32 (t.val / 512)).slt (n (ix1 0))) := by
    rw [val_main_v14_apply, val_main_v13_apply, val_main_v12_apply, val_main_v11_apply,
      show idx_main_v13 (idx_main_v14 (ix2 t e)) = ix1 t from funext fun | 0 => rfl, block_apply,
      show idx_main_v11 (ix1 t) = ix1 0 from funext fun | 0 => rfl]
    rfl
  have h3 : (BitVec.ofNat 32 (t.val / 512)).toInt = ((t.val / 512 : ℕ) : ℤ) := by
    rw [BitVec.toInt_eq_toNat_of_lt (by rw [BitVec.toNat_ofNat]; omega), BitVec.toNat_ofNat, Nat.mod_eq_of_lt (by omega)]
  rw [val_main_v16_apply, val_main_v15_apply, h1, h2, val_main_call1_v0_apply, val_main_call1_v1_apply, val_main_cst_apply, val_main_cst_0_apply]
  by_cases ha : T (ix1 ⟨t.val / 512, by have := t.isLt; omega⟩) = BitVec.ofNat 32 e.val
  · by_cases hb : ((t.val / 512 : ℕ) : ℤ) < (n (ix1 0)).toInt
    · rw [if_pos ⟨ha, hb⟩, beq_iff_eq.2 ha, show (BitVec.ofNat 32 (t.val / 512)).slt (n (ix1 0)) = true from by rw [BitVec.slt_iff_toInt_lt, h3]; exact hb]
      exact Ideal.ofBits_one_f32
    · rw [if_neg (fun h => hb h.2), show (BitVec.ofNat 32 (t.val / 512)).slt (n (ix1 0)) = false from by rw [Bool.eq_false_iff, ne_eq, BitVec.slt_iff_toInt_lt, h3]; exact hb,
        beq_iff_eq.2 ha]
      exact Ideal.ofBits_zero_f32
  · rw [if_neg (fun h => ha h.1), beq_eq_false_iff_ne.2 ha]
    cases (BitVec.ofNat 32 (t.val / 512)).slt (n (ix1 0)) <;> exact Ideal.ofBits_zero_f32

theorem hidden_apply (e : Fin 32) (t : Fin 96768) (g : Fin 2048) : val_main_v20 (F := Ideal) X Wu bu (ix3 e t g) = hidden X Wu bu e t g := by
  rw [val_main_v20_apply, val_main_v18_apply, val_main_v17_apply, val_main_v19_apply]
  refine congrArg₂ (fun a b : EReal => a + b) (Finset.sum_congr rfl fun k _ => ?_) ?_
  · rw [mul_comm]
    exact congrArg₂ (fun a b : EReal => a * b) (read2 X _ t k rfl rfl) (read3 Wu _ e k g rfl rfl rfl)
  · exact read3 bu _ e 0 g rfl rfl rfl

theorem gated_apply (e : Fin 32) (t : Fin 96768) (f : Fin 1024) :
    val_main_v37 (F := Ideal) X Wu bu (ix3 e t f)
      = gated (hidden X Wu bu e t ⟨f.val, by have := f.isLt; omega⟩) (hidden X Wu bu e t ⟨1024 + f.val, by have := f.isLt; omega⟩) := by
  have hu : val_main_v21 (F := Ideal) X Wu bu (ix3 e t f) = hidden X Wu bu e t ⟨f.val, by have := f.isLt; omega⟩ := by
    rw [val_main_v21_apply, ← hidden_apply]
    exact read3 _ _ e t ⟨f.val, by have := f.isLt; omega⟩ (by simp) (by simp) (by simp)
  have hl : val_main_v24 (F := Ideal) X Wu bu (ix3 e t f) = hidden X Wu bu e t ⟨1024 + f.val, by have := f.isLt; omega⟩ := by
    rw [val_main_v24_apply, ← hidden_apply]
    exact read3 _ _ e t ⟨1024 + f.val, by have := f.isLt; omega⟩ (by simp) (by simp) (by simp)
  rw [val_main_v37_apply, val_main_v36_apply, val_main_v34_apply, val_main_v33_apply, val_main_v31_apply, val_main_v29_apply, val_main_v28_apply, val_main_v27_apply,
    val_main_v25_apply, val_main_call2_v2_apply, val_main_v23_apply, hu, hl, val_main_v22_apply, val_main_v26_apply, val_main_v30_apply, val_main_v32_apply, val_main_v35_apply,
    val_main_call2_v1_apply, val_main_call2_v4_apply, val_main_call2_v0_apply, val_main_call2_v3_apply, val_main_cst_1_apply, val_main_cst_2_apply, val_main_cst_3_apply,
    val_main_cst_4_apply, val_main_cst_5_apply, val_main_cst_6_apply, val_main_cst_7_apply]
  unfold gated
  have hz : ∀ x : Ideal .f32, (FloatOps.subf (FloatOps.ofBits .f32 0x00000000#32) x : Ideal .f32) = FloatOps.hostNegf x := fun x => by
    show Ideal.ofBits .f32 0x00000000#32 - (x : EReal) = -x
    rw [Ideal.ofBits_zero_f32, zero_sub]
  rw [hz]
  rfl

theorem row_apply (e : Fin 32) (t : Fin 96768) (d : Fin 1024) : val_main_v40 (F := Ideal) X Wu bu Wd bd (ix3 e t d) = rowOf X Wu bu Wd bd e t d := by
  rw [val_main_v40_apply, val_main_v38_apply, val_main_v39_apply]
  refine congrArg₂ (fun a b : EReal => a + b) (Finset.sum_congr rfl fun f _ => ?_) ?_
  · rw [← gated_apply]
    exact congrArg₂ (fun a b : EReal => a * b) (read3 _ _ e t f rfl rfl rfl) (read3 Wd _ e f d rfl rfl rfl)
  · exact read3 bd _ e 0 d rfl rfl rfl

/-- The reference at row `t`, whose row block's expert is `e`. -/
theorem result_apply (t : Fin 96768) (d : Fin 1024) (e : Fin 32) (he : T (ix1 ⟨t.val / 512, by have := t.isLt; omega⟩) = BitVec.ofNat 32 e.val) :
    val_main_v41 (F := Ideal) T n X Wu bu Wd bd (ix2 t d)
      = if ((t.val / 512 : ℕ) : ℤ) < (n (ix1 0)).toInt then rowOf X Wu bu Wd bd e t d else 0 := by
  rw [val_main_v41_apply]
  have hterm : ∀ k : Fin 32, val_main_v16 (F := Ideal) T n (lidx_main_v41 (ix2 t d) k) * val_main_v40 (F := Ideal) X Wu bu Wd bd (ridx_main_v41 (ix2 t d) k)
      = if k = e ∧ ((t.val / 512 : ℕ) : ℤ) < (n (ix1 0)).toInt then rowOf X Wu bu Wd bd k t d else 0 := fun k => by
    rw [show lidx_main_v41 (ix2 t d) k = ix2 t k from funext fun | 0 => rfl | 1 => rfl,
      show ridx_main_v41 (ix2 t d) k = ix3 k t d from funext fun | 0 => rfl | 1 => rfl | 2 => rfl, gate_apply, row_apply, he]
    have hk : BitVec.ofNat 32 e.val = BitVec.ofNat 32 k.val ↔ k = e := by
      constructor
      · intro h
        have := congrArg BitVec.toNat h
        rw [BitVec.toNat_ofNat, BitVec.toNat_ofNat] at this
        have h1 := e.isLt
        have h2 := k.isLt
        exact Fin.ext (by omega)
      · rintro rfl; rfl
    by_cases h : k = e ∧ ((t.val / 512 : ℕ) : ℤ) < (n (ix1 0)).toInt
    · rw [if_pos ⟨hk.2 h.1, h.2⟩, if_pos h]
      exact one_mul _
    · rw [if_neg fun h' => h ⟨hk.1 h'.1, h'.2⟩, if_neg h]
      exact zero_mul _
  rw [Finset.sum_congr rfl fun k _ => hterm k, Finset.sum_eq_single e]
  · simp
  · intro k _ hk
    rw [if_neg fun h => hk h.1]
  · intro h
    exact absurd (Finset.mem_univ e) h

end Reference

end Cert.Ffn

end
-- ==== Proof.Ffn.Final.lean ====
/-
  The experts kernel's array after the run, read at an index: each row block is written at the point
  after its own, with its rows through the layer of its expert, or cleared where it has no rows.
-/
module

public import proofs.«01_k».proof.Proof.Ffn.Reference
public import proofs.«01_k».proof.Proof.Ffn.Ideal.Run
public import Idealize.ShloMosaic.Lib.MatmulPlain
public import Idealize.ShloMosaic.Lib.Pipeline.ValueKit

@[expose] public section

noncomputable section

namespace Cert.Ffn.Ideal

open Idealize.ShloMosaic hiding ix2 ix3 ix4 eq_ix2 eq_ix4
open Idealize.ShloMosaic.ValueIdx
open Idealize.ShloMosaic.TcCoe
open Cert.ExpertsIdeal Cert.ExpertsIdeal.Gen
open Cert.Ffn (read2 read3 gated hidden rowOf)
open scoped BigOperators

/-! ## The layer at an index -/

theorem upRows_apply (X : S512x1024.Idx → Ideal .f32) (wu : FVec Ideal S1024x2048 .bf16) (B : S1x1x2048.Idx → Ideal .f32) (r : Fin 512) (g : Fin 2048) :
    upRows (F := Ideal) X wu B (ix2 r g) = (∑ k : Fin 1024, (X (ix2 r k) : EReal) * wu (ix2 k g)) + B (ix3 0 0 g) := by
  unfold upRows
  refine congrArg₂ (fun a b : EReal => a + b) ?_ ?_
  · refine (Ideal.matmul_plain_apply (M := 512) (K := 1024) (N := 2048) none _ wu _ r g).trans ?_
    show Ideal.ofBits .f32 0x00000000#32 + _ = _
    rw [Ideal.ofBits_zero_f32, zero_add]
    refine Finset.sum_congr rfl fun k _ => congrArg (fun a : EReal => a * wu (ix2 k g)) ?_
    exact read2 X _ r k (by show 0 + 1 * r.val = _; omega) (by show 0 + 1 * k.val = _; omega)
  · refine (broadcastTo_1b_ab_apply _ _ r g).trans ?_
    refine (shapeCast_1ab_ab_apply _ _ 0 g).trans ?_
    exact read3 B _ 0 0 g rfl rfl (by show 0 + 1 * g.val = _; omega)

theorem gates_apply (v : FVec Ideal S512x2048 .f32) (r : Fin 512) (f : Fin 1024) :
    gates (F := Ideal) v (ix2 r f) = gated (v (ix2 r ⟨f.val, by have := f.isLt; omega⟩)) (v (ix2 r ⟨1024 + f.val, by have := f.isLt; omega⟩)) := by
  have h1 : extractStridedSlice S512x1024 ![0, 0] v slices_S512x2048_o0_0_S512x1024 (ix2 r f) = v (ix2 r ⟨f.val, by have := f.isLt; omega⟩) :=
    extractStridedSlice_apply _ v _ _ _ fun | 0 => (Nat.zero_add _).symm | 1 => (Nat.zero_add _).symm
  have h2 : extractStridedSlice S512x1024 ![0, 1024] v slices_S512x2048_o0_1024_S512x1024 (ix2 r f) = v (ix2 r ⟨1024 + f.val, by have := f.isLt; omega⟩) :=
    extractStridedSlice_apply _ v _ _ _ fun | 0 => (Nat.zero_add _).symm | 1 => rfl
  rw [← h1, ← h2]
  rfl

theorem layer_apply (X : S512x1024.Idx → Ideal .f32) (wu : FVec Ideal S1024x2048 .bf16) (bu : S1x1x2048.Idx → Ideal .f32) (wd : FVec Ideal S1024x1024 .bf16)
    (b : S1x1x1024.Idx → Ideal .f32) (r : Fin 512) (d : Fin 1024) :
    layer (F := Ideal) X wu bu wd b (ix2 r d)
      = (∑ f : Fin 1024, (gated (upRows (F := Ideal) X wu bu (ix2 r ⟨f.val, by have := f.isLt; omega⟩)) (upRows (F := Ideal) X wu bu (ix2 r ⟨1024 + f.val, by have := f.isLt; omega⟩)) : EReal)
          * wd (ix2 f d)) + b (ix3 0 0 d) := by
  unfold layer downRows
  refine congrArg₂ (fun a b : EReal => a + b) ?_ ?_
  · refine (Ideal.matmul_plain_apply (M := 512) (K := 1024) (N := 1024) none _ wd _ r d).trans ?_
    show Ideal.ofBits .f32 0x00000000#32 + _ = _
    rw [Ideal.ofBits_zero_f32, zero_add]
    exact Finset.sum_congr rfl fun f _ => congrArg (fun a : EReal => a * wd (ix2 f d)) (gates_apply _ r f)
  · refine (broadcastTo_1b_ab_apply _ _ r d).trans ?_
    refine (shapeCast_1ab_ab_apply _ _ 0 d).trans ?_
    exact read3 b _ 0 0 d rfl rfl (by show 0 + 1 * d.val = _; omega)

theorem upKept_apply (W : S1x1024x2048.Idx → Ideal .f32) (k : Fin 1024) (g : Fin 2048) : upKept (F := Ideal) W (ix2 k g) = W (ix3 0 k g) := by
  show shapeCast S1024x2048 (VecWindow.window (s := S1x1024x2048) W ![0, 0, 0] S1x1024x2048.size inb_S1x1024x2048_S1x1024x2048_0_0_0) shapeCasts_S1x1024x2048_S1024x2048 (ix2 k g) = _
  refine (shapeCast_1ab_ab_apply _ _ k g).trans ?_
  exact read3 W _ 0 k g rfl (by show 0 + 1 * k.val = _; omega) (by show 0 + 1 * g.val = _; omega)
theorem downKept_apply (W : S1x1024x1024.Idx → Ideal .f32) (f : Fin 1024) (d : Fin 1024) : downKept (F := Ideal) W (ix2 f d) = W (ix3 0 f d) := by
  show shapeCast S1024x1024 (VecWindow.window (s := S1x1024x1024) W ![0, 0, 0] S1x1024x1024.size inb_S1x1024x1024_S1x1024x1024_0_0_0) shapeCasts_S1x1024x1024_S1024x1024 (ix2 f d) = _
  refine (shapeCast_1ab_ab_apply _ _ f d).trans ?_
  exact read3 W _ 0 f d rfl (by show 0 + 1 * f.val = _; omega) (by show 0 + 1 * d.val = _; omega)

/-! ## The blocks at an index -/

theorem place0 : ∀ t : Fin grid0.N, cc0_transform_0 (grid0.coords t) = ![t.val - 1, 0] := by decide +kernel
theorem place5 : ∀ t : Fin grid0.N, cc0_transform_5 (grid0.coords t) = ![t.val - 1, 0] := by decide +kernel

variable (m : (ℓ : Loc nD τ sig) → Buf (Elt Ideal) ℓ) (hg : Grouped (experts m) (slots m)) (c : Dev nD)

/-- The expert of row block `n`. -/
def expertAt (n : ℕ) : Fin 32 := ⟨(entry (experts m) n).toNat, hg.expert n⟩

theorem rows_apply (t : Fin grid0.N) (r : Fin 512) (k : Fin 1024) (x : Fin 96768) (hx : x.val = 512 * (t.val - 1) + r.val) :
    rowsIn m hg c t (ix2 r k) = m ((c : Thread nD τ).loc main_arg3) (ix2 x k) := by
  refine congrArg (m ((c : Thread nD τ).loc main_arg3)) (funext fun | 0 => Fin.ext ?_ | 1 => Fin.ext ?_)
  · show cc0_transform_0 (grid0.coords t) 0 * 512 + 1 * r.val = x.val
    rw [place0]
    show (t.val - 1) * 512 + 1 * r.val = x.val
    omega
  · show cc0_transform_0 (grid0.coords t) 1 * 1024 + 1 * k.val = k.val
    rw [place0]
    show 0 * 1024 + 1 * k.val = k.val
    omega
theorem upBias_apply (t : Fin grid0.N) (g : Fin 2048) :
    upBiasIn m hg c t (ix3 0 0 g) = m ((c : Thread nD τ).loc main_arg5) (ix3 (expertAt m hg (t.val - 1)) (0 : Fin 1) g) := by
  refine congrArg (m ((c : Thread nD τ).loc main_arg5)) (funext fun | 0 => Fin.ext ?_ | 1 => Fin.ext ?_ | 2 => Fin.ext ?_)
  · show cc0_transform_2 k0_off2_inb numel1_S1 (tables m) (grid0.coords t) 0 * 1 + 1 * 0 = (entry (experts m) (t.val - 1)).toNat
    rw [place2]
    show (entry (experts m) (t.val - 1)).toNat * 1 + 1 * 0 = _
    omega
  · show cc0_transform_2 k0_off2_inb numel1_S1 (tables m) (grid0.coords t) 1 * 1 + 1 * 0 = 0
    rw [place2]
    rfl
  · show cc0_transform_2 k0_off2_inb numel1_S1 (tables m) (grid0.coords t) 2 * 2048 + 1 * g.val = g.val
    rw [place2]
    show 0 * 2048 + 1 * g.val = _
    omega
theorem downBias_apply (t : Fin grid0.N) (d : Fin 1024) :
    downBiasIn m hg c t (ix3 0 0 d) = m ((c : Thread nD τ).loc main_arg7) (ix3 (expertAt m hg (t.val - 1)) (0 : Fin 1) d) := by
  refine congrArg (m ((c : Thread nD τ).loc main_arg7)) (funext fun | 0 => Fin.ext ?_ | 1 => Fin.ext ?_ | 2 => Fin.ext ?_)
  · show cc0_transform_4 k0_off2_inb numel1_S1 (tables m) (grid0.coords t) 0 * 1 + 1 * 0 = (entry (experts m) (t.val - 1)).toNat
    rw [place4]
    show (entry (experts m) (t.val - 1)).toNat * 1 + 1 * 0 = _
    omega
  · show cc0_transform_4 k0_off2_inb numel1_S1 (tables m) (grid0.coords t) 1 * 1 + 1 * 0 = 0
    rw [place4]
    rfl
  · show cc0_transform_4 k0_off2_inb numel1_S1 (tables m) (grid0.coords t) 2 * 1024 + 1 * d.val = d.val
    rw [place4]
    show 0 * 1024 + 1 * d.val = _
    omega
theorem upOf_apply (n : ℕ) (k : Fin 1024) (g : Fin 2048) :
    upOf m c (entry (experts m) n) (ix3 0 k g) = m ((c : Thread nD τ).loc main_arg4) (ix3 (expertAt m hg n) k g) :=
  read3 _ _ (expertAt m hg n) k g (Nat.mod_eq_of_lt (hg.expert n)) rfl rfl
theorem downOf_apply (n : ℕ) (f : Fin 1024) (d : Fin 1024) :
    downOf m c (entry (experts m) n) (ix3 0 f d) = m ((c : Thread nD τ).loc main_arg6) (ix3 (expertAt m hg n) f d) :=
  read3 _ _ (expertAt m hg n) f d (Nat.mod_eq_of_lt (hg.expert n)) rfl rfl

/-! ## The array -/

/-- The kernel's result, from the inputs. -/
def result : (⟨S96768x1024, .f32⟩ : BufTy).Contents (Elt Ideal) := fun i =>
  if (((i 0).val / 512 : ℕ) : ℤ) < used m then
    rowOf (m ((c : Thread nD τ).loc main_arg3)) (m ((c : Thread nD τ).loc main_arg4)) (m ((c : Thread nD τ).loc main_arg5)) (m ((c : Thread nD τ).loc main_arg6))
      (m ((c : Thread nD τ).loc main_arg7)) (expertAt m hg ((i 0).val / 512)) (i 0) (i 1)
  else (0 : EReal)

theorem upRows_block (t : Fin grid0.N) (r : Fin 512) (g : Fin 2048) (x : Fin 96768) (hx : x.val = 512 * (t.val - 1) + r.val) :
    upRows (F := Ideal) (rowsIn m hg c t) (upKept (upOf m c (entry (experts m) (t.val - 1)))) (upBiasIn m hg c t) (ix2 r g)
      = hidden (m ((c : Thread nD τ).loc main_arg3)) (m ((c : Thread nD τ).loc main_arg4)) (m ((c : Thread nD τ).loc main_arg5)) (expertAt m hg (t.val - 1)) x g := by
  rw [upRows_apply]
  unfold hidden
  refine congrArg₂ (fun a b : EReal => a + b) (Finset.sum_congr rfl fun k _ => congrArg₂ (fun a b : EReal => a * b) ?_ ?_) ?_
  · exact rows_apply m hg c t r k x hx
  · exact (upKept_apply _ k g).trans (upOf_apply m hg c _ k g)
  · exact upBias_apply m hg c t g

/-- What the body leaves after the first point, from the inputs. -/
theorem outAt_apply (t : Fin grid0.N) (h1 : t.val ≠ 0) (r : Fin 512) (d : Fin 1024) (x : Fin 96768) (hx : x.val = 512 * (t.val - 1) + r.val) :
    outAt (F := Ideal) m hg c t (ix2 r d) = result m hg c (ix2 x d) := by
  have hr := r.isLt
  have hb : x.val / 512 = t.val - 1 := by omega
  have hc : ((t.val : ℤ) - 1 < used m) ↔ ((x.val / 512 : ℕ) : ℤ) < used m := by rw [hb]; omega
  show outAt (F := Ideal) m hg c t (ix2 r d) = if ((x.val / 512 : ℕ) : ℤ) < used m then rowOf _ _ _ _ _ (expertAt m hg (x.val / 512)) x d else (0 : EReal)
  unfold outAt
  by_cases h : (t.val : ℤ) - 1 < used m
  · rw [if_pos h, if_pos (hc.1 h), layer_apply, hb]
    unfold rowOf
    refine congrArg₂ (fun a b : EReal => a + b) (Finset.sum_congr rfl fun f _ => congrArg₂ (fun a b : EReal => a * b) ?_ ?_) ?_
    · rw [upRows_block m hg c t r _ x hx, upRows_block m hg c t r _ x hx]
    · exact (downKept_apply _ f d).trans (downOf_apply m hg c _ f d)
    · exact downBias_apply m hg c t d
  · rw [if_neg h, if_neg fun h' => h (hc.2 h')]
    exact Ideal.ofBits_zero_f32

theorem flushes (t : Fin grid0.N) (h : t.val ≠ 0) : (win m hg 5).flush t = true := by
  have e : ∀ t : Fin grid0.N, t.val ≠ 0 → Pipeline.Window.flushOf grid0 true cc0_transform_5 t = true := by decide +kernel
  exact e t h

theorem finalOut_eq : finalOut m hg c = result m hg c := by
  refine (dats m hg 0 c).arrAt_eq_of_emb (5 : Fin 6) _ (fun t hf y => ?_) fun i => ?_
  · have h0 : t.val ≠ 0 := fun e => by
      exact Bool.false_ne_true ((no_flush m hg t e).symm.trans hf)
    have hN : t.val < 190 := lt_of_lt_of_eq t.isLt N_0
    have hy0 : (y 0).val < 512 := (y 0).isLt
    have hy1 : (y 1).val < 1024 := (y 1).isLt
    have key := outAt_apply m hg c t h0 ⟨(y 0).val, hy0⟩ ⟨(y 1).val, hy1⟩ ⟨512 * (t.val - 1) + (y 0).val, by omega⟩ rfl
    refine Eq.trans ?_ (key.trans ?_)
    · exact read2 (outAt m hg c t) _ _ _ rfl rfl
    · refine (read2 (result m hg c) (((win m hg 5).blk t).view.emb y) _ _ ?_ ?_).symm
      · show cc0_transform_5 (grid0.coords t) 0 * 512 + 1 * (y 0).val = 512 * (t.val - 1) + (y 0).val
        rw [place5]
        show (t.val - 1) * 512 + 1 * (y 0).val = _
        omega
      · show cc0_transform_5 (grid0.coords t) 1 * 1024 + 1 * (y 1).val = (y 1).val
        rw [place5]
        show 0 * 1024 + 1 * (y 1).val = _
        omega
  · have hi0 : (i 0).val < 96768 := (i 0).isLt
    have hi1 : (i 1).val < 1024 := (i 1).isLt
    have hN : grid0.N = 190 := N_0
    obtain ⟨t, ht⟩ : ∃ t : Fin grid0.N, t.val = (i 0).val / 512 + 1 := ⟨⟨(i 0).val / 512 + 1, by omega⟩, rfl⟩
    refine ⟨t, flushes m hg t (by omega), ?_⟩
    refine ((win m hg 5).emb_mem_blk_iff t i rfl).2 fun a => ?_
    match a with
    | 0 =>
      show cc0_transform_5 (grid0.coords t) 0 * 512 ≤ (i 0).val ∧ (i 0).val < cc0_transform_5 (grid0.coords t) 0 * 512 + 512
      rw [place5]
      show (t.val - 1) * 512 ≤ _ ∧ _ < (t.val - 1) * 512 + 512
      omega
    | 1 =>
      show cc0_transform_5 (grid0.coords t) 1 * 1024 ≤ (i 1).val ∧ (i 1).val < cc0_transform_5 (grid0.coords t) 1 * 1024 + 1024
      rw [place5]
      show 0 * 1024 ≤ _ ∧ _ < 0 * 1024 + 1024
      omega

end Cert.Ffn.Ideal

end
-- ==== Proof.Ffn.Algebraic.lean ====
/-
  The experts kernel and its reference have equal results.
-/
module

public import proofs.«01_k».proof.Defs
public import proofs.«01_k».proof.Proof.Ffn.Tables
public import proofs.«01_k».proof.Proof.Ffn.Final
public import proofs.«01_k».proof.Proof.Gen.ExpertsReferenceIdeal.Run

@[expose] public section

noncomputable section

namespace Cert.Ffn

open Idealize.ShloMosaic hiding ix1 ix2 ix3 ix4 eq_ix2 eq_ix4
open Idealize.ShloMosaic.ValueIdx
open Idealize.ShloMosaic.TcCoe
open Idealize.SL Idealize.SL.Sem

theorem result_eq (m : (ℓ : Loc Cert.ExpertsIdeal.nD Cert.ExpertsIdeal.τ Cert.ExpertsIdeal.sig) → Buf (Elt Ideal) ℓ)
    (hg : Ideal.Grouped (Ideal.experts m) (Ideal.slots m)) :
    Cert.ExpertsReferenceIdeal.Read.val_main_v41 (F := Ideal) (Ideal.experts m) (Ideal.counts m)
        (m (((0 : Dev Cert.ExpertsIdeal.nD) : Thread Cert.ExpertsIdeal.nD Cert.ExpertsIdeal.τ).loc Cert.ExpertsIdeal.main_arg3))
        (m (((0 : Dev Cert.ExpertsIdeal.nD) : Thread Cert.ExpertsIdeal.nD Cert.ExpertsIdeal.τ).loc Cert.ExpertsIdeal.main_arg4))
        (m (((0 : Dev Cert.ExpertsIdeal.nD) : Thread Cert.ExpertsIdeal.nD Cert.ExpertsIdeal.τ).loc Cert.ExpertsIdeal.main_arg5))
        (m (((0 : Dev Cert.ExpertsIdeal.nD) : Thread Cert.ExpertsIdeal.nD Cert.ExpertsIdeal.τ).loc Cert.ExpertsIdeal.main_arg6))
        (m (((0 : Dev Cert.ExpertsIdeal.nD) : Thread Cert.ExpertsIdeal.nD Cert.ExpertsIdeal.τ).loc Cert.ExpertsIdeal.main_arg7))
      = Ideal.result m hg 0 := by
  funext i
  obtain ⟨t, d, rfl⟩ : ∃ (t : Fin 96768) (d : Fin 1024), i = ix2 t d := ⟨i 0, i 1, funext fun | 0 => rfl | 1 => rfl⟩
  have ht := t.isLt
  refine (Reference.result_apply _ _ _ _ _ _ _ t d (Ideal.expertAt m hg (t.val / 512)) ?_).trans ?_
  · have e := Ideal.entry_of (Ideal.experts m) (ix1 (⟨t.val / 512, by omega⟩ : Fin 189)) (t.val / 512) (by show t.val / 512 = _; omega)
    refine e.trans ?_
    show _ = BitVec.ofNat 32 (Ideal.entry (Ideal.experts m) (t.val / 512)).toNat
    rw [BitVec.ofNat_toNat, BitVec.setWidth_eq]
  · have hu : Ideal.used m = (Ideal.counts m (ix1 0)).toInt :=
      congrArg (fun x => (Ideal.counts m x).toInt) (funext fun | 0 => Fin.ext rfl)
    show _ = if ((t.val / 512 : ℕ) : ℤ) < Ideal.used m then _ else (0 : EReal)
    rw [hu]

theorem algebraic : Cert.algebraic_ExpertsIdeal_ExpertsReferenceIdeal (hExpertsIdeal := Cert.ExpertsIdeal.Gen.facts)
    (hExpertsReferenceIdeal := Cert.ExpertsReferenceIdeal.Gen.facts) (hPre_grouped := Cert.Pre_grouped.Gen.facts) := by
  intro m ρ m' ρ' hp hagree
  have hg := grouped_ideal _ _ _ _ _ _ _ _ (hp 0)
  refine ⟨fun c => Ideal.finalOut m hg c, ?_, ?_⟩
  · exact (θ_run _ _ _).mono (fun _ h c => ⟨(h.1 c).2, (h.1 c).1⟩) (Ideal.run (F := Idealize.ShloMosaic.Ideal) m hg ρ)
  · refine (θ_run _ _ _).mono (fun _ h c => ⟨(h c).1.trans ?_, (h c).2⟩) (Cert.ExpertsReferenceIdeal.Value.run (F := Idealize.ShloMosaic.Ideal) m' ρ')
    obtain rfl : c = 0 := Subsingleton.elim _ _
    obtain ⟨h0, _, h2, h3, h4, h5, h6, h7⟩ := hagree 0
    rw [Cert.ExpertsReferenceIdeal.Read.val_main_v41_eq, h0, h2, h3, h4, h5, h6, h7]
    exact (result_eq m hg).trans (Ideal.finalOut_eq m hg 0).symm

end Cert.Ffn

end
-- ==== Proof.Proj.Frames.lean ====
/-
  The input projection's frames.
-/
module

public import proofs.«01_k».proof.Defs
public import proofs.«01_k».proof.Proof.Gen.Projection.Frame
public import proofs.«01_k».proof.Proof.Gen.ProjectionIdeal.Frame
public import proofs.«01_k».proof.Proof.Gen.ProjectionReferenceIdeal.Run

@[expose] public section

noncomputable section

namespace Cert.Proj

open Idealize.ShloMosaic Idealize.SL.Sem

theorem frame_kernel : Cert.quiescent_Projection (hProjection := Cert.Projection.Gen.facts) :=
  fun m ρ _ => Cert.Projection.Gen.frame m ρ

theorem frame_ideal : Cert.quiescent_ProjectionIdeal (hProjectionIdeal := Cert.ProjectionIdeal.Gen.facts) :=
  fun m ρ _ => Cert.ProjectionIdeal.Gen.frame m ρ

theorem frame_reference : Cert.quiescent_ProjectionReferenceIdeal (hProjectionReferenceIdeal := Cert.ProjectionReferenceIdeal.Gen.facts) := by
  intro m ρ _
  exact (θ_run (Cert.ProjectionReferenceIdeal.defs (F := Ideal)) _ _).mono
    (fun r h => ⟨fun c => (h c).2.2.2.2, Idealize.ShloMosaic.sem_eq_zero_of_no_sems (by decide) r.2⟩)
    (Cert.ProjectionReferenceIdeal.Value.run (F := Ideal) m ρ)

theorem preserves : Cert.preserves_Projection_ProjectionIdeal := trivial

end Cert.Proj

end
-- ==== Proof.Proj.Reference.lean ====
/-
  The reference's input projection, read at an index: rows divided by their root mean square, scaled
  by the norm's weights, times the columns of the projection's weights.
-/
module

public import proofs.«01_k».proof.Proof.Ffn.Reference
public import proofs.«01_k».proof.Proof.Gen.ProjectionReferenceIdeal.Read

@[expose] public section

noncomputable section

namespace Cert.Proj

open Idealize.ShloMosaic
open Idealize.ShloMosaic.ValueIdx
open Cert.Ffn (read2)
open scoped BigOperators

/-- The factor of a row, from the sum of its squares. -/
def factor (s : Ideal .f32) : Ideal .f32 :=
  FloatOps.rsqrt (FloatOps.addf (FloatOps.divf s (FloatOps.ofBits .f32 0x44800000#32)) (FloatOps.ofBits .f32 0x3727C5AC#32))

section Rows

variable {M : ℕ} (X : (⟨2, ![M, 1024]⟩ : Shape).Idx → EReal) (G : (⟨2, ![1, 1024]⟩ : Shape).Idx → EReal) (W : (⟨2, ![1024, 4096]⟩ : Shape).Idx → EReal)

/-- Row `t` of the normed array at lane `k`. -/
def normed (t : Fin M) (k : Fin 1024) : EReal :=
  X (ix2 t k) * factor (∑ j : Fin 1024, X (ix2 t j) * X (ix2 t j)) * G (ix2 0 k)

/-- Row `t` of the projection at column `c`. -/
def proj (t : Fin M) (c : Fin 4096) : EReal := ∑ k : Fin 1024, normed X G t k * W (ix2 k c)

/-- The scaled queries, the keys and the values, side by side. -/
def wide (t : Fin M) (c : Fin 1536) : EReal :=
  if c.val < 512 then proj X G W t ⟨c.val, by omega⟩ * (FloatOps.ofBits .f32 0x3E000000#32 : Ideal .f32) else proj X G W t ⟨c.val, by omega⟩

end Rows

namespace Reference

open Cert.ProjectionReferenceIdeal Cert.ProjectionReferenceIdeal.Gen Cert.ProjectionReferenceIdeal.Read

variable (X : (⟨S16384x1024, .f32⟩ : BufTy).Contents (Elt Ideal)) (G : (⟨S1x1024, .f32⟩ : BufTy).Contents (Elt Ideal)) (W : (⟨S1024x4096, .bf16⟩ : BufTy).Contents (Elt Ideal))

theorem squares_apply (i : S16384.Idx) (t : Fin 16384) (h : (i 0).val = t.val) :
    val_main_v1 (F := Ideal) X i = ∑ j : Fin 1024, (X (ix2 t j) : EReal) * X (ix2 t j) := by
  rw [val_main_v1_apply, val_main_cst_apply]
  show Ideal.ofBits .f32 0x00000000#32 + _ = _
  rw [Ideal.ofBits_zero_f32, zero_add]
  refine Finset.sum_congr rfl fun j _ => ?_
  rw [val_main_v0_apply, read2 X (idx_main_v1 i j) t j h rfl]
  rfl

theorem factor_apply (i : S16384x1.Idx) (t : Fin 16384) (h : (i 0).val = t.val) :
    val_main_v7 (F := Ideal) X i = factor (∑ j : Fin 1024, (X (ix2 t j) : EReal) * X (ix2 t j)) := by
  rw [val_main_v7_apply, val_main_v6_apply, val_main_v4_apply, val_main_v2_apply, squares_apply X _ t h, val_main_v3_apply, val_main_v5_apply,
    val_main_cst_0_apply, val_main_cst_1_apply]
  rfl

theorem normed_apply (i : S16384x1024.Idx) (t : Fin 16384) (k : Fin 1024) (h0 : (i 0).val = t.val) (h1 : (i 1).val = k.val) :
    val_main_v11 (F := Ideal) X G i = normed X G t k := by
  rw [val_main_v11_apply, val_main_v9_apply, val_main_v8_apply, val_main_v10_apply, factor_apply X _ t h0, read2 X i t k h0 h1,
    read2 G (idx_main_v10 i) 0 k rfl h1]
  rfl

theorem proj_apply (i : S16384x4096.Idx) (t : Fin 16384) (c : Fin 4096) (h0 : (i 0).val = t.val) (h1 : (i 1).val = c.val) :
    val_main_v13 (F := Ideal) X G W i = proj X G W t c := by
  rw [val_main_v13_apply]
  unfold proj
  refine Finset.sum_congr rfl fun k _ => ?_
  rw [normed_apply X G _ t k h0 rfl, val_main_v12_apply, read2 W (ridx_main_v13 i k) k c rfl h1]
  rfl

theorem u_apply (t : Fin 16384) (c : Fin 512) :
    val_main_v22 (F := Ideal) X G W (ix2 t c) = proj X G W t ⟨1536 + c.val, by omega⟩ := by
  rw [val_main_v22_apply, val_main_v21_apply, proj_apply X G W _ t ⟨1536 + c.val, by omega⟩ rfl rfl]
  rfl

theorem grouped_apply (b : Fin 1024) (c : Fin 8192) :
    val_main_v23 (F := Ideal) X G W (ix2 b c) = proj X G W ⟨16 * b.val + c.val / 512, by omega⟩ ⟨1536 + c.val % 512, by omega⟩ := by
  have hb := b.isLt
  have hc := c.isLt
  rw [val_main_v23_apply, read2 (val_main_v22 (F := Ideal) X G W) (idx_main_v23 (ix2 b c)) ⟨16 * b.val + c.val / 512, by omega⟩ ⟨c.val % 512, by omega⟩
    (by show (b.val * 8192 + c.val) / 512 = _; show _ = 16 * b.val + c.val / 512; omega) (by show (b.val * 8192 + c.val) % 512 = _; show _ = c.val % 512; omega),
    u_apply]

theorem gates_apply (t : Fin 16384) (c : Fin 2048) :
    val_main_v25 (F := Ideal) X G W (ix2 t c) = proj X G W t ⟨2048 + c.val, by omega⟩ := by
  rw [val_main_v25_apply, val_main_v24_apply, proj_apply X G W _ t ⟨2048 + c.val, by omega⟩ rfl rfl]
  rfl

/-- Three arrays side by side, read at the column `512 * n + d`. -/
theorem three_apply (a : Fin 3 → S16384x512.Idx → Ideal .f32) (h : Shape.Concatenates [S16384x512, S16384x512, S16384x512] S16384x1536 1)
    (t : Fin 16384) (n : Fin 3) (d : Fin 512) (hc : 512 * n.val + d.val < 1536) :
    concatenate S16384x1536 1 [⟨S16384x512, a 0⟩, ⟨S16384x512, a 1⟩, ⟨S16384x512, a 2⟩] h (ix2 t ⟨512 * n.val + d.val, hc⟩) = a n (ix2 t d) := by
  match n with
  | 0 =>
    exact concatenate_apply_piece (t := S16384x1536) 1 [⟨S16384x512, a 0⟩, ⟨S16384x512, a 1⟩, ⟨S16384x512, a 2⟩] h _ 0 (by simp) S16384x512 (a 0) rfl rfl 0 rfl
      (ix2 t d) (fun | 0 => fun _ => rfl | 1 => fun h => absurd rfl h) rfl
  | 1 =>
    exact concatenate_apply_piece (t := S16384x1536) 1 [⟨S16384x512, a 0⟩, ⟨S16384x512, a 1⟩, ⟨S16384x512, a 2⟩] h _ 1 (by simp) S16384x512 (a 1) rfl rfl 512 rfl
      (ix2 t d) (fun | 0 => fun _ => rfl | 1 => fun h => absurd rfl h) rfl
  | 2 =>
    exact concatenate_apply_piece (t := S16384x1536) 1 [⟨S16384x512, a 0⟩, ⟨S16384x512, a 1⟩, ⟨S16384x512, a 2⟩] h _ 2 (by simp) S16384x512 (a 2) rfl rfl 1024 rfl
      (ix2 t d) (fun | 0 => fun _ => rfl | 1 => fun h => absurd rfl h) rfl

theorem side_apply (t : Fin 16384) (n : Fin 3) (d : Fin 512) (hc : 512 * n.val + d.val < 1536) :
    val_main_v19 (F := Ideal) X G W (ix2 t ⟨512 * n.val + d.val, hc⟩)
      = (![val_main_v16 (F := Ideal) X G W, val_main_v17 (F := Ideal) X G W, val_main_v18 (F := Ideal) X G W] : Fin 3 → S16384x512.Idx → Ideal .f32) n (ix2 t d) :=
  three_apply ![val_main_v16 (F := Ideal) X G W, val_main_v17 (F := Ideal) X G W, val_main_v18 (F := Ideal) X G W] _ t n d hc

theorem queries_apply (t : Fin 16384) (d : Fin 512) :
    val_main_v16 (F := Ideal) X G W (ix2 t d) = proj X G W t ⟨d.val, by omega⟩ * (FloatOps.ofBits .f32 0x3E000000#32 : Ideal .f32) := by
  rw [val_main_v16_apply, val_main_v14_apply, val_main_v15_apply, val_main_cst_2_apply, proj_apply X G W _ t ⟨d.val, by omega⟩ rfl rfl]
  rfl

theorem wide_apply (t : Fin 16384) (c : Fin 1536) : val_main_v20 (F := Ideal) X G W (ix2 t c) = wide X G W t c := by
  have hc := c.isLt
  rw [val_main_v20_apply]
  show val_main_v19 (F := Ideal) X G W (ix2 t c) = _
  unfold wide
  by_cases h : c.val < 512
  · have e : c = ⟨512 * (0 : Fin 3).val + (⟨c.val, h⟩ : Fin 512).val, by show 512 * 0 + c.val < 1536; omega⟩ := Fin.ext (by show c.val = 512 * 0 + c.val; omega)
    rw [if_pos h]
    refine ((congrArg (fun c => val_main_v19 (F := Ideal) X G W (ix2 t c)) e).trans (side_apply X G W t 0 ⟨c.val, h⟩ _)).trans ?_
    exact queries_apply X G W t ⟨c.val, h⟩
  · rw [if_neg h]
    by_cases h' : c.val < 1024
    · have e : c = ⟨512 * (1 : Fin 3).val + (⟨c.val - 512, by omega⟩ : Fin 512).val, by show 512 * 1 + (c.val - 512) < 1536; omega⟩ :=
        Fin.ext (by show c.val = 512 * 1 + (c.val - 512); omega)
      refine ((congrArg (fun c => val_main_v19 (F := Ideal) X G W (ix2 t c)) e).trans (side_apply X G W t 1 ⟨c.val - 512, by omega⟩ _)).trans ?_
      show val_main_v17 (F := Ideal) X G W (ix2 t ⟨c.val - 512, by omega⟩) = _
      rw [val_main_v17_apply]
      exact proj_apply X G W _ t ⟨c.val, by omega⟩ rfl (by show 512 + (c.val - 512) = c.val; omega)
    · have e : c = ⟨512 * (2 : Fin 3).val + (⟨c.val - 1024, by omega⟩ : Fin 512).val, by show 512 * 2 + (c.val - 1024) < 1536; omega⟩ :=
        Fin.ext (by show c.val = 512 * 2 + (c.val - 1024); omega)
      refine ((congrArg (fun c => val_main_v19 (F := Ideal) X G W (ix2 t c)) e).trans (side_apply X G W t 2 ⟨c.val - 1024, by omega⟩ _)).trans ?_
      show val_main_v18 (F := Ideal) X G W (ix2 t ⟨c.val - 1024, by omega⟩) = _
      rw [val_main_v18_apply]
      exact proj_apply X G W _ t ⟨c.val, by omega⟩ rfl (by show 1024 + (c.val - 1024) = c.val; omega)

end Reference

end Cert.Proj

end
-- ==== Proof.Proj.Rows.lean ====
/-
  The input projection kernel's operations on a block of rows, read at an index: the normed rows, a
  chunk of the product, and the product with the matrix that regroups the rows.
-/
module

public import proofs.«01_k».proof.Proof.Proj.Reference
public import proofs.«01_k».proof.Proof.Gen.ProjectionIdeal.Frame
public import Idealize.ShloMosaic.Lib.MatmulPlain
public import Idealize.ShloMosaic.Lib.ValueLayoutCasts
public import Idealize.ShloMosaic.Lib.Pipeline.ValueKit

@[expose] public section

noncomputable section

namespace Cert.Proj.Ideal

open Idealize.ShloMosaic hiding ix1 ix2 ix3 ix4 eq_ix2 eq_ix4
open Idealize.ShloMosaic.ValueIdx
open Cert.ProjectionIdeal Cert.ProjectionIdeal.Gen
open Cert.Ffn (read2)
open scoped BigOperators

/-! ## The normed rows -/

/-- The sums of the rows' squares. -/
def squares (X : FVec Ideal S512x1024 .f32) : FVec Ideal S512 .f32 :=
  multiReduction .add [1] S512 (mulf X X) 0x00000000#32 reduces_S512x1024_S512 (.inl rfl) rfl

theorem normed_apply (X : Vec Ideal S512x1024 .f32) (G : Vec Ideal S1x1024 .f32) (r : Fin 512) (k : Fin 1024) :
    k0_pay3 (F := Ideal) X G (ix2 r k) = normed X G r k := by
  have hs : squares X (ix1 r) = ∑ j : Fin 1024, (X (ix2 r j) : EReal) * X (ix2 r j) := by
    refine (Ideal.multiReduction_add_single (mulf X X : FVec Ideal S512x1024 .f32) _ reduces_S512x1024_S512 (.inl rfl) rfl (ix1 r)).trans (Finset.sum_congr rfl fun j _ => ?_)
    exact read2 (mulf X X : FVec Ideal S512x1024 .f32) (reduces_S512x1024_S512.lift (ix1 r) j) r j rfl rfl
  have hf : broadcastTo S512x1024 (rsqrt (addf (divf (shapeCast S512x1 (squares X) shapeCasts_S512_S512x1)
        (broadcast S512x1 (Scalar.ofBits .f32 0x44800000#32))) (broadcast S512x1 (Scalar.ofBits .f32 0x3727C5AC#32)))) broadcasts_S512x1_S512x1024 (ix2 r k)
      = factor (∑ j : Fin 1024, (X (ix2 r j) : EReal) * X (ix2 r j)) := by
    refine (broadcastTo_apply _ _ _ (ix2 r (0 : Fin 1)) fun | 0 => rfl | 1 => rfl).trans ?_
    have hc := (shapeCast_a_a1_apply (squares X) shapeCasts_S512_S512x1 r 0).trans hs
    exact congrArg factor hc
  have hg : broadcastTo S512x1024 G broadcasts_S1x1024_S512x1024 (ix2 r k) = G (ix2 0 k) := broadcastTo_1b_ab_apply _ _ r k
  unfold normed
  rw [← hf, ← hg]
  rfl

/-! ## A chunk of the product -/

/-- The weights' columns from `off` on. -/
def columns (W : Vec Ideal S1024x4096 .bf16) (off : ℕ) (inb : ∀ a, (![0, off] : Fin 2 → Nat) a + S1024x512.size a ≤ S1024x4096.size a) : FVec Ideal S1024x512 .bf16 :=
  View.ld W (Rect.unit (s := S1024x4096) ![0, off] S1024x512.size inb)

theorem chunk_apply (X : Vec Ideal S512x1024 .f32) (G : Vec Ideal S1x1024 .f32) (W : Vec Ideal S1024x4096 .bf16) (off : ℕ)
    (inb : ∀ a, (![0, off] : Fin 2 → Nat) a + S1024x512.size a ≤ S1024x4096.size a) (r c : Fin 512) (p : Fin 4096) (hp : p.val = off + c.val) :
    matmul dot_S512x1024_S1024x512_S512x512_1_0_0_1_n_n none (k0_pay3 (F := Ideal) X G)
        (columns W off inb) (constant S512x512 .f32 0x00000000#32) (ix2 r c)
      = proj X G W r p := by
  refine (Ideal.matmul_plain_apply (M := 512) (K := 1024) (N := 512) none (k0_pay3 (F := Ideal) X G)
    (columns W off inb) (constant S512x512 .f32 0x00000000#32) r c).trans ?_
  show Ideal.ofBits .f32 0x00000000#32 + _ = _
  rw [Ideal.ofBits_zero_f32, zero_add]
  refine Finset.sum_congr rfl fun k _ => congrArg₂ (fun a b : EReal => a * b) (normed_apply X G r k) ?_
  exact View.ld_unit_apply_of W _ _ inb (ix2 k c) (ix2 k p) fun | 0 => (Nat.zero_add _).symm | 1 => hp

/-! ## The regrouping matrix -/

/-- The row that row `r` of the regrouped block is. -/
def source (r : Fin 512) : Fin 512 := ⟨16 * (r.val % 32) + r.val / 32, by have := r.isLt; omega⟩

/-- The kernel's word for that row. -/
def rowWord : IVec S512x512 32 := addi k0_pay8 (select k0_pay10 (subi k0_pay9 (broadcast S512x512 1#32)) k0_pay9)

theorem rowWord_first : ∀ r : Fin 512, rowWord (ix2 r (0 : Fin 512)) = BitVec.ofNat 32 (source r).val := by decide +kernel

theorem rowWord_apply (r k : Fin 512) : rowWord (ix2 r k) = BitVec.ofNat 32 (source r).val :=
  Eq.trans rfl (rowWord_first r)

/-- The matrix: in each row a one at the row's source. -/
def mask : FVec Ideal S512x512 .f32 :=
  select (cmpi .eq (iota .tc S512x512 32 [1] iota_S512x512_d1_w32) rowWord) (broadcast S512x512 (Scalar.ofBits .f32 0x3F800000#32)) (broadcast S512x512 (Scalar.ofBits .f32 0x00000000#32))

theorem mask_apply (r k : Fin 512) : mask (ix2 r k) = if k = source r then (1 : EReal) else 0 := by
  have hi : iota .tc S512x512 32 [1] iota_S512x512_d1_w32 (ix2 r k) = BitVec.ofNat 32 k.val := by
    show BitVec.ofNat 32 (0 * 512 + k.val) = _
    rw [Nat.zero_mul, Nat.zero_add]
  have e : mask (ix2 r k) = Scalar.select (IntOp.cmpi .eq (iota .tc S512x512 32 [1] iota_S512x512_d1_w32 (ix2 r k)) (rowWord (ix2 r k))) (Ideal.ofBits .f32 0x3F800000#32) (Ideal.ofBits .f32 0x00000000#32) := rfl
  have e0 : mask (ix2 r k) = Scalar.select (IntOp.cmpi .eq (BitVec.ofNat 32 k.val) (rowWord (ix2 r k))) (Ideal.ofBits .f32 0x3F800000#32) (Ideal.ofBits .f32 0x00000000#32) := by rw [e, hi]
  rw [e0, rowWord_apply, Ideal.ofBits_one_f32, Ideal.ofBits_zero_f32]
  by_cases h : k = source r
  · have hc : IntOp.cmpi .eq (BitVec.ofNat 32 k.val) (BitVec.ofNat 32 (source r).val) = 1#1 := by
      rw [h]; exact congrArg BitVec.ofBool (beq_self_eq_true _)
    rw [hc, if_pos h]
    rfl
  · have hne : BitVec.ofNat 32 k.val ≠ BitVec.ofNat 32 (source r).val := fun e => by
      have e' := congrArg BitVec.toNat e
      have hk := k.isLt
      have hs := (source r).isLt
      rw [BitVec.toNat_ofNat, BitVec.toNat_ofNat, Nat.mod_eq_of_lt (by omega), Nat.mod_eq_of_lt (by omega)] at e'
      exact h (Fin.ext e')
    have hc : IntOp.cmpi .eq (BitVec.ofNat 32 k.val) (BitVec.ofNat 32 (source r).val) = 0#1 := congrArg BitVec.ofBool (beq_eq_false_iff_ne.2 hne)
    rw [hc, if_neg h]
    rfl

theorem regroup_apply (U : FVec Ideal S512x512 .bf16) (r c : Fin 512) :
    k0_pay11 (F := Ideal) U (iota .tc S512x512 32 [1] iota_S512x512_d1_w32) k0_pay8 k0_pay9 k0_pay10 (ix2 r c) = U (ix2 (source r) c) := by
  refine (Ideal.matmul_plain_apply (M := 512) (K := 512) (N := 512) none (truncf .bf16 mask bitsLt_bf16_f32) U (constant S512x512 .f32 0x00000000#32) r c).trans ?_
  show Ideal.ofBits .f32 0x00000000#32 + ∑ k : Fin 512, (mask (ix2 r k) : EReal) * U (ix2 k c) = _
  rw [Ideal.ofBits_zero_f32, zero_add]
  have e : ∀ k : Fin 512, (mask (ix2 r k) : EReal) * U (ix2 k c) = if k = source r then U (ix2 (source r) c) else 0 := fun k => by
    rw [mask_apply]
    by_cases h : k = source r
    · rw [if_pos h, if_pos h, h, one_mul]
    · rw [if_neg h, if_neg h, zero_mul]
  rw [Finset.sum_congr rfl fun k _ => e k, Finset.sum_ite_eq' Finset.univ (source r) fun _ => (U (ix2 (source r) c) : EReal), if_pos (Finset.mem_univ _)]

end Cert.Proj.Ideal

end
-- ==== Proof.Proj.Block.lean ====
/-
  What the input projection kernel leaves in each result's block, from the block of rows, the norm's
  weights and the projection's weights.
-/
module

public import proofs.«01_k».proof.Proof.Proj.Rows

@[expose] public section

noncomputable section

namespace Cert.Proj.Ideal

open Idealize.ShloMosaic hiding ix1 ix2 ix3 ix4 eq_ix2 eq_ix4
open Idealize.ShloMosaic.ValueIdx
open Cert.ProjectionIdeal Cert.ProjectionIdeal.Gen
open Cert.Ffn (read2)
open scoped BigOperators

variable (X : Vec Ideal S512x1024 .f32) (G : Vec Ideal S1x1024 .f32) (W : Vec Ideal S1024x4096 .bf16)

theorem load_rows : View.ld X r0_0 = X := View.ld_unit_lit _ X (by decide)
theorem load_scale : View.ld G r0_1 = G := View.ld_unit_lit _ G (by decide)

theorem rows_eq : k0_pay32 X G W = k0_pay3 X G := by
  unfold k0_pay32
  rw [load_rows, load_scale]

/-- The block of queries, keys and values. -/
def wideBlock : Vec Ideal S512x1536 .bf16 := fun i => wide X G W (i 0) (i 1)
/-- The block of the layer's inner rows. -/
def innerBlock : Vec Ideal S512x512 .bf16 := fun i => proj X G W (i 0) ⟨1536 + (i 1).val, by have : (i 1).val < 512 := (i 1).isLt; omega⟩
/-- The same rows, sixteen to a row. -/
def groupedBlock : Vec Ideal S32x8192 .bf16 := fun i =>
  proj X G W ⟨16 * (i 0).val + (i 1).val / 512, by have : (i 0).val < 32 := (i 0).isLt; have : (i 1).val < 8192 := (i 1).isLt; omega⟩ ⟨1536 + (i 1).val % 512, by omega⟩
/-- The block of the gates. -/
def gateBlock : Vec Ideal S512x2048 .bf16 := fun i => proj X G W (i 0) ⟨2048 + (i 1).val, by have : (i 1).val < 2048 := (i 1).isLt; omega⟩

theorem proj_eq {r r' : Fin 512} {c c' : Fin 4096} (hr : r.val = r'.val) (hc : c.val = c'.val) : proj X G W r c = proj X G W r' c' := by
  rw [Fin.ext hr, Fin.ext hc]

theorem split2 {n m : ℕ} (x : (⟨2, ![n, m]⟩ : Shape).Idx) : ∃ (r : Fin n) (c : Fin m), x = ix2 r c := ⟨x 0, x 1, funext fun | 0 => rfl | 1 => rfl⟩

theorem wide_low (i : S512x1536.Idx) (r c : Fin 512) (h0 : (i 0).val = r.val) (h1 : (i 1).val = c.val) :
    proj X G W r ⟨c.val, by omega⟩ * (FloatOps.ofBits .f32 0x3E000000#32 : Ideal .f32) = wideBlock X G W i := by
  show _ = if (i 1).val < 512 then _ else _
  have := c.isLt
  rw [if_pos (by omega)]
  exact congrArg (fun a : EReal => a * (FloatOps.ofBits .f32 0x3E000000#32 : Ideal .f32)) (proj_eq X G W h0.symm h1.symm)

theorem wide_high (i : S512x1536.Idx) (r : Fin 512) (p : Fin 4096) (h0 : (i 0).val = r.val) (h1 : (i 1).val = p.val) (hp : 512 ≤ p.val) :
    proj X G W r p = wideBlock X G W i := by
  show _ = if (i 1).val < 512 then _ else _
  rw [if_neg (by omega)]
  exact proj_eq X G W h0.symm h1.symm

theorem wideBlock_eq : out0_3 (F := Ideal) X G W = wideBlock X G W := by
  unfold out0_3
  rw [load_rows, load_scale]
  funext y
  refine View.canon_apply_of_pieces (wideBlock X G W) _
    (List.forall_mem_cons.2 ⟨fun x => ?_, List.forall_mem_cons.2 ⟨fun x => ?_, List.forall_mem_cons.2 ⟨fun x => ?_, fun _ h => absurd h List.not_mem_nil⟩⟩⟩) y (cover0_3 _ _ _ y)
  · obtain ⟨r, c, rfl⟩ := split2 (n := 512) (m := 512) x
    have hc := c.isLt
    refine (chunk_apply X G W 1024 inb_S1024x4096_S1024x512_0_1024 r c ⟨1024 + c.val, by omega⟩ rfl).trans (wide_high X G W _ r _ ?_ ?_ (by show 512 ≤ 1024 + c.val; omega))
    · show 0 + 1 * r.val = r.val; omega
    · show 1024 + 1 * c.val = 1024 + c.val; omega
  · obtain ⟨r, c, rfl⟩ := split2 (n := 512) (m := 512) x
    have hc := c.isLt
    refine (chunk_apply X G W 512 inb_S1024x4096_S1024x512_0_512 r c ⟨512 + c.val, by omega⟩ rfl).trans (wide_high X G W _ r _ ?_ ?_ (by show 512 ≤ 512 + c.val; omega))
    · show 0 + 1 * r.val = r.val; omega
    · show 512 + 1 * c.val = 512 + c.val; omega
  · obtain ⟨r, c, rfl⟩ := split2 (n := 512) (m := 512) x
    have hc := c.isLt
    refine Eq.trans (congrArg (fun a : EReal => a * (FloatOps.ofBits .f32 0x3E000000#32 : Ideal .f32))
      (chunk_apply X G W 0 inb_S1024x4096_S1024x512_0_0 r c ⟨c.val, by omega⟩ (Nat.zero_add _).symm)) (wide_low X G W _ r c ?_ ?_)
    · show 0 + 1 * r.val = r.val; omega
    · show 0 + 1 * c.val = c.val; omega

theorem inner_apply (r c : Fin 512) : k0_pay34 (F := Ideal) X G W (ix2 r c) = proj X G W r ⟨1536 + c.val, by omega⟩ := by
  unfold k0_pay34
  rw [rows_eq]
  exact chunk_apply X G W 1536 inb_S1024x4096_S1024x512_0_1536 r c ⟨1536 + c.val, by omega⟩ rfl

theorem innerBlock_eq : out0_4 (F := Ideal) X G W = innerBlock X G W := by
  unfold out0_4
  funext y
  refine View.canon_apply_of_pieces (innerBlock X G W) _ (List.forall_mem_cons.2 ⟨fun x => ?_, fun _ h => absurd h List.not_mem_nil⟩) y (cover0_4 _ y)
  obtain ⟨r, c, rfl⟩ := split2 (n := 512) (m := 512) x
  refine (inner_apply X G W r c).trans (proj_eq X G W ?_ ?_)
  · show r.val = 0 + 1 * r.val; omega
  · show 1536 + c.val = 1536 + (0 + 1 * c.val); omega

theorem regrouped_apply (r c : Fin 512) : k0_pay38 (F := Ideal) X G W (ix2 r c) = proj X G W (source r) ⟨1536 + c.val, by omega⟩ :=
  (regroup_apply (k0_pay34 X G W) r c).trans (inner_apply X G W (source r) c)

theorem slice_apply (j off : ℕ) (hj : j < 16) (hoff : off = 32 * j) (h : S512x512.Slices ![off, 0] S32x512) (b : Fin 32) (c : Fin 512) (i : S32x8192.Idx)
    (h0 : (i 0).val = b.val) (h1 : (i 1).val = 512 * j + c.val) :
    extractStridedSlice S32x512 ![off, 0] (k0_pay38 (F := Ideal) X G W) h (ix2 b c) = groupedBlock X G W i := by
  have hb := b.isLt
  have hc := c.isLt
  refine (extractStridedSlice_apply ![off, 0] (k0_pay38 (F := Ideal) X G W) h (ix2 b c) (ix2 (⟨off + b.val, by omega⟩ : Fin 512) c)
    fun | 0 => rfl | 1 => (Nat.zero_add _).symm).trans ?_
  refine (regrouped_apply X G W _ c).trans (proj_eq X G W ?_ ?_)
  · show 16 * ((off + b.val) % 32) + (off + b.val) / 32 = 16 * (i 0).val + (i 1).val / 512
    omega
  · show 1536 + c.val = 1536 + (i 1).val % 512
    omega

theorem gate_piece (off : ℕ) (inb : ∀ a, (![0, 2048 + off] : Fin 2 → Nat) a + S1024x512.size a ≤ S1024x4096.size a) (hoff : off ≤ 1536) (r c : Fin 512) (i : S512x2048.Idx)
    (h0 : (i 0).val = r.val) (h1 : (i 1).val = off + c.val) :
    matmul dot_S512x1024_S1024x512_S512x512_1_0_0_1_n_n none (k0_pay3 (F := Ideal) X G) (columns W (2048 + off) inb) (constant S512x512 .f32 0x00000000#32) (ix2 r c) = gateBlock X G W i :=
  have hc := c.isLt
  (chunk_apply X G W (2048 + off) inb r c ⟨2048 + (off + c.val), by omega⟩ (by show 2048 + (off + c.val) = 2048 + off + c.val; omega)).trans
    (proj_eq X G W h0.symm (by show 2048 + (off + c.val) = 2048 + (i 1).val; omega))

theorem gateBlock_eq : out0_6 (F := Ideal) X G W = gateBlock X G W := by
  unfold out0_6
  rw [rows_eq]
  funext y
  refine View.canon_apply_of_pieces (gateBlock X G W) _
    (List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩) y (cover0_6 _ _ _ _ y)
  · obtain ⟨r, c, rfl⟩ := split2 (n := 512) (m := 512) x
    refine gate_piece X G W 1536 inb_S1024x4096_S1024x512_0_3584 (by decide) r c _ ?_ ?_
    · show 0 + 1 * r.val = r.val; omega
    · show 1536 + 1 * c.val = 1536 + c.val; omega
  · obtain ⟨r, c, rfl⟩ := split2 (n := 512) (m := 512) x
    refine gate_piece X G W 1024 inb_S1024x4096_S1024x512_0_3072 (by decide) r c _ ?_ ?_
    · show 0 + 1 * r.val = r.val; omega
    · show 1024 + 1 * c.val = 1024 + c.val; omega
  · obtain ⟨r, c, rfl⟩ := split2 (n := 512) (m := 512) x
    refine gate_piece X G W 512 inb_S1024x4096_S1024x512_0_2560 (by decide) r c _ ?_ ?_
    · show 0 + 1 * r.val = r.val; omega
    · show 512 + 1 * c.val = 512 + c.val; omega
  · obtain ⟨r, c, rfl⟩ := split2 (n := 512) (m := 512) x
    refine gate_piece X G W 0 inb_S1024x4096_S1024x512_0_2048 (by decide) r c _ ?_ ?_
    · show 0 + 1 * r.val = r.val; omega
    · show 0 + 1 * c.val = 0 + c.val; omega

theorem groupedBlock_eq : out0_5 (F := Ideal) X G W = groupedBlock X G W := by
  unfold out0_5
  funext y
  refine View.canon_apply_of_pieces (groupedBlock X G W) _
    (List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩⟩⟩⟩⟩⟩⟩⟩⟩⟩⟩⟩⟩) y
    (cover0_5 _ _ _ _ _ _ _ _ _ _ _ _ _ _ _ _ y)
  · obtain ⟨b, c, rfl⟩ := split2 (n := 32) (m := 512) x
    refine slice_apply X G W 15 480 (by decide) (by decide) slices_S512x512_o480_0_S32x512 b c _ ?_ ?_
    · show 0 + 1 * b.val = b.val; omega
    · show 7680 + 1 * c.val = 512 * 15 + c.val; omega
  · obtain ⟨b, c, rfl⟩ := split2 (n := 32) (m := 512) x
    refine slice_apply X G W 14 448 (by decide) (by decide) slices_S512x512_o448_0_S32x512 b c _ ?_ ?_
    · show 0 + 1 * b.val = b.val; omega
    · show 7168 + 1 * c.val = 512 * 14 + c.val; omega
  · obtain ⟨b, c, rfl⟩ := split2 (n := 32) (m := 512) x
    refine slice_apply X G W 13 416 (by decide) (by decide) slices_S512x512_o416_0_S32x512 b c _ ?_ ?_
    · show 0 + 1 * b.val = b.val; omega
    · show 6656 + 1 * c.val = 512 * 13 + c.val; omega
  · obtain ⟨b, c, rfl⟩ := split2 (n := 32) (m := 512) x
    refine slice_apply X G W 12 384 (by decide) (by decide) slices_S512x512_o384_0_S32x512 b c _ ?_ ?_
    · show 0 + 1 * b.val = b.val; omega
    · show 6144 + 1 * c.val = 512 * 12 + c.val; omega
  · obtain ⟨b, c, rfl⟩ := split2 (n := 32) (m := 512) x
    refine slice_apply X G W 11 352 (by decide) (by decide) slices_S512x512_o352_0_S32x512 b c _ ?_ ?_
    · show 0 + 1 * b.val = b.val; omega
    · show 5632 + 1 * c.val = 512 * 11 + c.val; omega
  · obtain ⟨b, c, rfl⟩ := split2 (n := 32) (m := 512) x
    refine slice_apply X G W 10 320 (by decide) (by decide) slices_S512x512_o320_0_S32x512 b c _ ?_ ?_
    · show 0 + 1 * b.val = b.val; omega
    · show 5120 + 1 * c.val = 512 * 10 + c.val; omega
  · obtain ⟨b, c, rfl⟩ := split2 (n := 32) (m := 512) x
    refine slice_apply X G W 9 288 (by decide) (by decide) slices_S512x512_o288_0_S32x512 b c _ ?_ ?_
    · show 0 + 1 * b.val = b.val; omega
    · show 4608 + 1 * c.val = 512 * 9 + c.val; omega
  · obtain ⟨b, c, rfl⟩ := split2 (n := 32) (m := 512) x
    refine slice_apply X G W 8 256 (by decide) (by decide) slices_S512x512_o256_0_S32x512 b c _ ?_ ?_
    · show 0 + 1 * b.val = b.val; omega
    · show 4096 + 1 * c.val = 512 * 8 + c.val; omega
  · obtain ⟨b, c, rfl⟩ := split2 (n := 32) (m := 512) x
    refine slice_apply X G W 7 224 (by decide) (by decide) slices_S512x512_o224_0_S32x512 b c _ ?_ ?_
    · show 0 + 1 * b.val = b.val; omega
    · show 3584 + 1 * c.val = 512 * 7 + c.val; omega
  · obtain ⟨b, c, rfl⟩ := split2 (n := 32) (m := 512) x
    refine slice_apply X G W 6 192 (by decide) (by decide) slices_S512x512_o192_0_S32x512 b c _ ?_ ?_
    · show 0 + 1 * b.val = b.val; omega
    · show 3072 + 1 * c.val = 512 * 6 + c.val; omega
  · obtain ⟨b, c, rfl⟩ := split2 (n := 32) (m := 512) x
    refine slice_apply X G W 5 160 (by decide) (by decide) slices_S512x512_o160_0_S32x512 b c _ ?_ ?_
    · show 0 + 1 * b.val = b.val; omega
    · show 2560 + 1 * c.val = 512 * 5 + c.val; omega
  · obtain ⟨b, c, rfl⟩ := split2 (n := 32) (m := 512) x
    refine slice_apply X G W 4 128 (by decide) (by decide) slices_S512x512_o128_0_S32x512 b c _ ?_ ?_
    · show 0 + 1 * b.val = b.val; omega
    · show 2048 + 1 * c.val = 512 * 4 + c.val; omega
  · obtain ⟨b, c, rfl⟩ := split2 (n := 32) (m := 512) x
    refine slice_apply X G W 3 96 (by decide) (by decide) slices_S512x512_o96_0_S32x512 b c _ ?_ ?_
    · show 0 + 1 * b.val = b.val; omega
    · show 1536 + 1 * c.val = 512 * 3 + c.val; omega
  · obtain ⟨b, c, rfl⟩ := split2 (n := 32) (m := 512) x
    refine slice_apply X G W 2 64 (by decide) (by decide) slices_S512x512_o64_0_S32x512 b c _ ?_ ?_
    · show 0 + 1 * b.val = b.val; omega
    · show 1024 + 1 * c.val = 512 * 2 + c.val; omega
  · obtain ⟨b, c, rfl⟩ := split2 (n := 32) (m := 512) x
    refine slice_apply X G W 1 32 (by decide) (by decide) slices_S512x512_o32_0_S32x512 b c _ ?_ ?_
    · show 0 + 1 * b.val = b.val; omega
    · show 512 + 1 * c.val = 512 * 1 + c.val; omega
  · obtain ⟨b, c, rfl⟩ := split2 (n := 32) (m := 512) x
    refine slice_apply X G W 0 0 (by decide) (by decide) slices_S512x512_o0_0_S32x512 b c _ ?_ ?_
    · show 0 + 1 * b.val = b.val; omega
    · show 0 + 1 * c.val = 512 * 0 + c.val; omega

end Cert.Proj.Ideal

end
-- ==== Proof.Proj.Final.lean ====
/-
  The input projection kernel's four arrays after the run are the reference's.
-/
module

public import proofs.«01_k».proof.Defs
public import proofs.«01_k».proof.Proof.Proj.Block
public import proofs.«01_k».proof.Proof.Gen.ProjectionIdeal.Value
public import proofs.«01_k».proof.Proof.Gen.ProjectionReferenceIdeal.Run

@[expose] public section

noncomputable section

namespace Cert.Proj.Ideal

open Idealize.ShloMosaic hiding ix1 ix2 ix3 ix4 eq_ix2 eq_ix4
open Idealize.ShloMosaic.ValueIdx
open Idealize.ShloMosaic.TcCoe
open Cert.ProjectionIdeal Cert.ProjectionIdeal.Gen
open Cert.ProjectionReferenceIdeal.Read (val_main_v20 val_main_v22 val_main_v23 val_main_v25)
open Cert.Ffn (read2)
open scoped BigOperators

theorem place0 : ∀ t : Fin grid0.N, cc0_transform_0 (grid0.coords t) = ![t.val, 0] := by decide +kernel
theorem place1 : ∀ t : Fin grid0.N, cc0_transform_1 (grid0.coords t) = ![0, 0] := by decide +kernel
theorem place2 : ∀ t : Fin grid0.N, cc0_transform_2 (grid0.coords t) = ![0, 0] := by decide +kernel
theorem place3 : ∀ t : Fin grid0.N, cc0_transform_3 (grid0.coords t) = ![t.val, 0] := by decide +kernel
theorem place4 : ∀ t : Fin grid0.N, cc0_transform_4 (grid0.coords t) = ![t.val, 0] := by decide +kernel
theorem place5 : ∀ t : Fin grid0.N, cc0_transform_5 (grid0.coords t) = ![t.val, 0] := by decide +kernel
theorem place6 : ∀ t : Fin grid0.N, cc0_transform_6 (grid0.coords t) = ![t.val, 0] := by decide +kernel

variable (m : (ℓ : Loc nD τ sig) → Buf (Elt Ideal) ℓ) (c : Dev nD)

/-! ## The inputs and their blocks -/

/-- The rows. -/
def rows : (⟨2, ![16384, 1024]⟩ : Shape).Idx → EReal := m ((c : Thread nD τ).loc main_arg0)
/-- The norm's weights. -/
def scale : (⟨2, ![1, 1024]⟩ : Shape).Idx → EReal := m ((c : Thread nD τ).loc main_arg1)
/-- The projection's weights. -/
def weights : (⟨2, ![1024, 4096]⟩ : Shape).Idx → EReal := m ((c : Thread nD τ).loc main_arg2)

theorem rows_apply (t : Fin grid0.N) (r : Fin 512) (k : Fin 1024) (x : Fin 16384) (hx : x.val = 512 * t.val + r.val) :
    iblk m c 0 t (ix2 r k) = rows m c (ix2 x k) := by
  refine congrArg (rows m c) (funext fun | 0 => Fin.ext ?_ | 1 => Fin.ext ?_)
  · show cc0_transform_0 (grid0.coords t) 0 * 512 + 1 * r.val = x.val
    rw [place0]
    show t.val * 512 + 1 * r.val = x.val
    omega
  · show cc0_transform_0 (grid0.coords t) 1 * 1024 + 1 * k.val = k.val
    rw [place0]
    show 0 * 1024 + 1 * k.val = k.val
    omega

theorem scale_apply (t : Fin grid0.N) (k : Fin 1024) : iblk m c 1 t (ix2 (0 : Fin 1) k) = scale m c (ix2 0 k) := by
  refine congrArg (scale m c) (funext fun | 0 => Fin.ext ?_ | 1 => Fin.ext ?_)
  · show cc0_transform_1 (grid0.coords t) 0 * 1 + 1 * 0 = 0
    rw [place1]
    rfl
  · show cc0_transform_1 (grid0.coords t) 1 * 1024 + 1 * k.val = k.val
    rw [place1]
    show 0 * 1024 + 1 * k.val = k.val
    omega

theorem weights_apply (t : Fin grid0.N) (k : Fin 1024) (p : Fin 4096) : iblk m c 2 t (ix2 k p) = weights m c (ix2 k p) := by
  refine congrArg (weights m c) (funext fun | 0 => Fin.ext ?_ | 1 => Fin.ext ?_)
  · show cc0_transform_2 (grid0.coords t) 0 * 1024 + 1 * k.val = k.val
    rw [place2]
    show 0 * 1024 + 1 * k.val = k.val
    omega
  · show cc0_transform_2 (grid0.coords t) 1 * 4096 + 1 * p.val = p.val
    rw [place2]
    show 0 * 4096 + 1 * p.val = p.val
    omega

/-- A point's block of rows. -/
def rowBlock (t : Fin grid0.N) : (⟨2, ![512, 1024]⟩ : Shape).Idx → EReal := iblk m c 0 t

/-- A block's product is the array's at the block's rows. -/
theorem proj_apply (t : Fin grid0.N) (r : Fin 512) (p q : Fin 4096) (x : Fin 16384) (hx : x.val = 512 * t.val + r.val) (hq : p.val = q.val) :
    proj (iblk m c 0 t) (iblk m c 1 t) (iblk m c 2 t) r p = proj (rows m c) (scale m c) (weights m c) x q := by
  obtain rfl : p = q := Fin.ext hq
  have hr : ∀ k : Fin 1024, rowBlock m c t (ix2 r k) = rows m c (ix2 x k) := fun k => rows_apply m c t r k x hx
  have hs : (∑ j : Fin 1024, rowBlock m c t (ix2 r j) * rowBlock m c t (ix2 r j)) = ∑ j : Fin 1024, rows m c (ix2 x j) * rows m c (ix2 x j) :=
    Finset.sum_congr rfl fun j _ => congrArg₂ (fun a b : EReal => a * b) (hr j) (hr j)
  refine Finset.sum_congr rfl fun k _ => congrArg₂ (fun a b : EReal => a * b) ?_ (weights_apply m c t k p)
  exact congrArg₂ (fun a b : EReal => a * b) (congrArg₂ (fun a b : EReal => a * b) (hr k) (congrArg factor hs)) (scale_apply m c t k)

/-! ## The arrays -/

theorem wide_block (t : Fin grid0.N) (r : Fin 512) (d : Fin 1536) (x : Fin 16384) (hx : x.val = 512 * t.val + r.val) :
    out0_3 (F := Ideal) (iblk m c 0 t) (iblk m c 1 t) (iblk m c 2 t) (ix2 r d) = val_main_v20 (F := Ideal) (rows m c) (scale m c) (weights m c) (ix2 x d) := by
  have hr := r.isLt
  have hd := d.isLt
  refine (congrArg (fun f => f (ix2 r d)) (wideBlock_eq _ _ _)).trans (Eq.trans ?_ (Reference.wide_apply (rows m c) (scale m c) (weights m c) x d).symm)
  show wide (iblk m c 0 t) (iblk m c 1 t) (iblk m c 2 t) r d = _
  unfold wide
  by_cases h : d.val < 512
  · rw [if_pos h, if_pos h, proj_apply m c t r _ ⟨d.val, by omega⟩ x hx rfl]
  · rw [if_neg h, if_neg h, proj_apply m c t r _ ⟨d.val, by omega⟩ x hx rfl]

theorem wide_eq : (dats m 0 c).arrAt 3 cfg0.N = val_main_v20 (F := Ideal) (rows m c) (scale m c) (weights m c) := by
  refine (dats m 0 c).arrAt_eq_of_emb (3 : Fin 7) _ (fun t _ y => ?_) fun i => ?_
  · have hN : t.val < 32 := lt_of_lt_of_eq t.isLt N_0
    have hy0 : (y 0).val < 512 := (y 0).isLt
    have hy1 : (y 1).val < 1536 := (y 1).isLt
    have key := wide_block m c t ⟨(y 0).val, hy0⟩ ⟨(y 1).val, hy1⟩ ⟨512 * t.val + (y 0).val, by omega⟩ rfl
    refine (congrArg (fun f => f y) (Cert.ProjectionIdeal.Value.flushed3 m c t)).trans (Eq.trans ?_ (key.trans ?_))
    · exact read2 (out0_3 (F := Ideal) (iblk m c 0 t) (iblk m c 1 t) (iblk m c 2 t)) _ _ _ rfl rfl
    · refine (read2 (val_main_v20 (F := Ideal) (rows m c) (scale m c) (weights m c)) (((cfg0.win 3).blk t).view.emb y) _ _ ?_ ?_).symm
      · show cc0_transform_3 (grid0.coords t) 0 * 512 + 1 * (y 0).val = 512 * t.val + (y 0).val
        rw [place3]
        show t.val * 512 + 1 * (y 0).val = _
        omega
      · show cc0_transform_3 (grid0.coords t) 1 * 1536 + 1 * (y 1).val = (y 1).val
        rw [place3]
        show 0 * 1536 + 1 * (y 1).val = _
        omega
  · have hi0 : (i 0).val < 16384 := (i 0).isLt
    have hi1 : (i 1).val < 1536 := (i 1).isLt
    have hN : grid0.N = 32 := N_0
    obtain ⟨t, ht⟩ : ∃ t : Fin grid0.N, t.val = (i 0).val / 512 := ⟨⟨(i 0).val / 512, by omega⟩, rfl⟩
    refine ⟨t, flush0_3 t, ?_⟩
    refine ((cfg0.win 3).emb_mem_blk_iff t i rfl).2 fun a => ?_
    match a with
    | 0 =>
      show cc0_transform_3 (grid0.coords t) 0 * 512 ≤ (i 0).val ∧ (i 0).val < cc0_transform_3 (grid0.coords t) 0 * 512 + 512
      rw [place3]
      show t.val * 512 ≤ _ ∧ _ < t.val * 512 + 512
      omega
    | 1 =>
      show cc0_transform_3 (grid0.coords t) 1 * 1536 ≤ (i 1).val ∧ (i 1).val < cc0_transform_3 (grid0.coords t) 1 * 1536 + 1536
      rw [place3]
      show 0 * 1536 ≤ _ ∧ _ < 0 * 1536 + 1536
      omega

theorem inner_block (t : Fin grid0.N) (r : Fin 512) (d : Fin 512) (x : Fin 16384) (hx : x.val = 512 * t.val + r.val) :
    out0_4 (F := Ideal) (iblk m c 0 t) (iblk m c 1 t) (iblk m c 2 t) (ix2 r d) = val_main_v22 (F := Ideal) (rows m c) (scale m c) (weights m c) (ix2 x d) := by
  have hr := r.isLt
  have hd := d.isLt
  refine (congrArg (fun f => f (ix2 r d)) (innerBlock_eq _ _ _)).trans (Eq.trans ?_ (Reference.u_apply (rows m c) (scale m c) (weights m c) x d).symm)
  exact proj_apply m c t r ⟨1536 + d.val, by omega⟩ _ x hx rfl

theorem inner_eq : (dats m 0 c).arrAt 4 cfg0.N = val_main_v22 (F := Ideal) (rows m c) (scale m c) (weights m c) := by
  refine (dats m 0 c).arrAt_eq_of_emb (4 : Fin 7) _ (fun t _ y => ?_) fun i => ?_
  · have hN : t.val < 32 := lt_of_lt_of_eq t.isLt N_0
    have hy0 : (y 0).val < 512 := (y 0).isLt
    have hy1 : (y 1).val < 512 := (y 1).isLt
    have key := inner_block m c t ⟨(y 0).val, hy0⟩ ⟨(y 1).val, hy1⟩ ⟨512 * t.val + (y 0).val, by omega⟩ rfl
    refine (congrArg (fun f => f y) (Cert.ProjectionIdeal.Value.flushed4 m c t)).trans (Eq.trans ?_ (key.trans ?_))
    · exact read2 (out0_4 (F := Ideal) (iblk m c 0 t) (iblk m c 1 t) (iblk m c 2 t)) _ _ _ rfl rfl
    · refine (read2 (val_main_v22 (F := Ideal) (rows m c) (scale m c) (weights m c)) (((cfg0.win 4).blk t).view.emb y) _ _ ?_ ?_).symm
      · show cc0_transform_4 (grid0.coords t) 0 * 512 + 1 * (y 0).val = 512 * t.val + (y 0).val
        rw [place4]
        show t.val * 512 + 1 * (y 0).val = _
        omega
      · show cc0_transform_4 (grid0.coords t) 1 * 512 + 1 * (y 1).val = (y 1).val
        rw [place4]
        show 0 * 512 + 1 * (y 1).val = _
        omega
  · have hi0 : (i 0).val < 16384 := (i 0).isLt
    have hi1 : (i 1).val < 512 := (i 1).isLt
    have hN : grid0.N = 32 := N_0
    obtain ⟨t, ht⟩ : ∃ t : Fin grid0.N, t.val = (i 0).val / 512 := ⟨⟨(i 0).val / 512, by omega⟩, rfl⟩
    refine ⟨t, flush0_4 t, ?_⟩
    refine ((cfg0.win 4).emb_mem_blk_iff t i rfl).2 fun a => ?_
    match a with
    | 0 =>
      show cc0_transform_4 (grid0.coords t) 0 * 512 ≤ (i 0).val ∧ (i 0).val < cc0_transform_4 (grid0.coords t) 0 * 512 + 512
      rw [place4]
      show t.val * 512 ≤ _ ∧ _ < t.val * 512 + 512
      omega
    | 1 =>
      show cc0_transform_4 (grid0.coords t) 1 * 512 ≤ (i 1).val ∧ (i 1).val < cc0_transform_4 (grid0.coords t) 1 * 512 + 512
      rw [place4]
      show 0 * 512 ≤ _ ∧ _ < 0 * 512 + 512
      omega

theorem grouped_block (t : Fin grid0.N) (r : Fin 32) (d : Fin 8192) (x : Fin 1024) (hx : x.val = 32 * t.val + r.val) :
    out0_5 (F := Ideal) (iblk m c 0 t) (iblk m c 1 t) (iblk m c 2 t) (ix2 r d) = val_main_v23 (F := Ideal) (rows m c) (scale m c) (weights m c) (ix2 x d) := by
  have hr := r.isLt
  have hd := d.isLt
  refine (congrArg (fun f => f (ix2 r d)) (groupedBlock_eq _ _ _)).trans (Eq.trans ?_ (Reference.grouped_apply (rows m c) (scale m c) (weights m c) x d).symm)
  exact proj_apply m c t ⟨16 * r.val + d.val / 512, by omega⟩ ⟨1536 + d.val % 512, by omega⟩ _ _ (by show 16 * x.val + d.val / 512 = 512 * t.val + (16 * r.val + d.val / 512); omega) rfl

theorem grouped_eq : (dats m 0 c).arrAt 5 cfg0.N = val_main_v23 (F := Ideal) (rows m c) (scale m c) (weights m c) := by
  refine (dats m 0 c).arrAt_eq_of_emb (5 : Fin 7) _ (fun t _ y => ?_) fun i => ?_
  · have hN : t.val < 32 := lt_of_lt_of_eq t.isLt N_0
    have hy0 : (y 0).val < 32 := (y 0).isLt
    have hy1 : (y 1).val < 8192 := (y 1).isLt
    have key := grouped_block m c t ⟨(y 0).val, hy0⟩ ⟨(y 1).val, hy1⟩ ⟨32 * t.val + (y 0).val, by omega⟩ rfl
    refine (congrArg (fun f => f y) (Cert.ProjectionIdeal.Value.flushed5 m c t)).trans (Eq.trans ?_ (key.trans ?_))
    · exact read2 (out0_5 (F := Ideal) (iblk m c 0 t) (iblk m c 1 t) (iblk m c 2 t)) _ _ _ rfl rfl
    · refine (read2 (val_main_v23 (F := Ideal) (rows m c) (scale m c) (weights m c)) (((cfg0.win 5).blk t).view.emb y) _ _ ?_ ?_).symm
      · show cc0_transform_5 (grid0.coords t) 0 * 32 + 1 * (y 0).val = 32 * t.val + (y 0).val
        rw [place5]
        show t.val * 32 + 1 * (y 0).val = _
        omega
      · show cc0_transform_5 (grid0.coords t) 1 * 8192 + 1 * (y 1).val = (y 1).val
        rw [place5]
        show 0 * 8192 + 1 * (y 1).val = _
        omega
  · have hi0 : (i 0).val < 1024 := (i 0).isLt
    have hi1 : (i 1).val < 8192 := (i 1).isLt
    have hN : grid0.N = 32 := N_0
    obtain ⟨t, ht⟩ : ∃ t : Fin grid0.N, t.val = (i 0).val / 32 := ⟨⟨(i 0).val / 32, by omega⟩, rfl⟩
    refine ⟨t, flush0_5 t, ?_⟩
    refine ((cfg0.win 5).emb_mem_blk_iff t i rfl).2 fun a => ?_
    match a with
    | 0 =>
      show cc0_transform_5 (grid0.coords t) 0 * 32 ≤ (i 0).val ∧ (i 0).val < cc0_transform_5 (grid0.coords t) 0 * 32 + 32
      rw [place5]
      show t.val * 32 ≤ _ ∧ _ < t.val * 32 + 32
      omega
    | 1 =>
      show cc0_transform_5 (grid0.coords t) 1 * 8192 ≤ (i 1).val ∧ (i 1).val < cc0_transform_5 (grid0.coords t) 1 * 8192 + 8192
      rw [place5]
      show 0 * 8192 ≤ _ ∧ _ < 0 * 8192 + 8192
      omega

theorem gate_block (t : Fin grid0.N) (r : Fin 512) (d : Fin 2048) (x : Fin 16384) (hx : x.val = 512 * t.val + r.val) :
    out0_6 (F := Ideal) (iblk m c 0 t) (iblk m c 1 t) (iblk m c 2 t) (ix2 r d) = val_main_v25 (F := Ideal) (rows m c) (scale m c) (weights m c) (ix2 x d) := by
  have hr := r.isLt
  have hd := d.isLt
  refine (congrArg (fun f => f (ix2 r d)) (gateBlock_eq _ _ _)).trans (Eq.trans ?_ (Reference.gates_apply (rows m c) (scale m c) (weights m c) x d).symm)
  exact proj_apply m c t r ⟨2048 + d.val, by omega⟩ _ x hx rfl

theorem gate_eq : (dats m 0 c).arrAt 6 cfg0.N = val_main_v25 (F := Ideal) (rows m c) (scale m c) (weights m c) := by
  refine (dats m 0 c).arrAt_eq_of_emb (6 : Fin 7) _ (fun t _ y => ?_) fun i => ?_
  · have hN : t.val < 32 := lt_of_lt_of_eq t.isLt N_0
    have hy0 : (y 0).val < 512 := (y 0).isLt
    have hy1 : (y 1).val < 2048 := (y 1).isLt
    have key := gate_block m c t ⟨(y 0).val, hy0⟩ ⟨(y 1).val, hy1⟩ ⟨512 * t.val + (y 0).val, by omega⟩ rfl
    refine (congrArg (fun f => f y) (Cert.ProjectionIdeal.Value.flushed6 m c t)).trans (Eq.trans ?_ (key.trans ?_))
    · exact read2 (out0_6 (F := Ideal) (iblk m c 0 t) (iblk m c 1 t) (iblk m c 2 t)) _ _ _ rfl rfl
    · refine (read2 (val_main_v25 (F := Ideal) (rows m c) (scale m c) (weights m c)) (((cfg0.win 6).blk t).view.emb y) _ _ ?_ ?_).symm
      · show cc0_transform_6 (grid0.coords t) 0 * 512 + 1 * (y 0).val = 512 * t.val + (y 0).val
        rw [place6]
        show t.val * 512 + 1 * (y 0).val = _
        omega
      · show cc0_transform_6 (grid0.coords t) 1 * 2048 + 1 * (y 1).val = (y 1).val
        rw [place6]
        show 0 * 2048 + 1 * (y 1).val = _
        omega
  · have hi0 : (i 0).val < 16384 := (i 0).isLt
    have hi1 : (i 1).val < 2048 := (i 1).isLt
    have hN : grid0.N = 32 := N_0
    obtain ⟨t, ht⟩ : ∃ t : Fin grid0.N, t.val = (i 0).val / 512 := ⟨⟨(i 0).val / 512, by omega⟩, rfl⟩
    refine ⟨t, flush0_6 t, ?_⟩
    refine ((cfg0.win 6).emb_mem_blk_iff t i rfl).2 fun a => ?_
    match a with
    | 0 =>
      show cc0_transform_6 (grid0.coords t) 0 * 512 ≤ (i 0).val ∧ (i 0).val < cc0_transform_6 (grid0.coords t) 0 * 512 + 512
      rw [place6]
      show t.val * 512 ≤ _ ∧ _ < t.val * 512 + 512
      omega
    | 1 =>
      show cc0_transform_6 (grid0.coords t) 1 * 2048 ≤ (i 1).val ∧ (i 1).val < cc0_transform_6 (grid0.coords t) 1 * 2048 + 2048
      rw [place6]
      show 0 * 2048 ≤ _ ∧ _ < 0 * 2048 + 2048
      omega

end Cert.Proj.Ideal

namespace Cert.Proj

open Idealize.ShloMosaic
open Idealize.ShloMosaic.TcCoe
open Idealize.SL Idealize.SL.Sem

theorem algebraic : Cert.algebraic_ProjectionIdeal_ProjectionReferenceIdeal (hProjectionIdeal := Cert.ProjectionIdeal.Gen.facts)
    (hProjectionReferenceIdeal := Cert.ProjectionReferenceIdeal.Gen.facts) := by
  intro m ρ m' ρ' _ hagree
  refine ⟨fun c => (Cert.ProjectionIdeal.Gen.dats m 0 c).arrAt 3 Cert.ProjectionIdeal.cfg0.N, fun c => (Cert.ProjectionIdeal.Gen.dats m 0 c).arrAt 4 Cert.ProjectionIdeal.cfg0.N,
    fun c => (Cert.ProjectionIdeal.Gen.dats m 0 c).arrAt 5 Cert.ProjectionIdeal.cfg0.N, fun c => (Cert.ProjectionIdeal.Gen.dats m 0 c).arrAt 6 Cert.ProjectionIdeal.cfg0.N,
    Cert.ProjectionIdeal.Value.run_blocks m ρ, ?_⟩
  refine (θ_run _ _ _).mono (fun _ h c => ⟨(h c).1.trans ?_, (h c).2.1.trans ?_, (h c).2.2.1.trans ?_, (h c).2.2.2.1.trans ?_, (h c).2.2.2.2⟩)
    (Cert.ProjectionReferenceIdeal.Value.run (F := Idealize.ShloMosaic.Ideal) m' ρ')
  all_goals
    obtain rfl : c = 0 := Subsingleton.elim _ _
    obtain ⟨h0, h1, h2⟩ := hagree 0
  · rw [Cert.ProjectionReferenceIdeal.Read.val_main_v20_eq, h0, h1, h2]
    exact (Ideal.wide_eq m 0).symm
  · rw [Cert.ProjectionReferenceIdeal.Read.val_main_v22_eq, h0, h1, h2]
    exact (Ideal.inner_eq m 0).symm
  · rw [Cert.ProjectionReferenceIdeal.Read.val_main_v23_eq, h0, h1, h2]
    exact (Ideal.grouped_eq m 0).symm
  · rw [Cert.ProjectionReferenceIdeal.Read.val_main_v25_eq, h0, h1, h2]
    exact (Ideal.gate_eq m 0).symm

end Cert.Proj

end
-- ==== Proof.lean ====
module

public import proofs.«01_k».proof.Defs
public import proofs.«01_k».proof.Proof.Frames
public import proofs.«01_k».proof.Proof.Algebraic
public import proofs.«01_k».proof.Proof.Gen.ReferenceIdeal.Run
public import proofs.«01_k».proof.Proof.Gen.ReferenceIdeal.Read
public import proofs.«01_k».proof.Proof.Ffn.Frames
public import proofs.«01_k».proof.Proof.Ffn.Algebraic
public import proofs.«01_k».proof.Proof.Proj.Frames
public import proofs.«01_k».proof.Proof.Proj.Final
public import proofs.«01_k».proof.Proof.Gen.Experts
public import proofs.«01_k».proof.Proof.Gen.Experts.Launch
public import proofs.«01_k».proof.Proof.Gen.ExpertsIdeal
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Pre_grouped
public import proofs.«01_k».proof.Proof.Gen.Projection
public import proofs.«01_k».proof.Proof.Gen.Projection.Frame
public import proofs.«01_k».proof.Proof.Gen.ProjectionIdeal
public import proofs.«01_k».proof.Proof.Gen.ProjectionIdeal.Frame
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.Gen.ProjectionReferenceIdeal.Read

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Projection.Gen.facts, Cert.ProjectionIdeal.Gen.facts, Cert.ProjectionReferenceIdeal.Gen.facts, Cert.Pre_grouped.Gen.facts,
  Cert.Attn.frame_kernel, Cert.Attn.frame_ideal, Cert.Attn.frame_reference,
  Cert.Ffn.frame_kernel, Cert.Ffn.frame_ideal, Cert.Ffn.frame_reference,
  Cert.Proj.frame_kernel, Cert.Proj.frame_ideal, Cert.Proj.frame_reference,
  Cert.Attn.preserves, Cert.Attn.algebraic, Cert.Ffn.preserves, Cert.Ffn.algebraic, Cert.Proj.preserves, Cert.Proj.algebraic⟩

end Cert.Proof

end
